-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpIdeal_finite_up [hPre_finite_up : Cert.Pre_finite_up.Facts] (m : (ℓ : Loc Cert.UpIdeal.nD Cert.UpIdeal.τ Cert.UpIdeal.sig) → Buf (Elt Ideal) ℓ) : Prop :=
  ∀ c : Dev Cert.UpIdeal.nD,
    (Cert.Pre_finite_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2))) = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_finite_up [hPre_finite_up : Cert.Pre_finite_up.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_finite_up.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2))) = (fun _ => 1#1)

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActIdeal_finite_act [hPre_finite_act : Cert.Pre_finite_act.Facts] (m : (ℓ : Loc Cert.ActIdeal.nD Cert.ActIdeal.τ Cert.ActIdeal.sig) → Buf (Elt Ideal) ℓ) : Prop :=
  ∀ c : Dev Cert.ActIdeal.nD,
    (Cert.Pre_finite_act.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3))) = (fun _ => 1#1)

def Pre_ActRefIdeal (m : (ℓ : Loc Cert.ActRefIdeal.nD Cert.ActRefIdeal.τ Cert.ActRefIdeal.sig) → Buf (Elt Ideal) ℓ) : Prop :=
  True

def Pre_ActRefIdeal_finite_act [hPre_finite_act : Cert.Pre_finite_act.Facts] (m : (ℓ : Loc Cert.ActRefIdeal.nD Cert.ActRefIdeal.τ Cert.ActRefIdeal.sig) → Buf (Elt Ideal) ℓ) : Prop :=
  ∀ c : Dev Cert.ActRefIdeal.nD,
    (Cert.Pre_finite_act.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3))) = (fun _ => 1#1)

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_AdamVec (m : (ℓ : Loc Cert.AdamVec.nD Cert.AdamVec.τ Cert.AdamVec.sig) → Buf (Elt Bits) ℓ) : Prop :=
  True

def Pre_AdamVecIdeal (m : (ℓ : Loc Cert.AdamVecIdeal.nD Cert.AdamVecIdeal.τ Cert.AdamVecIdeal.sig) → Buf (Elt Ideal) ℓ) : Prop :=
  True

def Pre_AdamVecRefIdeal (m : (ℓ : Loc Cert.AdamVecRefIdeal.nD Cert.AdamVecRefIdeal.τ Cert.AdamVecRefIdeal.sig) → Buf (Elt Ideal) ℓ) : Prop :=
  True

def Pre_AdamLat (m : (ℓ : Loc Cert.AdamLat.nD Cert.AdamLat.τ Cert.AdamLat.sig) → Buf (Elt Bits) ℓ) : Prop :=
  True

def Pre_AdamLatIdeal (m : (ℓ : Loc Cert.AdamLatIdeal.nD Cert.AdamLatIdeal.τ Cert.AdamLatIdeal.sig) → Buf (Elt Ideal) ℓ) : Prop :=
  True

def Pre_AdamLatRefIdeal (m : (ℓ : Loc Cert.AdamLatRefIdeal.nD Cert.AdamLatRefIdeal.τ Cert.AdamLatRefIdeal.sig) → Buf (Elt Ideal) ℓ) : Prop :=
  True

def Pre_AdamPool (m : (ℓ : Loc Cert.AdamPool.nD Cert.AdamPool.τ Cert.AdamPool.sig) → Buf (Elt Bits) ℓ) : Prop :=
  True

def Pre_AdamPoolIdeal (m : (ℓ : Loc Cert.AdamPoolIdeal.nD Cert.AdamPoolIdeal.τ Cert.AdamPoolIdeal.sig) → Buf (Elt Ideal) ℓ) : Prop :=
  True

def Pre_AdamPoolRefIdeal (m : (ℓ : Loc Cert.AdamPoolRefIdeal.nD Cert.AdamPoolRefIdeal.τ Cert.AdamPoolRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpIdeal_pre_finite_up [hUpIdeal : Cert.UpIdeal.Facts] [hPre_finite_up : Cert.Pre_finite_up.Facts] : Prop :=
  ∀ (m : (ℓ : Loc Cert.UpIdeal.nD Cert.UpIdeal.τ Cert.UpIdeal.sig) → Buf (Elt Ideal) ℓ) (g : Dev Cert.UpIdeal.nD → PrngReg), Pre_UpIdeal_finite_up m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_UpRefIdeal_pre_finite_up [hUpRefIdeal : Cert.UpRefIdeal.Facts] [hPre_finite_up : Cert.Pre_finite_up.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_finite_up m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2)
      ∧ r.2.mem ((c.tc : Thread Cert.Act.nD Cert.Act.τ).loc Cert.Act.main_arg3) = m ((c.tc : Thread Cert.Act.nD Cert.Act.τ).loc Cert.Act.main_arg3))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ r.2.sem = fun _ => 0)

def quiescent_ActIdeal_pre_finite_act [hActIdeal : Cert.ActIdeal.Facts] [hPre_finite_act : Cert.Pre_finite_act.Facts] : Prop :=
  ∀ (m : (ℓ : Loc Cert.ActIdeal.nD Cert.ActIdeal.τ Cert.ActIdeal.sig) → Buf (Elt Ideal) ℓ) (g : Dev Cert.ActIdeal.nD → PrngReg), Pre_ActIdeal_finite_act m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3))
      ∧ r.2.sem = fun _ => 0)

def quiescent_ActRefIdeal_pre_finite_act [hActRefIdeal : Cert.ActRefIdeal.Facts] [hPre_finite_act : Cert.Pre_finite_act.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal_finite_act m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2)
      ∧ r.2.mem ((c.tc : Thread Cert.Dh.nD Cert.Dh.τ).loc Cert.Dh.main_arg3) = m ((c.tc : Thread Cert.Dh.nD Cert.Dh.τ).loc Cert.Dh.main_arg3))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_AdamVec [hAdamVec : Cert.AdamVec.Facts] : Prop :=
  ∀ (m : (ℓ : Loc Cert.AdamVec.nD Cert.AdamVec.τ Cert.AdamVec.sig) → Buf (Elt Bits) ℓ) (g : Dev Cert.AdamVec.nD → PrngReg), Pre_AdamVec m →
    θ_run (Cert.AdamVec.defs (F := Bits)) (onTc (τ := Cert.AdamVec.τ) (Cert.AdamVec.main (F := Bits))) ⟨m, fun _ => 0, g⟩ (fun r => (∀ c : Dev Cert.AdamVec.nD,
      r.2.mem ((c.tc : Thread Cert.AdamVec.nD Cert.AdamVec.τ).loc Cert.AdamVec.main_arg0) = m ((c.tc : Thread Cert.AdamVec.nD Cert.AdamVec.τ).loc Cert.AdamVec.main_arg0)
      ∧ r.2.mem ((c.tc : Thread Cert.AdamVec.nD Cert.AdamVec.τ).loc Cert.AdamVec.main_arg1) = m ((c.tc : Thread Cert.AdamVec.nD Cert.AdamVec.τ).loc Cert.AdamVec.main_arg1)
      ∧ r.2.mem ((c.tc : Thread Cert.AdamVec.nD Cert.AdamVec.τ).loc Cert.AdamVec.main_arg2) = m ((c.tc : Thread Cert.AdamVec.nD Cert.AdamVec.τ).loc Cert.AdamVec.main_arg2)
      ∧ r.2.mem ((c.tc : Thread Cert.AdamVec.nD Cert.AdamVec.τ).loc Cert.AdamVec.main_arg3) = m ((c.tc : Thread Cert.AdamVec.nD Cert.AdamVec.τ).loc Cert.AdamVec.main_arg3))
      ∧ r.2.sem = fun _ => 0)

def quiescent_AdamVecIdeal [hAdamVecIdeal : Cert.AdamVecIdeal.Facts] : Prop :=
  ∀ (m : (ℓ : Loc Cert.AdamVecIdeal.nD Cert.AdamVecIdeal.τ Cert.AdamVecIdeal.sig) → Buf (Elt Ideal) ℓ) (g : Dev Cert.AdamVecIdeal.nD → PrngReg), Pre_AdamVecIdeal m →
    θ_run (Cert.AdamVecIdeal.defs (F := Ideal)) (onTc (τ := Cert.AdamVecIdeal.τ) (Cert.AdamVecIdeal.main (F := Ideal))) ⟨m, fun _ => 0, g⟩ (fun r => (∀ c : Dev Cert.AdamVecIdeal.nD,
      r.2.mem ((c.tc : Thread Cert.AdamVecIdeal.nD Cert.AdamVecIdeal.τ).loc Cert.AdamVecIdeal.main_arg0) = m ((c.tc : Thread Cert.AdamVecIdeal.nD Cert.AdamVecIdeal.τ).loc Cert.AdamVecIdeal.main_arg0)
      ∧ r.2.mem ((c.tc : Thread Cert.AdamVecIdeal.nD Cert.AdamVecIdeal.τ).loc Cert.AdamVecIdeal.main_arg1) = m ((c.tc : Thread Cert.AdamVecIdeal.nD Cert.AdamVecIdeal.τ).loc Cert.AdamVecIdeal.main_arg1)
      ∧ r.2.mem ((c.tc : Thread Cert.AdamVecIdeal.nD Cert.AdamVecIdeal.τ).loc Cert.AdamVecIdeal.main_arg2) = m ((c.tc : Thread Cert.AdamVecIdeal.nD Cert.AdamVecIdeal.τ).loc Cert.AdamVecIdeal.main_arg2)
      ∧ r.2.mem ((c.tc : Thread Cert.AdamVecIdeal.nD Cert.AdamVecIdeal.τ).loc Cert.AdamVecIdeal.main_arg3) = m ((c.tc : Thread Cert.AdamVecIdeal.nD Cert.AdamVecIdeal.τ).loc Cert.AdamVecIdeal.main_arg3))
      ∧ r.2.sem = fun _ => 0)

def quiescent_AdamVecRefIdeal [hAdamVecRefIdeal : Cert.AdamVecRefIdeal.Facts] : Prop :=
  ∀ (m : (ℓ : Loc Cert.AdamVecRefIdeal.nD Cert.AdamVecRefIdeal.τ Cert.AdamVecRefIdeal.sig) → Buf (Elt Ideal) ℓ) (g : Dev Cert.AdamVecRefIdeal.nD → PrngReg), Pre_AdamVecRefIdeal m →
    θ_run (Cert.AdamVecRefIdeal.defs (F := Ideal)) (onTc (τ := Cert.AdamVecRefIdeal.τ) (Cert.AdamVecRefIdeal.main (F := Ideal))) ⟨m, fun _ => 0, g⟩ (fun r => (∀ c : Dev Cert.AdamVecRefIdeal.nD,
      r.2.mem ((c.tc : Thread Cert.AdamVecRefIdeal.nD Cert.AdamVecRefIdeal.τ).loc Cert.AdamVecRefIdeal.main_arg0) = m ((c.tc : Thread Cert.AdamVecRefIdeal.nD Cert.AdamVecRefIdeal.τ).loc Cert.AdamVecRefIdeal.main_arg0)
      ∧ r.2.mem ((c.tc : Thread Cert.AdamVecRefIdeal.nD Cert.AdamVecRefIdeal.τ).loc Cert.AdamVecRefIdeal.main_arg1) = m ((c.tc : Thread Cert.AdamVecRefIdeal.nD Cert.AdamVecRefIdeal.τ).loc Cert.AdamVecRefIdeal.main_arg1)
      ∧ r.2.mem ((c.tc : Thread Cert.AdamVecRefIdeal.nD Cert.AdamVecRefIdeal.τ).loc Cert.AdamVecRefIdeal.main_arg2) = m ((c.tc : Thread Cert.AdamVecRefIdeal.nD Cert.AdamVecRefIdeal.τ).loc Cert.AdamVecRefIdeal.main_arg2)
      ∧ r.2.mem ((c.tc : Thread Cert.AdamVecRefIdeal.nD Cert.AdamVecRefIdeal.τ).loc Cert.AdamVecRefIdeal.main_arg3) = m ((c.tc : Thread Cert.AdamVecRefIdeal.nD Cert.AdamVecRefIdeal.τ).loc Cert.AdamVecRefIdeal.main_arg3))
      ∧ r.2.sem = fun _ => 0)

def quiescent_AdamLat [hAdamLat : Cert.AdamLat.Facts] : Prop :=
  ∀ (m : (ℓ : Loc Cert.AdamLat.nD Cert.AdamLat.τ Cert.AdamLat.sig) → Buf (Elt Bits) ℓ) (g : Dev Cert.AdamLat.nD → PrngReg), Pre_AdamLat m →
    θ_run (Cert.AdamLat.defs (F := Bits)) (onTc (τ := Cert.AdamLat.τ) (Cert.AdamLat.main (F := Bits))) ⟨m, fun _ => 0, g⟩ (fun r => (∀ c : Dev Cert.AdamLat.nD,
      r.2.mem ((c.tc : Thread Cert.AdamLat.nD Cert.AdamLat.τ).loc Cert.AdamLat.main_arg0) = m ((c.tc : Thread Cert.AdamLat.nD Cert.AdamLat.τ).loc Cert.AdamLat.main_arg0)
      ∧ r.2.mem ((c.tc : Thread Cert.AdamLat.nD Cert.AdamLat.τ).loc Cert.AdamLat.main_arg1) = m ((c.tc : Thread Cert.AdamLat.nD Cert.AdamLat.τ).loc Cert.AdamLat.main_arg1)
      ∧ r.2.mem ((c.tc : Thread Cert.AdamLat.nD Cert.AdamLat.τ).loc Cert.AdamLat.main_arg2) = m ((c.tc : Thread Cert.AdamLat.nD Cert.AdamLat.τ).loc Cert.AdamLat.main_arg2)
      ∧ r.2.mem ((c.tc : Thread Cert.AdamLat.nD Cert.AdamLat.τ).loc Cert.AdamLat.main_arg3) = m ((c.tc : Thread Cert.AdamLat.nD Cert.AdamLat.τ).loc Cert.AdamLat.main_arg3))
      ∧ r.2.sem = fun _ => 0)

def quiescent_AdamLatIdeal [hAdamLatIdeal : Cert.AdamLatIdeal.Facts] : Prop :=
  ∀ (m : (ℓ : Loc Cert.AdamLatIdeal.nD Cert.AdamLatIdeal.τ Cert.AdamLatIdeal.sig) → Buf (Elt Ideal) ℓ) (g : Dev Cert.AdamLatIdeal.nD → PrngReg), Pre_AdamLatIdeal m →
    θ_run (Cert.AdamLatIdeal.defs (F := Ideal)) (onTc (τ := Cert.AdamLatIdeal.τ) (Cert.AdamLatIdeal.main (F := Ideal))) ⟨m, fun _ => 0, g⟩ (fun r => (∀ c : Dev Cert.AdamLatIdeal.nD,
      r.2.mem ((c.tc : Thread Cert.AdamLatIdeal.nD Cert.AdamLatIdeal.τ).loc Cert.AdamLatIdeal.main_arg0) = m ((c.tc : Thread Cert.AdamLatIdeal.nD Cert.AdamLatIdeal.τ).loc Cert.AdamLatIdeal.main_arg0)
      ∧ r.2.mem ((c.tc : Thread Cert.AdamLatIdeal.nD Cert.AdamLatIdeal.τ).loc Cert.AdamLatIdeal.main_arg1) = m ((c.tc : Thread Cert.AdamLatIdeal.nD Cert.AdamLatIdeal.τ).loc Cert.AdamLatIdeal.main_arg1)
      ∧ r.2.mem ((c.tc : Thread Cert.AdamLatIdeal.nD Cert.AdamLatIdeal.τ).loc Cert.AdamLatIdeal.main_arg2) = m ((c.tc : Thread Cert.AdamLatIdeal.nD Cert.AdamLatIdeal.τ).loc Cert.AdamLatIdeal.main_arg2)
      ∧ r.2.mem ((c.tc : Thread Cert.AdamLatIdeal.nD Cert.AdamLatIdeal.τ).loc Cert.AdamLatIdeal.main_arg3) = m ((c.tc : Thread Cert.AdamLatIdeal.nD Cert.AdamLatIdeal.τ).loc Cert.AdamLatIdeal.main_arg3))
      ∧ r.2.sem = fun _ => 0)

def quiescent_AdamLatRefIdeal [hAdamLatRefIdeal : Cert.AdamLatRefIdeal.Facts] : Prop :=
  ∀ (m : (ℓ : Loc Cert.AdamLatRefIdeal.nD Cert.AdamLatRefIdeal.τ Cert.AdamLatRefIdeal.sig) → Buf (Elt Ideal) ℓ) (g : Dev Cert.AdamLatRefIdeal.nD → PrngReg), Pre_AdamLatRefIdeal m →
    θ_run (Cert.AdamLatRefIdeal.defs (F := Ideal)) (onTc (τ := Cert.AdamLatRefIdeal.τ) (Cert.AdamLatRefIdeal.main (F := Ideal))) ⟨m, fun _ => 0, g⟩ (fun r => (∀ c : Dev Cert.AdamLatRefIdeal.nD,
      r.2.mem ((c.tc : Thread Cert.AdamLatRefIdeal.nD Cert.AdamLatRefIdeal.τ).loc Cert.AdamLatRefIdeal.main_arg0) = m ((c.tc : Thread Cert.AdamLatRefIdeal.nD Cert.AdamLatRefIdeal.τ).loc Cert.AdamLatRefIdeal.main_arg0)
      ∧ r.2.mem ((c.tc : Thread Cert.AdamLatRefIdeal.nD Cert.AdamLatRefIdeal.τ).loc Cert.AdamLatRefIdeal.main_arg1) = m ((c.tc : Thread Cert.AdamLatRefIdeal.nD Cert.AdamLatRefIdeal.τ).loc Cert.AdamLatRefIdeal.main_arg1)
      ∧ r.2.mem ((c.tc : Thread Cert.AdamLatRefIdeal.nD Cert.AdamLatRefIdeal.τ).loc Cert.AdamLatRefIdeal.main_arg2) = m ((c.tc : Thread Cert.AdamLatRefIdeal.nD Cert.AdamLatRefIdeal.τ).loc Cert.AdamLatRefIdeal.main_arg2)
      ∧ r.2.mem ((c.tc : Thread Cert.AdamLatRefIdeal.nD Cert.AdamLatRefIdeal.τ).loc Cert.AdamLatRefIdeal.main_arg3) = m ((c.tc : Thread Cert.AdamLatRefIdeal.nD Cert.AdamLatRefIdeal.τ).loc Cert.AdamLatRefIdeal.main_arg3))
      ∧ r.2.sem = fun _ => 0)

def quiescent_AdamPool [hAdamPool : Cert.AdamPool.Facts] : Prop :=
  ∀ (m : (ℓ : Loc Cert.AdamPool.nD Cert.AdamPool.τ Cert.AdamPool.sig) → Buf (Elt Bits) ℓ) (g : Dev Cert.AdamPool.nD → PrngReg), Pre_AdamPool m →
    θ_run (Cert.AdamPool.defs (F := Bits)) (onTc (τ := Cert.AdamPool.τ) (Cert.AdamPool.main (F := Bits))) ⟨m, fun _ => 0, g⟩ (fun r => (∀ c : Dev Cert.AdamPool.nD,
      r.2.mem ((c.tc : Thread Cert.AdamPool.nD Cert.AdamPool.τ).loc Cert.AdamPool.main_arg0) = m ((c.tc : Thread Cert.AdamPool.nD Cert.AdamPool.τ).loc Cert.AdamPool.main_arg0)
      ∧ r.2.mem ((c.tc : Thread Cert.AdamPool.nD Cert.AdamPool.τ).loc Cert.AdamPool.main_arg1) = m ((c.tc : Thread Cert.AdamPool.nD Cert.AdamPool.τ).loc Cert.AdamPool.main_arg1)
      ∧ r.2.mem ((c.tc : Thread Cert.AdamPool.nD Cert.AdamPool.τ).loc Cert.AdamPool.main_arg2) = m ((c.tc : Thread Cert.AdamPool.nD Cert.AdamPool.τ).loc Cert.AdamPool.main_arg2)
      ∧ r.2.mem ((c.tc : Thread Cert.AdamPool.nD Cert.AdamPool.τ).loc Cert.AdamPool.main_arg3) = m ((c.tc : Thread Cert.AdamPool.nD Cert.AdamPool.τ).loc Cert.AdamPool.main_arg3))
      ∧ r.2.sem = fun _ => 0)

def quiescent_AdamPoolIdeal [hAdamPoolIdeal : Cert.AdamPoolIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg), Pre_AdamPoolIdeal m →
    θ_run (Cert.AdamPoolIdeal.defs (F := Ideal)) (onTc (τ := Cert.AdamPoolIdeal.τ) (Cert.AdamPoolIdeal.main (F := Ideal))) ⟨m, fun _ => 0, g⟩ (fun r => (∀ c : Dev Cert.AdamPoolIdeal.nD,
      r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
      ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
      ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
      ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ r.2.sem = fun _ => 0)

def quiescent_AdamPoolRefIdeal [hAdamPoolRefIdeal : Cert.AdamPoolRefIdeal.Facts] : Prop :=
  ∀ (m : (ℓ : Loc Cert.AdamPoolRefIdeal.nD Cert.AdamPoolRefIdeal.τ Cert.AdamPoolRefIdeal.sig) → Buf (Elt Ideal) ℓ) (g : Dev Cert.AdamPoolRefIdeal.nD → PrngReg), Pre_AdamPoolRefIdeal m →
    θ_run (Cert.AdamPoolRefIdeal.defs (F := Ideal)) (onTc (τ := Cert.AdamPoolRefIdeal.τ) (Cert.AdamPoolRefIdeal.main (F := Ideal))) ⟨m, fun _ => 0, g⟩ (fun r => (∀ c : Dev Cert.AdamPoolRefIdeal.nD,
      r.2.mem ((c.tc : Thread Cert.AdamPoolRefIdeal.nD Cert.AdamPoolRefIdeal.τ).loc Cert.AdamPoolRefIdeal.main_arg0) = m ((c.tc : Thread Cert.AdamPoolRefIdeal.nD Cert.AdamPoolRefIdeal.τ).loc Cert.AdamPoolRefIdeal.main_arg0)
      ∧ r.2.mem ((c.tc : Thread Cert.AdamPoolRefIdeal.nD Cert.AdamPoolRefIdeal.τ).loc Cert.AdamPoolRefIdeal.main_arg1) = m ((c.tc : Thread Cert.AdamPoolRefIdeal.nD Cert.AdamPoolRefIdeal.τ).loc Cert.AdamPoolRefIdeal.main_arg1)
      ∧ r.2.mem ((c.tc : Thread Cert.AdamPoolRefIdeal.nD Cert.AdamPoolRefIdeal.τ).loc Cert.AdamPoolRefIdeal.main_arg2) = m ((c.tc : Thread Cert.AdamPoolRefIdeal.nD Cert.AdamPoolRefIdeal.τ).loc Cert.AdamPoolRefIdeal.main_arg2)
      ∧ r.2.mem ((c.tc : Thread Cert.AdamPoolRefIdeal.nD Cert.AdamPoolRefIdeal.τ).loc Cert.AdamPoolRefIdeal.main_arg3) = m ((c.tc : Thread Cert.AdamPoolRefIdeal.nD Cert.AdamPoolRefIdeal.τ).loc Cert.AdamPoolRefIdeal.main_arg3))
      ∧ r.2.sem = fun _ => 0)

def preserves_Attn_AttnIdeal : Prop :=
  IdealRules.named_const.Statement Cert.AttnIdeal.κ "mask" .f32 0xF149F2CA#32 ⊥
  ∧ IdealRules.named_const.Statement Cert.AttnIdeal.κ "ln_2" .f32 0x3F317218#32 ((Real.log 2 : ℝ) : EReal)

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v52_0)) (v1 : (c : Dev Cert.AttnIdeal.nD) → Buf (Elt Ideal) ((c.tc : Thread Cert.AttnIdeal.nD Cert.AttnIdeal.τ).loc Cert.AttnIdeal.main_v52_1)) (v2 : (c : Dev Cert.AttnIdeal.nD) → Buf (Elt Ideal) ((c.tc : Thread Cert.AttnIdeal.nD Cert.AttnIdeal.τ).loc Cert.AttnIdeal.main_v54)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v52_0) = v0 c
          ∧ r.2.mem ((c.tc : Thread Cert.AttnIdeal.nD Cert.AttnIdeal.τ).loc Cert.AttnIdeal.main_v52_1) = v1 c
          ∧ r.2.mem ((c.tc : Thread Cert.AttnIdeal.nD Cert.AttnIdeal.τ).loc Cert.AttnIdeal.main_v54) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v86) = v0 c
          ∧ r.2.mem ((c.tc : Thread Cert.AttnRefIdeal.nD Cert.AttnRefIdeal.τ).loc Cert.AttnRefIdeal.main_v72) = v1 c
          ∧ r.2.mem ((c.tc : Thread Cert.AttnRefIdeal.nD Cert.AttnRefIdeal.τ).loc Cert.AttnRefIdeal.main_v85) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Up_UpIdeal : Prop :=
  True

def algebraic_UpIdeal_UpRefIdeal_pre_finite_up [hUpIdeal : Cert.UpIdeal.Facts] [hUpRefIdeal : Cert.UpRefIdeal.Facts] [hPre_finite_up : Cert.Pre_finite_up.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal_finite_up m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)) (v2 : (c : Dev Cert.UpIdeal.nD) → Buf (Elt Ideal) ((c.tc : Thread Cert.UpIdeal.nD Cert.UpIdeal.τ).loc Cert.UpIdeal.main_v0_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_v0_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v13) = v0 c
          ∧ r.2.mem ((c.tc : Thread Cert.UpRefIdeal.nD Cert.UpRefIdeal.τ).loc Cert.UpRefIdeal.main_v14) = v1 c
          ∧ r.2.mem ((c.tc : Thread Cert.UpRefIdeal.nD Cert.UpRefIdeal.τ).loc Cert.UpRefIdeal.main_v15) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Act_ActIdeal : Prop :=
  True

def algebraic_ActIdeal_ActRefIdeal_pre_finite_act [hActIdeal : Cert.ActIdeal.Facts] [hActRefIdeal : Cert.ActRefIdeal.Facts] [hPre_finite_act : Cert.Pre_finite_act.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal_finite_act m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)
      ∧ m' ((c.tc : Thread Cert.ActRefIdeal.nD Cert.ActRefIdeal.τ).loc Cert.ActRefIdeal.main_arg3) = m ((c.tc : Thread Cert.ActIdeal.nD Cert.ActIdeal.τ).loc Cert.ActIdeal.main_arg3)) →
    ∃ (v0 : (c : Dev Cert.ActIdeal.nD) → Buf (Elt Ideal) ((c.tc : Thread Cert.ActIdeal.nD Cert.ActIdeal.τ).loc Cert.ActIdeal.main_v8_0)) (v1 : (c : Dev Cert.ActIdeal.nD) → Buf (Elt Ideal) ((c.tc : Thread Cert.ActIdeal.nD Cert.ActIdeal.τ).loc Cert.ActIdeal.main_v8_1)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v8_0) = v0 c
          ∧ r.2.mem ((c.tc : Thread Cert.ActIdeal.nD Cert.ActIdeal.τ).loc Cert.ActIdeal.main_v8_1) = v1 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
          ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v10) = v0 c
          ∧ r.2.mem ((c.tc : Thread Cert.ActRefIdeal.nD Cert.ActRefIdeal.τ).loc Cert.ActRefIdeal.main_v11) = v1 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2)
          ∧ r.2.mem ((c.tc : Thread Cert.ActRefIdeal.nD Cert.ActRefIdeal.τ).loc Cert.ActRefIdeal.main_arg3) = m' ((c.tc : Thread Cert.ActRefIdeal.nD Cert.ActRefIdeal.τ).loc Cert.ActRefIdeal.main_arg3))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v8) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v8) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)
      ∧ m' ((c.tc : Thread Cert.DhRefIdeal.nD Cert.DhRefIdeal.τ).loc Cert.DhRefIdeal.main_arg2) = m ((c.tc : Thread Cert.DhIdeal.nD Cert.DhIdeal.τ).loc Cert.DhIdeal.main_arg2)
      ∧ m' ((c.tc : Thread Cert.DhRefIdeal.nD Cert.DhRefIdeal.τ).loc Cert.DhRefIdeal.main_arg3) = m ((c.tc : Thread Cert.DhIdeal.nD Cert.DhIdeal.τ).loc Cert.DhIdeal.main_arg3)) →
    ∃ (v0 : (c : Dev Cert.DhIdeal.nD) → Buf (Elt Ideal) ((c.tc : Thread Cert.DhIdeal.nD Cert.DhIdeal.τ).loc Cert.DhIdeal.main_v0)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v0) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
          ∧ r.2.mem ((c.tc : Thread Cert.DhIdeal.nD Cert.DhIdeal.τ).loc Cert.DhIdeal.main_arg3) = m ((c.tc : Thread Cert.DhIdeal.nD Cert.DhIdeal.τ).loc Cert.DhIdeal.main_arg3))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v13) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2)
          ∧ r.2.mem ((c.tc : Thread Cert.DhRefIdeal.nD Cert.DhRefIdeal.τ).loc Cert.DhRefIdeal.main_arg3) = m' ((c.tc : Thread Cert.DhRefIdeal.nD Cert.DhRefIdeal.τ).loc Cert.DhRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v4) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_AdamVec_AdamVecIdeal : Prop :=
  True

def algebraic_AdamVecIdeal_AdamVecRefIdeal [hAdamVecIdeal : Cert.AdamVecIdeal.Facts] [hAdamVecRefIdeal : Cert.AdamVecRefIdeal.Facts] : Prop :=
  ∀ (m : (ℓ : Loc Cert.AdamVecIdeal.nD Cert.AdamVecIdeal.τ Cert.AdamVecIdeal.sig) → Buf (Elt Ideal) ℓ) (g : Dev Cert.AdamVecIdeal.nD → PrngReg)
    (m' : (ℓ : Loc Cert.AdamVecRefIdeal.nD Cert.AdamVecRefIdeal.τ Cert.AdamVecRefIdeal.sig) → Buf (Elt Ideal) ℓ) (g' : Dev Cert.AdamVecRefIdeal.nD → PrngReg), Pre_AdamVecIdeal m →
    (∀ c : Dev Cert.AdamVecIdeal.nD,
      m' ((c.tc : Thread Cert.AdamVecRefIdeal.nD Cert.AdamVecRefIdeal.τ).loc Cert.AdamVecRefIdeal.main_arg0) = m ((c.tc : Thread Cert.AdamVecIdeal.nD Cert.AdamVecIdeal.τ).loc Cert.AdamVecIdeal.main_arg0)
      ∧ m' ((c.tc : Thread Cert.AdamVecRefIdeal.nD Cert.AdamVecRefIdeal.τ).loc Cert.AdamVecRefIdeal.main_arg1) = m ((c.tc : Thread Cert.AdamVecIdeal.nD Cert.AdamVecIdeal.τ).loc Cert.AdamVecIdeal.main_arg1)
      ∧ m' ((c.tc : Thread Cert.AdamVecRefIdeal.nD Cert.AdamVecRefIdeal.τ).loc Cert.AdamVecRefIdeal.main_arg2) = m ((c.tc : Thread Cert.AdamVecIdeal.nD Cert.AdamVecIdeal.τ).loc Cert.AdamVecIdeal.main_arg2)
      ∧ m' ((c.tc : Thread Cert.AdamVecRefIdeal.nD Cert.AdamVecRefIdeal.τ).loc Cert.AdamVecRefIdeal.main_arg3) = m ((c.tc : Thread Cert.AdamVecIdeal.nD Cert.AdamVecIdeal.τ).loc Cert.AdamVecIdeal.main_arg3)) →
    ∃ (v0 : (c : Dev Cert.AdamVecIdeal.nD) → Buf (Elt Ideal) ((c.tc : Thread Cert.AdamVecIdeal.nD Cert.AdamVecIdeal.τ).loc Cert.AdamVecIdeal.main_v0_0)) (v1 : (c : Dev Cert.AdamVecIdeal.nD) → Buf (Elt Ideal) ((c.tc : Thread Cert.AdamVecIdeal.nD Cert.AdamVecIdeal.τ).loc Cert.AdamVecIdeal.main_v0_1)) (v2 : (c : Dev Cert.AdamVecIdeal.nD) → Buf (Elt Ideal) ((c.tc : Thread Cert.AdamVecIdeal.nD Cert.AdamVecIdeal.τ).loc Cert.AdamVecIdeal.main_v0_2)),
      θ_run (Cert.AdamVecIdeal.defs (F := Ideal)) (onTc (τ := Cert.AdamVecIdeal.τ) (Cert.AdamVecIdeal.main (F := Ideal))) ⟨m, fun _ => 0, g⟩ (fun r => ∀ c : Dev Cert.AdamVecIdeal.nD,
          r.2.mem ((c.tc : Thread Cert.AdamVecIdeal.nD Cert.AdamVecIdeal.τ).loc Cert.AdamVecIdeal.main_v0_0) = v0 c
          ∧ r.2.mem ((c.tc : Thread Cert.AdamVecIdeal.nD Cert.AdamVecIdeal.τ).loc Cert.AdamVecIdeal.main_v0_1) = v1 c
          ∧ r.2.mem ((c.tc : Thread Cert.AdamVecIdeal.nD Cert.AdamVecIdeal.τ).loc Cert.AdamVecIdeal.main_v0_2) = v2 c
          ∧ r.2.mem ((c.tc : Thread Cert.AdamVecIdeal.nD Cert.AdamVecIdeal.τ).loc Cert.AdamVecIdeal.main_arg0) = m ((c.tc : Thread Cert.AdamVecIdeal.nD Cert.AdamVecIdeal.τ).loc Cert.AdamVecIdeal.main_arg0)
          ∧ r.2.mem ((c.tc : Thread Cert.AdamVecIdeal.nD Cert.AdamVecIdeal.τ).loc Cert.AdamVecIdeal.main_arg1) = m ((c.tc : Thread Cert.AdamVecIdeal.nD Cert.AdamVecIdeal.τ).loc Cert.AdamVecIdeal.main_arg1)
          ∧ r.2.mem ((c.tc : Thread Cert.AdamVecIdeal.nD Cert.AdamVecIdeal.τ).loc Cert.AdamVecIdeal.main_arg2) = m ((c.tc : Thread Cert.AdamVecIdeal.nD Cert.AdamVecIdeal.τ).loc Cert.AdamVecIdeal.main_arg2)
          ∧ r.2.mem ((c.tc : Thread Cert.AdamVecIdeal.nD Cert.AdamVecIdeal.τ).loc Cert.AdamVecIdeal.main_arg3) = m ((c.tc : Thread Cert.AdamVecIdeal.nD Cert.AdamVecIdeal.τ).loc Cert.AdamVecIdeal.main_arg3))
      ∧ θ_run (Cert.AdamVecRefIdeal.defs (F := Ideal)) (onTc (τ := Cert.AdamVecRefIdeal.τ) (Cert.AdamVecRefIdeal.main (F := Ideal))) ⟨m', fun _ => 0, g'⟩ (fun r => ∀ c : Dev Cert.AdamVecRefIdeal.nD,
          r.2.mem ((c.tc : Thread Cert.AdamVecRefIdeal.nD Cert.AdamVecRefIdeal.τ).loc Cert.AdamVecRefIdeal.main_v23) = v0 c
          ∧ r.2.mem ((c.tc : Thread Cert.AdamVecRefIdeal.nD Cert.AdamVecRefIdeal.τ).loc Cert.AdamVecRefIdeal.main_v4) = v1 c
          ∧ r.2.mem ((c.tc : Thread Cert.AdamVecRefIdeal.nD Cert.AdamVecRefIdeal.τ).loc Cert.AdamVecRefIdeal.main_v10) = v2 c
          ∧ r.2.mem ((c.tc : Thread Cert.AdamVecRefIdeal.nD Cert.AdamVecRefIdeal.τ).loc Cert.AdamVecRefIdeal.main_arg0) = m' ((c.tc : Thread Cert.AdamVecRefIdeal.nD Cert.AdamVecRefIdeal.τ).loc Cert.AdamVecRefIdeal.main_arg0)
          ∧ r.2.mem ((c.tc : Thread Cert.AdamVecRefIdeal.nD Cert.AdamVecRefIdeal.τ).loc Cert.AdamVecRefIdeal.main_arg1) = m' ((c.tc : Thread Cert.AdamVecRefIdeal.nD Cert.AdamVecRefIdeal.τ).loc Cert.AdamVecRefIdeal.main_arg1)
          ∧ r.2.mem ((c.tc : Thread Cert.AdamVecRefIdeal.nD Cert.AdamVecRefIdeal.τ).loc Cert.AdamVecRefIdeal.main_arg2) = m' ((c.tc : Thread Cert.AdamVecRefIdeal.nD Cert.AdamVecRefIdeal.τ).loc Cert.AdamVecRefIdeal.main_arg2)
          ∧ r.2.mem ((c.tc : Thread Cert.AdamVecRefIdeal.nD Cert.AdamVecRefIdeal.τ).loc Cert.AdamVecRefIdeal.main_arg3) = m' ((c.tc : Thread Cert.AdamVecRefIdeal.nD Cert.AdamVecRefIdeal.τ).loc Cert.AdamVecRefIdeal.main_arg3))

def preserves_AdamLat_AdamLatIdeal : Prop :=
  True

def algebraic_AdamLatIdeal_AdamLatRefIdeal [hAdamLatIdeal : Cert.AdamLatIdeal.Facts] [hAdamLatRefIdeal : Cert.AdamLatRefIdeal.Facts] : Prop :=
  ∀ (m : (ℓ : Loc Cert.AdamLatIdeal.nD Cert.AdamLatIdeal.τ Cert.AdamLatIdeal.sig) → Buf (Elt Ideal) ℓ) (g : Dev Cert.AdamLatIdeal.nD → PrngReg)
    (m' : (ℓ : Loc Cert.AdamLatRefIdeal.nD Cert.AdamLatRefIdeal.τ Cert.AdamLatRefIdeal.sig) → Buf (Elt Ideal) ℓ) (g' : Dev Cert.AdamLatRefIdeal.nD → PrngReg), Pre_AdamLatIdeal m →
    (∀ c : Dev Cert.AdamLatIdeal.nD,
      m' ((c.tc : Thread Cert.AdamLatRefIdeal.nD Cert.AdamLatRefIdeal.τ).loc Cert.AdamLatRefIdeal.main_arg0) = m ((c.tc : Thread Cert.AdamLatIdeal.nD Cert.AdamLatIdeal.τ).loc Cert.AdamLatIdeal.main_arg0)
      ∧ m' ((c.tc : Thread Cert.AdamLatRefIdeal.nD Cert.AdamLatRefIdeal.τ).loc Cert.AdamLatRefIdeal.main_arg1) = m ((c.tc : Thread Cert.AdamLatIdeal.nD Cert.AdamLatIdeal.τ).loc Cert.AdamLatIdeal.main_arg1)
      ∧ m' ((c.tc : Thread Cert.AdamLatRefIdeal.nD Cert.AdamLatRefIdeal.τ).loc Cert.AdamLatRefIdeal.main_arg2) = m ((c.tc : Thread Cert.AdamLatIdeal.nD Cert.AdamLatIdeal.τ).loc Cert.AdamLatIdeal.main_arg2)
      ∧ m' ((c.tc : Thread Cert.AdamLatRefIdeal.nD Cert.AdamLatRefIdeal.τ).loc Cert.AdamLatRefIdeal.main_arg3) = m ((c.tc : Thread Cert.AdamLatIdeal.nD Cert.AdamLatIdeal.τ).loc Cert.AdamLatIdeal.main_arg3)) →
    ∃ (v0 : (c : Dev Cert.AdamLatIdeal.nD) → Buf (Elt Ideal) ((c.tc : Thread Cert.AdamLatIdeal.nD Cert.AdamLatIdeal.τ).loc Cert.AdamLatIdeal.main_v0_0)) (v1 : (c : Dev Cert.AdamLatIdeal.nD) → Buf (Elt Ideal) ((c.tc : Thread Cert.AdamLatIdeal.nD Cert.AdamLatIdeal.τ).loc Cert.AdamLatIdeal.main_v0_1)) (v2 : (c : Dev Cert.AdamLatIdeal.nD) → Buf (Elt Ideal) ((c.tc : Thread Cert.AdamLatIdeal.nD Cert.AdamLatIdeal.τ).loc Cert.AdamLatIdeal.main_v0_2)),
      θ_run (Cert.AdamLatIdeal.defs (F := Ideal)) (onTc (τ := Cert.AdamLatIdeal.τ) (Cert.AdamLatIdeal.main (F := Ideal))) ⟨m, fun _ => 0, g⟩ (fun r => ∀ c : Dev Cert.AdamLatIdeal.nD,
          r.2.mem ((c.tc : Thread Cert.AdamLatIdeal.nD Cert.AdamLatIdeal.τ).loc Cert.AdamLatIdeal.main_v0_0) = v0 c
          ∧ r.2.mem ((c.tc : Thread Cert.AdamLatIdeal.nD Cert.AdamLatIdeal.τ).loc Cert.AdamLatIdeal.main_v0_1) = v1 c
          ∧ r.2.mem ((c.tc : Thread Cert.AdamLatIdeal.nD Cert.AdamLatIdeal.τ).loc Cert.AdamLatIdeal.main_v0_2) = v2 c
          ∧ r.2.mem ((c.tc : Thread Cert.AdamLatIdeal.nD Cert.AdamLatIdeal.τ).loc Cert.AdamLatIdeal.main_arg0) = m ((c.tc : Thread Cert.AdamLatIdeal.nD Cert.AdamLatIdeal.τ).loc Cert.AdamLatIdeal.main_arg0)
          ∧ r.2.mem ((c.tc : Thread Cert.AdamLatIdeal.nD Cert.AdamLatIdeal.τ).loc Cert.AdamLatIdeal.main_arg1) = m ((c.tc : Thread Cert.AdamLatIdeal.nD Cert.AdamLatIdeal.τ).loc Cert.AdamLatIdeal.main_arg1)
          ∧ r.2.mem ((c.tc : Thread Cert.AdamLatIdeal.nD Cert.AdamLatIdeal.τ).loc Cert.AdamLatIdeal.main_arg2) = m ((c.tc : Thread Cert.AdamLatIdeal.nD Cert.AdamLatIdeal.τ).loc Cert.AdamLatIdeal.main_arg2)
          ∧ r.2.mem ((c.tc : Thread Cert.AdamLatIdeal.nD Cert.AdamLatIdeal.τ).loc Cert.AdamLatIdeal.main_arg3) = m ((c.tc : Thread Cert.AdamLatIdeal.nD Cert.AdamLatIdeal.τ).loc Cert.AdamLatIdeal.main_arg3))
      ∧ θ_run (Cert.AdamLatRefIdeal.defs (F := Ideal)) (onTc (τ := Cert.AdamLatRefIdeal.τ) (Cert.AdamLatRefIdeal.main (F := Ideal))) ⟨m', fun _ => 0, g'⟩ (fun r => ∀ c : Dev Cert.AdamLatRefIdeal.nD,
          r.2.mem ((c.tc : Thread Cert.AdamLatRefIdeal.nD Cert.AdamLatRefIdeal.τ).loc Cert.AdamLatRefIdeal.main_v23) = v0 c
          ∧ r.2.mem ((c.tc : Thread Cert.AdamLatRefIdeal.nD Cert.AdamLatRefIdeal.τ).loc Cert.AdamLatRefIdeal.main_v4) = v1 c
          ∧ r.2.mem ((c.tc : Thread Cert.AdamLatRefIdeal.nD Cert.AdamLatRefIdeal.τ).loc Cert.AdamLatRefIdeal.main_v10) = v2 c
          ∧ r.2.mem ((c.tc : Thread Cert.AdamLatRefIdeal.nD Cert.AdamLatRefIdeal.τ).loc Cert.AdamLatRefIdeal.main_arg0) = m' ((c.tc : Thread Cert.AdamLatRefIdeal.nD Cert.AdamLatRefIdeal.τ).loc Cert.AdamLatRefIdeal.main_arg0)
          ∧ r.2.mem ((c.tc : Thread Cert.AdamLatRefIdeal.nD Cert.AdamLatRefIdeal.τ).loc Cert.AdamLatRefIdeal.main_arg1) = m' ((c.tc : Thread Cert.AdamLatRefIdeal.nD Cert.AdamLatRefIdeal.τ).loc Cert.AdamLatRefIdeal.main_arg1)
          ∧ r.2.mem ((c.tc : Thread Cert.AdamLatRefIdeal.nD Cert.AdamLatRefIdeal.τ).loc Cert.AdamLatRefIdeal.main_arg2) = m' ((c.tc : Thread Cert.AdamLatRefIdeal.nD Cert.AdamLatRefIdeal.τ).loc Cert.AdamLatRefIdeal.main_arg2)
          ∧ r.2.mem ((c.tc : Thread Cert.AdamLatRefIdeal.nD Cert.AdamLatRefIdeal.τ).loc Cert.AdamLatRefIdeal.main_arg3) = m' ((c.tc : Thread Cert.AdamLatRefIdeal.nD Cert.AdamLatRefIdeal.τ).loc Cert.AdamLatRefIdeal.main_arg3))

def preserves_AdamPool_AdamPoolIdeal : Prop :=
  True

def algebraic_AdamPoolIdeal_AdamPoolRefIdeal [hAdamPoolIdeal : Cert.AdamPoolIdeal.Facts] [hAdamPoolRefIdeal : Cert.AdamPoolRefIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg)
    (m' : (ℓ : Loc Cert.AdamPoolRefIdeal.nD Cert.AdamPoolRefIdeal.τ Cert.AdamPoolRefIdeal.sig) → Buf (Elt Ideal) ℓ) (g' : Dev Cert.AdamPoolRefIdeal.nD → PrngReg), Pre_AdamPoolIdeal m →
    (∀ c : Dev Cert.AdamPoolIdeal.nD,
      m' ((c.tc : Thread Cert.AdamPoolRefIdeal.nD Cert.AdamPoolRefIdeal.τ).loc Cert.AdamPoolRefIdeal.main_arg0) = m ((c.tc : Thread Cert.AdamPoolIdeal.nD Cert.AdamPoolIdeal.τ).loc Cert.AdamPoolIdeal.main_arg0)
      ∧ m' ((c.tc : Thread Cert.AdamPoolRefIdeal.nD Cert.AdamPoolRefIdeal.τ).loc Cert.AdamPoolRefIdeal.main_arg1) = m ((c.tc : Thread Cert.AdamPoolIdeal.nD Cert.AdamPoolIdeal.τ).loc Cert.AdamPoolIdeal.main_arg1)
      ∧ m' ((c.tc : Thread Cert.AdamPoolRefIdeal.nD Cert.AdamPoolRefIdeal.τ).loc Cert.AdamPoolRefIdeal.main_arg2) = m ((c.tc : Thread Cert.AdamPoolIdeal.nD Cert.AdamPoolIdeal.τ).loc Cert.AdamPoolIdeal.main_arg2)
      ∧ m' ((c.tc : Thread Cert.AdamPoolRefIdeal.nD Cert.AdamPoolRefIdeal.τ).loc Cert.AdamPoolRefIdeal.main_arg3) = m ((c.tc : Thread Cert.AdamPoolIdeal.nD Cert.AdamPoolIdeal.τ).loc Cert.AdamPoolIdeal.main_arg3)) →
    ∃ (v0 : (c : Dev Cert.AdamPoolIdeal.nD) → Buf (Elt Ideal) ((c.tc : Thread Cert.AdamPoolIdeal.nD Cert.AdamPoolIdeal.τ).loc Cert.AdamPoolIdeal.main_v0_0)) (v1 : (c : Dev Cert.AdamPoolIdeal.nD) → Buf (Elt Ideal) ((c.tc : Thread Cert.AdamPoolIdeal.nD Cert.AdamPoolIdeal.τ).loc Cert.AdamPoolIdeal.main_v0_1)) (v2 : (c : Dev Cert.AdamPoolIdeal.nD) → Buf (Elt Ideal) ((c.tc : Thread Cert.AdamPoolIdeal.nD Cert.AdamPoolIdeal.τ).loc Cert.AdamPoolIdeal.main_v0_2)),
      θ_run (Cert.AdamPoolIdeal.defs (F := Ideal)) (onTc (τ := Cert.AdamPoolIdeal.τ) (Cert.AdamPoolIdeal.main (F := Ideal))) ⟨m, fun _ => 0, g⟩ (fun r => ∀ c : Dev Cert.AdamPoolIdeal.nD,
          r.2.mem ((c.tc : Thread Cert.AdamPoolIdeal.nD Cert.AdamPoolIdeal.τ).loc Cert.AdamPoolIdeal.main_v0_0) = v0 c
          ∧ r.2.mem ((c.tc : Thread Cert.AdamPoolIdeal.nD Cert.AdamPoolIdeal.τ).loc Cert.AdamPoolIdeal.main_v0_1) = v1 c
          ∧ r.2.mem ((c.tc : Thread Cert.AdamPoolIdeal.nD Cert.AdamPoolIdeal.τ).loc Cert.AdamPoolIdeal.main_v0_2) = v2 c
          ∧ r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
          ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
          ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
          ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ θ_run (Cert.AdamPoolRefIdeal.defs (F := Ideal)) (onTc (τ := Cert.AdamPoolRefIdeal.τ) (Cert.AdamPoolRefIdeal.main (F := Ideal))) ⟨m', fun _ => 0, g'⟩ (fun r => ∀ c : Dev Cert.AdamPoolRefIdeal.nD,
          r.2.mem ((c.tc : Thread Cert.AdamPoolRefIdeal.nD Cert.AdamPoolRefIdeal.τ).loc Cert.AdamPoolRefIdeal.main_v23) = v0 c
          ∧ r.2.mem ((c.tc : Thread Cert.AdamPoolRefIdeal.nD Cert.AdamPoolRefIdeal.τ).loc Cert.AdamPoolRefIdeal.main_v4) = v1 c
          ∧ r.2.mem ((c.tc : Thread Cert.AdamPoolRefIdeal.nD Cert.AdamPoolRefIdeal.τ).loc Cert.AdamPoolRefIdeal.main_v10) = v2 c
          ∧ r.2.mem ((c.tc : Thread Cert.AdamPoolRefIdeal.nD Cert.AdamPoolRefIdeal.τ).loc Cert.AdamPoolRefIdeal.main_arg0) = m' ((c.tc : Thread Cert.AdamPoolRefIdeal.nD Cert.AdamPoolRefIdeal.τ).loc Cert.AdamPoolRefIdeal.main_arg0)
          ∧ r.2.mem ((c.tc : Thread Cert.AdamPoolRefIdeal.nD Cert.AdamPoolRefIdeal.τ).loc Cert.AdamPoolRefIdeal.main_arg1) = m' ((c.tc : Thread Cert.AdamPoolRefIdeal.nD Cert.AdamPoolRefIdeal.τ).loc Cert.AdamPoolRefIdeal.main_arg1)
          ∧ r.2.mem ((c.tc : Thread Cert.AdamPoolRefIdeal.nD Cert.AdamPoolRefIdeal.τ).loc Cert.AdamPoolRefIdeal.main_arg2) = m' ((c.tc : Thread Cert.AdamPoolRefIdeal.nD Cert.AdamPoolRefIdeal.τ).loc Cert.AdamPoolRefIdeal.main_arg2)
          ∧ r.2.mem ((c.tc : Thread Cert.AdamPoolRefIdeal.nD Cert.AdamPoolRefIdeal.τ).loc Cert.AdamPoolRefIdeal.main_arg3) = m' ((c.tc : Thread Cert.AdamPoolRefIdeal.nD Cert.AdamPoolRefIdeal.τ).loc Cert.AdamPoolRefIdeal.main_arg3))

def Claim : Prop :=
  ∃ (hAttn : Cert.Attn.Facts) (hAttnIdeal : Cert.AttnIdeal.Facts) (hAttnRefIdeal : Cert.AttnRefIdeal.Facts) (hUp : Cert.Up.Facts) (hUpIdeal : Cert.UpIdeal.Facts) (hUpRefIdeal : Cert.UpRefIdeal.Facts) (hAct : Cert.Act.Facts) (hActIdeal : Cert.ActIdeal.Facts) (hActRefIdeal : Cert.ActRefIdeal.Facts) (hDwUp : Cert.DwUp.Facts) (hDwUpIdeal : Cert.DwUpIdeal.Facts) (hDwUpRefIdeal : Cert.DwUpRefIdeal.Facts) (hDwDown : Cert.DwDown.Facts) (hDwDownIdeal : Cert.DwDownIdeal.Facts) (hDwDownRefIdeal : Cert.DwDownRefIdeal.Facts) (hDh : Cert.Dh.Facts) (hDhIdeal : Cert.DhIdeal.Facts) (hDhRefIdeal : Cert.DhRefIdeal.Facts) (hDown : Cert.Down.Facts) (hDownIdeal : Cert.DownIdeal.Facts) (hDownRefIdeal : Cert.DownRefIdeal.Facts) (hAdamVec : Cert.AdamVec.Facts) (hAdamVecIdeal : Cert.AdamVecIdeal.Facts) (hAdamVecRefIdeal : Cert.AdamVecRefIdeal.Facts) (hAdamLat : Cert.AdamLat.Facts) (hAdamLatIdeal : Cert.AdamLatIdeal.Facts) (hAdamLatRefIdeal : Cert.AdamLatRefIdeal.Facts) (hAdamPool : Cert.AdamPool.Facts) (hAdamPoolIdeal : Cert.AdamPoolIdeal.Facts) (hAdamPoolRefIdeal : Cert.AdamPoolRefIdeal.Facts) (hPre_finite_attn : Cert.Pre_finite_attn.Facts) (hPre_finite_up : Cert.Pre_finite_up.Facts) (hPre_finite_act : Cert.Pre_finite_act.Facts),
    quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_Up (hUp := hUp)
    ∧ quiescent_UpIdeal (hUpIdeal := hUpIdeal)
    ∧ quiescent_UpIdeal_pre_finite_up (hUpIdeal := hUpIdeal) (hPre_finite_up := hPre_finite_up)
    ∧ quiescent_UpRefIdeal (hUpRefIdeal := hUpRefIdeal)
    ∧ quiescent_UpRefIdeal_pre_finite_up (hUpRefIdeal := hUpRefIdeal) (hPre_finite_up := hPre_finite_up)
    ∧ quiescent_Act (hAct := hAct)
    ∧ quiescent_ActIdeal (hActIdeal := hActIdeal)
    ∧ quiescent_ActIdeal_pre_finite_act (hActIdeal := hActIdeal) (hPre_finite_act := hPre_finite_act)
    ∧ quiescent_ActRefIdeal (hActRefIdeal := hActRefIdeal)
    ∧ quiescent_ActRefIdeal_pre_finite_act (hActRefIdeal := hActRefIdeal) (hPre_finite_act := hPre_finite_act)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_Dh (hDh := hDh)
    ∧ quiescent_DhIdeal (hDhIdeal := hDhIdeal)
    ∧ quiescent_DhRefIdeal (hDhRefIdeal := hDhRefIdeal)
    ∧ quiescent_Down (hDown := hDown)
    ∧ quiescent_DownIdeal (hDownIdeal := hDownIdeal)
    ∧ quiescent_DownRefIdeal (hDownRefIdeal := hDownRefIdeal)
    ∧ quiescent_AdamVec (hAdamVec := hAdamVec)
    ∧ quiescent_AdamVecIdeal (hAdamVecIdeal := hAdamVecIdeal)
    ∧ quiescent_AdamVecRefIdeal (hAdamVecRefIdeal := hAdamVecRefIdeal)
    ∧ quiescent_AdamLat (hAdamLat := hAdamLat)
    ∧ quiescent_AdamLatIdeal (hAdamLatIdeal := hAdamLatIdeal)
    ∧ quiescent_AdamLatRefIdeal (hAdamLatRefIdeal := hAdamLatRefIdeal)
    ∧ quiescent_AdamPool (hAdamPool := hAdamPool)
    ∧ quiescent_AdamPoolIdeal (hAdamPoolIdeal := hAdamPoolIdeal)
    ∧ quiescent_AdamPoolRefIdeal (hAdamPoolRefIdeal := hAdamPoolRefIdeal)
    ∧ preserves_Attn_AttnIdeal
    ∧ algebraic_AttnIdeal_AttnRefIdeal_pre_finite_attn (hAttnIdeal := hAttnIdeal) (hAttnRefIdeal := hAttnRefIdeal) (hPre_finite_attn := hPre_finite_attn)
    ∧ preserves_Up_UpIdeal
    ∧ algebraic_UpIdeal_UpRefIdeal_pre_finite_up (hUpIdeal := hUpIdeal) (hUpRefIdeal := hUpRefIdeal) (hPre_finite_up := hPre_finite_up)
    ∧ preserves_Act_ActIdeal
    ∧ algebraic_ActIdeal_ActRefIdeal_pre_finite_act (hActIdeal := hActIdeal) (hActRefIdeal := hActRefIdeal) (hPre_finite_act := hPre_finite_act)
    ∧ preserves_DwUp_DwUpIdeal
    ∧ algebraic_DwUpIdeal_DwUpRefIdeal (hDwUpIdeal := hDwUpIdeal) (hDwUpRefIdeal := hDwUpRefIdeal)
    ∧ preserves_DwDown_DwDownIdeal
    ∧ algebraic_DwDownIdeal_DwDownRefIdeal (hDwDownIdeal := hDwDownIdeal) (hDwDownRefIdeal := hDwDownRefIdeal)
    ∧ preserves_Dh_DhIdeal
    ∧ algebraic_DhIdeal_DhRefIdeal (hDhIdeal := hDhIdeal) (hDhRefIdeal := hDhRefIdeal)
    ∧ preserves_Down_DownIdeal
    ∧ algebraic_DownIdeal_DownRefIdeal (hDownIdeal := hDownIdeal) (hDownRefIdeal := hDownRefIdeal)
    ∧ preserves_AdamVec_AdamVecIdeal
    ∧ algebraic_AdamVecIdeal_AdamVecRefIdeal (hAdamVecIdeal := hAdamVecIdeal) (hAdamVecRefIdeal := hAdamVecRefIdeal)
    ∧ preserves_AdamLat_AdamLatIdeal
    ∧ algebraic_AdamLatIdeal_AdamLatRefIdeal (hAdamLatIdeal := hAdamLatIdeal) (hAdamLatRefIdeal := hAdamLatRefIdeal)
    ∧ preserves_AdamPool_AdamPoolIdeal
    ∧ algebraic_AdamPoolIdeal_AdamPoolRefIdeal (hAdamPoolIdeal := hAdamPoolIdeal) (hAdamPoolRefIdeal := hAdamPoolRefIdeal)
-- ==== Pre_finite_act.lean ====
abbrev S8192x2048 : Shape := ⟨2, ![8192, 2048]⟩
abbrev S4x1408x2048 : Shape := ⟨3, ![4, 1408, 2048]⟩
abbrev S8192x5632 : Shape := ⟨2, ![8192, 5632]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S4x1408x2048 : S_.BroadcastsInDim S4x1408x2048 (![] : Fin 0 → Fin S4x1408x2048.rank)
  reducesTo_S4x1408x2048_S_d0_1_2 : S4x1408x2048.ReducesTo [0, 1, 2] S_
  bcast_S_S8192x5632 : S_.BroadcastsInDim S8192x5632 (![] : Fin 0 → Fin S8192x5632.rank)
  reducesTo_S8192x5632_S_d0_1 : S8192x5632.ReducesTo [0, 1] S_

variable [Facts]

def fn {F : FTy → Type} [FloatOps F] (main_arg0 : FVec F S8192x2048 .bf16) (main_arg1 : FVec F S4x1408x2048 .bf16) (main_arg2 : FVec F S8192x5632 .f32) (main_arg3 : FVec F S8192x5632 .f32) : IVec S_ 1 :=
  let main_v0 : FVec F S8192x2048 .bf16 := Host.absf main_arg0
  let main_cst : FVec F S_ .bf16 := constant S_ .bf16 0x7F80#16
  let main_v1 : FVec F S8192x2048 .bf16 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S4x1408x2048 .bf16 := Host.absf main_arg1
  let main_cst_0 : FVec F S_ .bf16 := constant S_ .bf16 0x7F80#16
  let main_v5 : FVec F S4x1408x2048 .bf16 := broadcastInDim S4x1408x2048 ![] bcast_S_S4x1408x2048 main_cst_0
  let main_v6 : IVec S4x1408x2048 1 := cmpf .olt main_v4 main_v5
  let main_c_1 : IVec S_ 1 := constantI S_ 1 1#1
  let main_v7 : IVec S_ 1 := (fun x v => Host.reduce IntOp.andi x v reducesTo_S4x1408x2048_S_d0_1_2 h_S_) main_v6 main_c_1
  let main_v8 : IVec S_ 1 := andi main_v3 main_v7
  let main_v9 : FVec F S8192x5632 .f32 := Host.absf main_arg3
  let main_cst_2 : FVec F S_ .f32 := constant S_ .f32 0x7F800000#32
  let main_v10 : FVec F S8192x5632 .f32 := broadcastInDim S8192x5632 ![] bcast_S_S8192x5632 main_cst_2
  let main_v11 : IVec S8192x5632 1 := cmpf .olt main_v9 main_v10
  let main_c_3 : IVec S_ 1 := constantI S_ 1 1#1
  let main_v12 : IVec S_ 1 := (fun x v => Host.reduce IntOp.andi x v reducesTo_S8192x5632_S_d0_1 h_S_) main_v11 main_c_3
  let main_v13 : IVec S_ 1 := andi main_v8 main_v12
  main_v13
-- ==== Pre_finite_attn.lean ====
abbrev S8192x4096 : Shape := ⟨2, ![8192, 4096]⟩
abbrev S8192x128 : Shape := ⟨2, ![8192, 128]⟩
abbrev S8192x2048 : Shape := ⟨2, ![8192, 2048]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S8192x2048 : S_.BroadcastsInDim S8192x2048 (![] : Fin 0 → Fin S8192x2048.rank)
  reducesTo_S8192x2048_S_d0_1 : S8192x2048.ReducesTo [0, 1] S_

variable [Facts]

def fn_part1 {F : FTy → Type} [FloatOps F] (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  main_v18

def fn {F : FTy → Type} [FloatOps F] (main_arg0 : FVec F S8192x4096 .f32) (main_arg1 : FVec F S8192x4096 .f32) (main_arg2 : FVec F S8192x128 .f32) (main_arg3 : FVec F S8192x2048 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S8192x128 .f32 := Host.absf main_arg2
  let main_cst_2 : FVec F S_ .f32 := constant S_ .f32 0x7F800000#32
  let main_v10 : FVec F S8192x128 .f32 := broadcastInDim S8192x128 ![] bcast_S_S8192x128 main_cst_2
  let main_v11 : IVec S8192x128 1 := cmpf .olt main_v9 main_v10
  let main_c_3 : IVec S_ 1 := constantI S_ 1 1#1
  let main_v12 : IVec S_ 1 := (fun x v => Host.reduce IntOp.andi x v reducesTo_S8192x128_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_v13 main_v16
-- ==== Pre_finite_up.lean ====
abbrev S8192x2048 : Shape := ⟨2, ![8192, 2048]⟩
abbrev S4x2048x1408 : Shape := ⟨3, ![4, 2048, 1408]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S4x2048x1408 : S_.BroadcastsInDim S4x2048x1408 (![] : Fin 0 → Fin S4x2048x1408.rank)
  reducesTo_S4x2048x1408_S_d0_1_2 : S4x2048x1408.ReducesTo [0, 1, 2] S_

variable [Facts]

def fn {F : FTy → Type} [FloatOps F] (main_arg0 : FVec F S8192x2048 .bf16) (main_arg1 : FVec F S4x2048x1408 .bf16) (main_arg2 : FVec F S4x2048x1408 .bf16) : IVec S_ 1 :=
  let main_v0 : FVec F S8192x2048 .bf16 := Host.absf main_arg0
  let main_cst : FVec F S_ .bf16 := constant S_ .bf16 0x7F80#16
  let main_v1 : FVec F S8192x2048 .bf16 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S4x2048x1408 .bf16 := Host.absf main_arg2
  let main_cst_0 : FVec F S_ .bf16 := constant S_ .bf16 0x7F80#16
  let main_v5 : FVec F S4x2048x1408 .bf16 := broadcastInDim S4x2048x1408 ![] bcast_S_S4x2048x1408 main_cst_0
  let main_v6 : IVec S4x2048x1408 1 := cmpf .olt main_v4 main_v5
  let main_c_1 : IVec S_ 1 := constantI S_ 1 1#1
  let main_v7 : IVec S_ 1 := (fun x v => Host.reduce IntOp.andi x v reducesTo_S4x2048x1408_S_d0_1_2 h_S_) main_v6 main_c_1
  let main_v8 : IVec S_ 1 := andi main_v3 main_v7
  main_v8
-- ==== Attn.lean ====
abbrev S8192x4096 : Shape := ⟨2, ![8192, 4096]⟩
abbrev S8192x128 : Shape := ⟨2, ![8192, 128]⟩
abbrev S8192x2048 : Shape := ⟨2, ![8192, 2048]⟩
abbrev S8192x16x256 : Shape := ⟨3, ![8192, 16, 256]⟩
abbrev S8192x16x128 : Shape := ⟨3, ![8192, 16, 128]⟩
abbrev S16x8192x8192 : Shape := ⟨3, ![16, 8192, 8192]⟩
abbrev S8192x8192x16 : Shape := ⟨3, ![8192, 8192, 16]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x8192 : Shape := ⟨2, ![16, 8192]⟩
abbrev S16x8192x1 : Shape := ⟨3, ![16, 8192, 1]⟩
abbrev S16x128x8192 : Shape := ⟨3, ![16, 128, 8192]⟩
abbrev S8192x16 : Shape := ⟨2, ![8192, 16]⟩
abbrev S16x16x1x512 : Shape := ⟨4, ![16, 16, 1, 512]⟩
abbrev S16x8192x128 : Shape := ⟨3, ![16, 8192, 128]⟩
abbrev S512x256 : Shape := ⟨2, ![512, 256]⟩
abbrev S512x128 : Shape := ⟨2, ![512, 128]⟩
abbrev S8192x256 : Shape := ⟨2, ![8192, 256]⟩
abbrev S1x16x1x512 : Shape := ⟨4, ![1, 16, 1, 512]⟩
abbrev S1x512x128 : Shape := ⟨3, ![1, 512, 128]⟩
abbrev S512x512 : Shape := ⟨2, ![512, 512]⟩
abbrev S1x1x1x512 : Shape := ⟨4, ![1, 1, 1, 512]⟩
abbrev S1x512 : Shape := ⟨2, ![1, 512]⟩

abbrev nBuf : Space → Nat
  | .hbm => 72
  | .vmem => 24
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x128, .f32⟩
  | .hbm, ⟨3, _⟩ => ⟨S8192x2048, .f32⟩
  | .hbm, ⟨4, _⟩ => ⟨S8192x16x256, .f32⟩
  | .hbm, ⟨5, _⟩ => ⟨S8192x16x128, .f32⟩
  | .hbm, ⟨6, _⟩ => ⟨S8192x16x256, .f32⟩
  | .hbm, ⟨7, _⟩ => ⟨S8192x16x128, .f32⟩
  | .hbm, ⟨8, _⟩ => ⟨S16x8192x8192, .f32⟩
  | .hbm, ⟨9, _⟩ => ⟨S8192x16x256, .f32⟩
  | .hbm, ⟨10, _⟩ => ⟨S8192x16x128, .f32⟩
  | .hbm, ⟨11, _⟩ => ⟨S8192x8192x16, .f32⟩
  | .hbm, ⟨12, _⟩ => ⟨S16x8192x8192, .f32⟩
  | .hbm, ⟨13, _⟩ => ⟨S16x8192x8192, .f32⟩
  | .hbm, ⟨14, _⟩ => ⟨S_, .f32⟩
  | .hbm, ⟨15, _⟩ => ⟨S16x8192x8192, .f32⟩
  | .hbm, ⟨16, _⟩ => ⟨S16x8192x8192, .f32⟩
  | .hbm, ⟨17, _⟩ => ⟨S8192, .i32⟩
  | .hbm, ⟨18, _⟩ => ⟨S1x8192, .i32⟩
  | .hbm, ⟨19, _⟩ => ⟨S8192, .i32⟩
  | .hbm, ⟨20, _⟩ => ⟨S8192x1, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S_, .f32⟩
  | .hbm, ⟨25, _⟩ => ⟨S_, .f32⟩
  | .hbm, ⟨26, _⟩ => ⟨S16x8192x8192, .i1⟩
  | .hbm, ⟨27, _⟩ => ⟨S16x8192x8192, .f32⟩
  | .hbm, ⟨28, _⟩ => ⟨S16x8192x8192, .f32⟩
  | .hbm, ⟨29, _⟩ => ⟨S_, .f32⟩
  | .hbm, ⟨30, _⟩ => ⟨S16x8192, .f32⟩
  | .hbm, ⟨31, _⟩ => ⟨S16x8192x1, .f32⟩
  | .hbm, ⟨32, _⟩ => ⟨S16x8192x8192, .f32⟩
  | .hbm, ⟨33, _⟩ => ⟨S16x8192x8192, .f32⟩
  | .hbm, ⟨34, _⟩ => ⟨S16x8192x8192, .f32⟩
  | .hbm, ⟨35, _⟩ => ⟨S_, .f32⟩
  | .hbm, ⟨36, _⟩ => ⟨S16x8192, .f32⟩
  | .hbm, ⟨37, _⟩ => ⟨S_, .f32⟩
  | .hbm, ⟨38, _⟩ => ⟨S_, .f32⟩
  | .hbm, ⟨39, _⟩ => ⟨S16x8192, .f32⟩
  | .hbm, ⟨40, _⟩ => ⟨S16x8192, .f32⟩
  | .hbm, ⟨41, _⟩ => ⟨S16x8192, .f32⟩
  | .hbm, ⟨42, _⟩ => ⟨S16x8192, .f32⟩
  | .hbm, ⟨43, _⟩ => ⟨S16x8192x1, .f32⟩
  | .hbm, ⟨44, _⟩ => ⟨S16x8192x8192, .f32⟩
  | .hbm, ⟨45, _⟩ => ⟨S16x8192x8192, .f32⟩
  | .hbm, ⟨46, _⟩ => ⟨S8192x16x256, .f32⟩
  | .hbm, ⟨47, _⟩ => ⟨S8192x16x128, .f32⟩
  | .hbm, ⟨48, _⟩ => ⟨S16x128x8192, .f32⟩
  | .hbm, ⟨49, _⟩ => ⟨S8192x16x128, .f32⟩
  | .hbm, ⟨50, _⟩ => ⟨S8192x16x128, .f32⟩
  | .hbm, ⟨51, _⟩ => ⟨S8192x16x128, .f32⟩
  | .hbm, ⟨52, _⟩ => ⟨S_, .f32⟩
  | .hbm, ⟨53, _⟩ => ⟨S8192x16, .f32⟩
  | .hbm, ⟨54, _⟩ => ⟨S16x8192, .f32⟩
  | .hbm, ⟨55, _⟩ => ⟨S16x16x1x512, .f32⟩
  | .hbm, ⟨56, _⟩ => ⟨S16x16x1x512, .f32⟩
  | .hbm, ⟨57, _⟩ => ⟨S_, .f32⟩
  | .hbm, ⟨58, _⟩ => ⟨S8192x4096, .f32⟩
  | .hbm, ⟨59, _⟩ => ⟨S8192x4096, .f32⟩
  | .hbm, ⟨60, _⟩ => ⟨S8192x4096, .f32⟩
  | .hbm, ⟨61, _⟩ => ⟨S8192x4096, .f32⟩
  | .hbm, ⟨62, _⟩ => ⟨S8192x4096, .bf16⟩
  | .hbm, ⟨63, _⟩ => ⟨S8192x4096, .bf16⟩
  | .hbm, ⟨64, _⟩ => ⟨S8192x128, .bf16⟩
  | .hbm, ⟨65, _⟩ => ⟨S8192x2048, .bf16⟩
  | .hbm, ⟨66, _⟩ => ⟨S8192x4096, .bf16⟩
  | .hbm, ⟨67, _⟩ => ⟨S16x8192x128, .f32⟩
  | .hbm, ⟨68, _⟩ => ⟨S8192x4096, .f32⟩
  | .hbm, ⟨69, _⟩ => ⟨S_, .f32⟩
  | .hbm, ⟨70, _⟩ => ⟨S8192x4096, .f32⟩
  | .hbm, ⟨71, _⟩ => ⟨S8192x4096, .f32⟩
  | .local _ .vmem, ⟨0, _⟩ => ⟨S512x256, .bf16⟩
  | .local _ .vmem, ⟨1, _⟩ => ⟨S512x256, .bf16⟩
  | .local _ .vmem, ⟨2, _⟩ => ⟨S512x128, .bf16⟩
  | .local _ .vmem, ⟨3, _⟩ => ⟨S512x128, .bf16⟩
  | .local _ .vmem, ⟨4, _⟩ => ⟨S8192x256, .bf16⟩
  | .local _ .vmem, ⟨5, _⟩ => ⟨S8192x256, .bf16⟩
  | .local _ .vmem, ⟨6, _⟩ => ⟨S8192x128, .bf16⟩
  | .local _ .vmem, ⟨7, _⟩ => ⟨S8192x128, .bf16⟩
  | .local _ .vmem, ⟨8, _⟩ => ⟨S1x16x1x512, .f32⟩
  | .local _ .vmem, ⟨9, _⟩ => ⟨S1x16x1x512, .f32⟩
  | .local _ .vmem, ⟨10, _⟩ => ⟨S1x16x1x512, .f32⟩
  | .local _ .vmem, ⟨11, _⟩ => ⟨S1x16x1x512, .f32⟩
  | .local _ .vmem, ⟨12, _⟩ => ⟨S512x256, .bf16⟩
  | .local _ .vmem, ⟨13, _⟩ => ⟨S512x256, .bf16⟩
  | .local _ .vmem, ⟨14, _⟩ => ⟨S1x512x128, .f32⟩
  | .local _ .vmem, ⟨15, _⟩ => ⟨S1x512x128, .f32⟩
  | .local _ .vmem, ⟨16, _⟩ => ⟨S8192x256, .f32⟩
  | .local _ .vmem, ⟨17, _⟩ => ⟨S8192x256, .f32⟩
  | .local _ .vmem, ⟨18, _⟩ => ⟨S512x256, .f32⟩
  | .local _ .vmem, ⟨19, _⟩ => ⟨S512x128, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_5 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52_0 : Ref sig .tc := ⟨.hbm, 66, rfl⟩
abbrev main_v52_1 : Ref sig .tc := ⟨.hbm, 67, rfl⟩
abbrev main_v52_2 : Ref sig .tc := ⟨.hbm, 68, rfl⟩
abbrev main_cst_6 : Ref sig .tc := ⟨.hbm, 69, rfl⟩
abbrev main_v53 : Ref sig .tc := ⟨.hbm, 70, rfl⟩
abbrev main_v54 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let arg1 : BitVec 32 := BitVec.ofNat 32 (i 1).val
  let c512_i32 : BitVec 32 := 512#32
  let v19 : BitVec 32 := Scalar.muli arg1 c512_i32
  v19
def k0_off1 (i : grid0.Coords) : Fin 2 → Nat :=
  let arg1 : BitVec 32 := BitVec.ofNat 32 (i 1).val
  let c512_i32 : BitVec 32 := 512#32
  let v19 : BitVec 32 := Scalar.muli arg1 c512_i32
  let v20 : BitVec 32 := v19
  let v21 : Index := Scalar.indexCast v20
  let c0_10 : Index := 0#32
  ![v21.toNat, 0]
def k0_off2 (i : grid0.Coords) : Fin 2 → Nat :=
  let arg1 : BitVec 32 := BitVec.ofNat 32 (i 1).val
  let c512_i32 : BitVec 32 := 512#32
  let v19 : BitVec 32 := Scalar.muli arg1 c512_i32
  let v20 : BitVec 32 := v19
  let v28 : Index := Scalar.indexCast v20
  let c0_14 : Index := 0#32
  ![v28.toNat, 0]
def k0_cond2 (i : grid0.Coords) : BitVec 1 :=
  let c15_i32 : BitVec 32 := 15#32
  let arg1 : BitVec 32 := BitVec.ofNat 32 (i 1).val
  let v18 : BitVec 32 := Scalar.subi c15_i32 arg1
  let c0_i32_18 : BitVec 32 := 0#32
  let v35 : BitVec 1 := Scalar.cmpi .eq v18 c0_i32_18
  let v36 : BitVec 32 := Scalar.extui v35
  let c0_i32_19 : BitVec 32 := 0#32
  let v37 : BitVec 1 := Scalar.cmpi .ne v36 c0_i32_19
  v37

def k0_mult2 (i : grid0.Coords) : BitVec 32 :=
  let arg1 : BitVec 32 := BitVec.ofNat 32 (i 1).val
  let c512_i32_34 : BitVec 32 := 512#32
  let v54 : BitVec 32 := Scalar.muli arg1 c512_i32_34
  v54
def k0_off3 (i : grid0.Coords) : Fin 2 → Nat :=
  let arg1 : BitVec 32 := BitVec.ofNat 32 (i 1).val
  let c512_i32_34 : BitVec 32 := 512#32
  let v54 : BitVec 32 := Scalar.muli arg1 c512_i32_34
  let v55 : BitVec 32 := v54
  let v56 : Index := Scalar.indexCast v55
  let c0_35 : Index := 0#32
  ![v56.toNat, 0]
def k0_off4 (i : grid0.Coords) : Fin 2 → Nat :=
  let arg1 : BitVec 32 := BitVec.ofNat 32 (i 1).val
  let c512_i32_34 : BitVec 32 := 512#32
  let v54 : BitVec 32 := Scalar.muli arg1 c512_i32_34
  let v55 : BitVec 32 := v54
  let v59 : Index := Scalar.indexCast v55
  let c0_36 : Index := 0#32
  ![v59.toNat, 0]
def k0_off5 (i : grid0.Coords) : Fin 4 → Nat :=
  let c0_40 : Index := 0#32
  let arg1 : BitVec 32 := BitVec.ofNat 32 (i 1).val
  let v68 : Index := Scalar.indexCast arg1
  let c0_41 : Index := 0#32
  let c0_42 : Index := 0#32
  ![0, v68.toNat, 0, 0]
def k0_cond3 (i : grid0.Coords) : BitVec 1 :=
  let c15_i32 : BitVec 32 := 15#32
  let arg1 : BitVec 32 := BitVec.ofNat 32 (i 1).val
  let v18 : BitVec 32 := Scalar.subi c15_i32 arg1
  let c0_i32_20 : BitVec 32 := 0#32
  let v38 : BitVec 1 := Scalar.cmpi .sgt v18 c0_i32_20
  let v39 : BitVec 32 := Scalar.extui v38
  let c0_i32_21 : BitVec 32 := 0#32
  let v40 : BitVec 1 := Scalar.cmpi .ne v39 c0_i32_21
  v40

def k0_mult3 (i : grid0.Coords) : BitVec 32 :=
  let arg1 : BitVec 32 := BitVec.ofNat 32 (i 1).val
  let c1_i32 : BitVec 32 := 1#32
  let v54 : BitVec 32 := Scalar.addi arg1 c1_i32
  let c512_i32_34 : BitVec 32 := 512#32
  let v55 : BitVec 32 := Scalar.muli v54 c512_i32_34
  v55
def k0_off6 (i : grid0.Coords) : Fin 2 → Nat :=
  let arg1 : BitVec 32 := BitVec.ofNat 32 (i 1).val
  let c1_i32 : BitVec 32 := 1#32
  let v54 : BitVec 32 := Scalar.addi arg1 c1_i32
  let c512_i32_34 : BitVec 32 := 512#32
  let v55 : BitVec 32 := Scalar.muli v54 c512_i32_34
  let v56 : BitVec 32 := v55
  let v57 : Index := Scalar.indexCast v56
  let c0_35 : Index := 0#32
  ![v57.toNat, 0]
def k0_off7 (i : grid0.Coords) : Fin 2 → Nat :=
  let arg1 : BitVec 32 := BitVec.ofNat 32 (i 1).val
  let c1_i32 : BitVec 32 := 1#32
  let v54 : BitVec 32 := Scalar.addi arg1 c1_i32
  let c512_i32_34 : BitVec 32 := 512#32
  let v55 : BitVec 32 := Scalar.muli v54 c512_i32_34
  let v56 : BitVec 32 := v55
  let v64 : Index := Scalar.indexCast v56
  let c0_39 : Index := 0#32
  ![v64.toNat, 0]
def k0_mult4 (i : grid0.Coords) : BitVec 32 :=
  let arg1 : BitVec 32 := BitVec.ofNat 32 (i 1).val
  let c512_i32_43 : BitVec 32 := 512#32
  let v71 : BitVec 32 := Scalar.muli arg1 c512_i32_43
  v71
def k0_off8 (i : grid0.Coords) : Fin 2 → Nat :=
  let arg1 : BitVec 32 := BitVec.ofNat 32 (i 1).val
  let c512_i32_43 : BitVec 32 := 512#32
  let v71 : BitVec 32 := Scalar.muli arg1 c512_i32_43
  let v72 : BitVec 32 := v71
  let v73 : Index := Scalar.indexCast v72
  let c0_44 : Index := 0#32
  ![v73.toNat, 0]
def k0_off9 (i : grid0.Coords) : Fin 2 → Nat :=
  let arg1 : BitVec 32 := BitVec.ofNat 32 (i 1).val
  let c512_i32_43 : BitVec 32 := 512#32
  let v71 : BitVec 32 := Scalar.muli arg1 c512_i32_43
  let v72 : BitVec 32 := v71
  let v76 : Index := Scalar.indexCast v72
  let c0_45 : Index := 0#32
  ![v76.toNat, 0]
def k0_off10 (i : grid0.Coords) : Fin 4 → Nat :=
  let c0_49 : Index := 0#32
  let arg1 : BitVec 32 := BitVec.ofNat 32 (i 1).val
  let v85 : Index := Scalar.indexCast arg1
  let c0_50 : Index := 0#32
  let c0_51 : Index := 0#32
  ![0, v85.toNat, 0, 0]
@[reducible] def k0_t1_loop (i : grid0.Coords) : Scf.Loop 32 :=
  let c0_i32_78 : BitVec 32 := 0#32
  let c15_i32 : BitVec 32 := 15#32
  let arg1 : BitVec 32 := BitVec.ofNat 32 (i 1).val
  let v18 : BitVec 32 := Scalar.subi c15_i32 arg1
  let c1_i32_70 : BitVec 32 := 1#32
  let v119 : BitVec 32 := Scalar.subi v18 c1_i32_70
  let c0_i32_71 : BitVec 32 := 0#32
  let v121 : BitVec 1 := Scalar.cmpi .sgt v119 c0_i32_71
  let v122 : BitVec 32 := Scalar.extui v121
  let c0_i32_72 : BitVec 32 := 0#32
  let v123 : BitVec 1 := Scalar.cmpi .slt v119 c0_i32_72
  let v124 : BitVec 32 := Scalar.extui v123
  let v125 : BitVec 32 := Scalar.subi v122 v124
  let c2_i32 : BitVec 32 := 2#32
  let c0_i32_73 : BitVec 32 := 0#32
  let v126 : BitVec 1 := Scalar.cmpi .sgt c2_i32 c0_i32_73
  let v127 : BitVec 32 := Scalar.extui v126
  let c0_i32_74 : BitVec 32 := 0#32
  let v128 : BitVec 1 := Scalar.cmpi .slt c2_i32 c0_i32_74
  let v129 : BitVec 32 := Scalar.extui v128
  let v130 : BitVec 32 := Scalar.subi v127 v129
  let v131 : BitVec 1 := Scalar.cmpi .ne v125 v130
  let v132 : BitVec 32 := Scalar.remsi v119 c2_i32
  let c0_i32_75 : BitVec 32 := 0#32
  let v133 : BitVec 1 := Scalar.cmpi .ne v132 c0_i32_75
  let v134 : BitVec 1 := Scalar.andi v131 v133
  let v120 : BitVec 32 := Scalar.divsi v119 c2_i32
  let c1_i32_76 : BitVec 32 := 1#32
  let v135 : BitVec 32 := Scalar.subi v120 c1_i32_76
  let v136 : BitVec 32 := Scalar.select v134 v135 v120
  let v137 : BitVec 32 := Scalar.subi v136 c0_i32_78
  let c1_i32_79 : BitVec 32 := 1#32
  let v139 : BitVec 32 := Scalar.divsi v137 c1_i32_79
  let v140 : BitVec 32 := Scalar.muli v139 c1_i32_79
  let v141 : BitVec 32 := Scalar.addi c0_i32_78 v140
  let c1_i32_80 : BitVec 32 := 1#32
  ⟨c0_i32_78, v141, c1_i32_80⟩
def k0_mult5 (i : grid0.Coords) (k0_t1 : Fin (k0_t1_loop i).trips) : BitVec 32 :=
  let arg1 : BitVec 32 := BitVec.ofNat 32 (i 1).val
  let c1_i32_88 : BitVec 32 := 1#32
  let v151 : BitVec 32 := Scalar.addi arg1 c1_i32_88
  let c2_i32_89 : BitVec 32 := 2#32
  let c0_i32_78 : BitVec 32 := 0#32
  let c1_i32_80 : BitVec 32 := 1#32
  let arg17 : BitVec 32 := Scf.iv c0_i32_78 c1_i32_80 k0_t1
  let v152 : BitVec 32 := Scalar.muli c2_i32_89 arg17
  let v153 : BitVec 32 := Scalar.addi v151 v152
  let c1_i32_90 : BitVec 32 := 1#32
  let v154 : BitVec 32 := Scalar.addi v153 c1_i32_90
  let c512_i32_91 : BitVec 32 := 512#32
  let v155 : BitVec 32 := Scalar.muli v154 c512_i32_91
  v155
def k0_off11 (i : grid0.Coords) (k0_t1 : Fin (k0_t1_loop i).trips) (c1_i32_90 : BitVec 32) : Fin 2 → Nat :=
  let arg1 : BitVec 32 := BitVec.ofNat 32 (i 1).val
  let c1_i32_88 : BitVec 32 := 1#32
  let v151 : BitVec 32 := Scalar.addi arg1 c1_i32_88
  let c2_i32_89 : BitVec 32 := 2#32
  let c0_i32_78 : BitVec 32 := 0#32
  let c1_i32_80 : BitVec 32 := 1#32
  let arg17 : BitVec 32 := Scf.iv c0_i32_78 c1_i32_80 k0_t1
  let v152 : BitVec 32 := Scalar.muli c2_i32_89 arg17
  let v153 : BitVec 32 := Scalar.addi v151 v152
  let v154 : BitVec 32 := Scalar.addi v153 c1_i32_90
  let c512_i32_91 : BitVec 32 := 512#32
  let v155 : BitVec 32 := Scalar.muli v154 c512_i32_91
  let v156 : BitVec 32 := v155
  let v157 : Index := Scalar.indexCast v156
  let c0_92 : Index := 0#32
  ![v157.toNat, 0]
def k0_off12 (i : grid0.Coords) (k0_t1 : Fin (k0_t1_loop i).trips) (c1_i32_90 : BitVec 32) : Fin 2 → Nat :=
  let arg1 : BitVec 32 := BitVec.ofNat 32 (i 1).val
  let c1_i32_88 : BitVec 32 := 1#32
  let v151 : BitVec 32 := Scalar.addi arg1 c1_i32_88
  let c2_i32_89 : BitVec 32 := 2#32
  let c0_i32_78 : BitVec 32 := 0#32
  let c1_i32_80 : BitVec 32 := 1#32
  let arg17 : BitVec 32 := Scf.iv c0_i32_78 c1_i32_80 k0_t1
  let v152 : BitVec 32 := Scalar.muli c2_i32_89 arg17
  let v153 : BitVec 32 := Scalar.addi v151 v152
  let v154 : BitVec 32 := Scalar.addi v153 c1_i32_90
  let c512_i32_91 : BitVec 32 := 512#32
  let v155 : BitVec 32 := Scalar.muli v154 c512_i32_91
  let v156 : BitVec 32 := v155
  let v164 : Index := Scalar.indexCast v156
  let c0_96 : Index := 0#32
  ![v164.toNat, 0]
def k0_mult6 (i : grid0.Coords) (k0_t1 : Fin (k0_t1_loop i).trips) : BitVec 32 :=
  let arg1 : BitVec 32 := BitVec.ofNat 32 (i 1).val
  let c1_i32_88 : BitVec 32 := 1#32
  let v151 : BitVec 32 := Scalar.addi arg1 c1_i32_88
  let c2_i32_89 : BitVec 32 := 2#32
  let c0_i32_78 : BitVec 32 := 0#32
  let c1_i32_80 : BitVec 32 := 1#32
  let arg17 : BitVec 32 := Scf.iv c0_i32_78 c1_i32_80 k0_t1
  let v152 : BitVec 32 := Scalar.muli c2_i32_89 arg17
  let v153 : BitVec 32 := Scalar.addi v151 v152
  let c512_i32_100 : BitVec 32 := 512#32
  let v171 : BitVec 32 := Scalar.muli v153 c512_i32_100
  v171
def k0_off13 (i : grid0.Coords) (k0_t1 : Fin (k0_t1_loop i).trips) : Fin 2 → Nat :=
  let arg1 : BitVec 32 := BitVec.ofNat 32 (i 1).val
  let c1_i32_88 : BitVec 32 := 1#32
  let v151 : BitVec 32 := Scalar.addi arg1 c1_i32_88
  let c2_i32_89 : BitVec 32 := 2#32
  let c0_i32_78 : BitVec 32 := 0#32
  let c1_i32_80 : BitVec 32 := 1#32
  let arg17 : BitVec 32 := Scf.iv c0_i32_78 c1_i32_80 k0_t1
  let v152 : BitVec 32 := Scalar.muli c2_i32_89 arg17
  let v153 : BitVec 32 := Scalar.addi v151 v152
  let c512_i32_100 : BitVec 32 := 512#32
  let v171 : BitVec 32 := Scalar.muli v153 c512_i32_100
  let v172 : BitVec 32 := v171
  let v173 : Index := Scalar.indexCast v172
  let c0_101 : Index := 0#32
  ![v173.toNat, 0]
def k0_off14 (i : grid0.Coords) (k0_t1 : Fin (k0_t1_loop i).trips) : Fin 2 → Nat :=
  let arg1 : BitVec 32 := BitVec.ofNat 32 (i 1).val
  let c1_i32_88 : BitVec 32 := 1#32
  let v151 : BitVec 32 := Scalar.addi arg1 c1_i32_88
  let c2_i32_89 : BitVec 32 := 2#32
  let c0_i32_78 : BitVec 32 := 0#32
  let c1_i32_80 : BitVec 32 := 1#32
  let arg17 : BitVec 32 := Scf.iv c0_i32_78 c1_i32_80 k0_t1
  let v152 : BitVec 32 := Scalar.muli c2_i32_89 arg17
  let v153 : BitVec 32 := Scalar.addi v151 v152
  let c512_i32_100 : BitVec 32 := 512#32
  let v171 : BitVec 32 := Scalar.muli v153 c512_i32_100
  let v172 : BitVec 32 := v171
  let v176 : Index := Scalar.indexCast v172
  let c0_102 : Index := 0#32
  ![v176.toNat, 0]
def k0_off15 (i : grid0.Coords) (k0_t1 : Fin (k0_t1_loop i).trips) : Fin 4 → Nat :=
  let c0_105 : Index := 0#32
  let arg1 : BitVec 32 := BitVec.ofNat 32 (i 1).val
  let c1_i32_88 : BitVec 32 := 1#32
  let v151 : BitVec 32 := Scalar.addi arg1 c1_i32_88
  let c2_i32_89 : BitVec 32 := 2#32
  let c0_i32_78 : BitVec 32 := 0#32
  let c1_i32_80 : BitVec 32 := 1#32
  let arg17 : BitVec 32 := Scf.iv c0_i32_78 c1_i32_80 k0_t1
  let v152 : BitVec 32 := Scalar.muli c2_i32_89 arg17
  let v153 : BitVec 32 := Scalar.addi v151 v152
  let v180 : Index := Scalar.indexCast v153
  let c0_106 : Index := 0#32
  let c0_107 : Index := 0#32
  ![0, v180.toNat, 0, 0]
def k0_mult7 (i : grid0.Coords) (k0_t1 : Fin (k0_t1_loop i).trips) : BitVec 32 :=
  let arg1 : BitVec 32 := BitVec.ofNat 32 (i 1).val
  let c1_i32_88 : BitVec 32 := 1#32
  let v151 : BitVec 32 := Scalar.addi arg1 c1_i32_88
  let c2_i32_89 : BitVec 32 := 2#32
  let c0_i32_78 : BitVec 32 := 0#32
  let c1_i32_80 : BitVec 32 := 1#32
  let arg17 : BitVec 32 := Scf.iv c0_i32_78 c1_i32_80 k0_t1
  let v152 : BitVec 32 := Scalar.muli c2_i32_89 arg17
  let v153 : BitVec 32 := Scalar.addi v151 v152
  let c2_i32_126 : BitVec 32 := 2#32
  let v214 : BitVec 32 := Scalar.addi v153 c2_i32_126
  let c512_i32_127 : BitVec 32 := 512#32
  let v215 : BitVec 32 := Scalar.muli v214 c512_i32_127
  v215
def k0_mult8 (i : grid0.Coords) (k0_t1 : Fin (k0_t1_loop i).trips) : BitVec 32 :=
  let arg1 : BitVec 32 := BitVec.ofNat 32 (i 1).val
  let c1_i32_88 : BitVec 32 := 1#32
  let v151 : BitVec 32 := Scalar.addi arg1 c1_i32_88
  let c2_i32_89 : BitVec 32 := 2#32
  let c0_i32_78 : BitVec 32 := 0#32
  let c1_i32_80 : BitVec 32 := 1#32
  let arg17 : BitVec 32 := Scf.iv c0_i32_78 c1_i32_80 k0_t1
  let v152 : BitVec 32 := Scalar.muli c2_i32_89 arg17
  let v153 : BitVec 32 := Scalar.addi v151 v152
  let c1_i32_136 : BitVec 32 := 1#32
  let v231 : BitVec 32 := Scalar.addi v153 c1_i32_136
  let c512_i32_137 : BitVec 32 := 512#32
  let v232 : BitVec 32 := Scalar.muli v231 c512_i32_137
  v232
def k0_off16 (i : grid0.Coords) (k0_t1 : Fin (k0_t1_loop i).trips) : Fin 4 → Nat :=
  let c0_142 : Index := 0#32
  let arg1 : BitVec 32 := BitVec.ofNat 32 (i 1).val
  let c1_i32_88 : BitVec 32 := 1#32
  let v151 : BitVec 32 := Scalar.addi arg1 c1_i32_88
  let c2_i32_89 : BitVec 32 := 2#32
  let c0_i32_78 : BitVec 32 := 0#32
  let c1_i32_80 : BitVec 32 := 1#32
  let arg17 : BitVec 32 := Scf.iv c0_i32_78 c1_i32_80 k0_t1
  let v152 : BitVec 32 := Scalar.muli c2_i32_89 arg17
  let v153 : BitVec 32 := Scalar.addi v151 v152
  let c1_i32_136 : BitVec 32 := 1#32
  let v231 : BitVec 32 := Scalar.addi v153 c1_i32_136
  let v241 : Index := Scalar.indexCast v231
  let c0_143 : Index := 0#32
  let c0_144 : Index := 0#32
  ![0, v241.toNat, 0, 0]
@[reducible] def k0_t2_loop (i : grid0.Coords) : Scf.Loop 32 :=
  let c0_i32_78 : BitVec 32 := 0#32
  let c15_i32 : BitVec 32 := 15#32
  let arg1 : BitVec 32 := BitVec.ofNat 32 (i 1).val
  let v18 : BitVec 32 := Scalar.subi c15_i32 arg1
  let c1_i32_70 : BitVec 32 := 1#32
  let v119 : BitVec 32 := Scalar.subi v18 c1_i32_70
  let c0_i32_71 : BitVec 32 := 0#32
  let v121 : BitVec 1 := Scalar.cmpi .sgt v119 c0_i32_71
  let v122 : BitVec 32 := Scalar.extui v121
  let c0_i32_72 : BitVec 32 := 0#32
  let v123 : BitVec 1 := Scalar.cmpi .slt v119 c0_i32_72
  let v124 : BitVec 32 := Scalar.extui v123
  let v125 : BitVec 32 := Scalar.subi v122 v124
  let c2_i32 : BitVec 32 := 2#32
  let c0_i32_73 : BitVec 32 := 0#32
  let v126 : BitVec 1 := Scalar.cmpi .sgt c2_i32 c0_i32_73
  let v127 : BitVec 32 := Scalar.extui v126
  let c0_i32_74 : BitVec 32 := 0#32
  let v128 : BitVec 1 := Scalar.cmpi .slt c2_i32 c0_i32_74
  let v129 : BitVec 32 := Scalar.extui v128
  let v130 : BitVec 32 := Scalar.subi v127 v129
  let v131 : BitVec 1 := Scalar.cmpi .ne v125 v130
  let v132 : BitVec 32 := Scalar.remsi v119 c2_i32
  let c0_i32_75 : BitVec 32 := 0#32
  let v133 : BitVec 1 := Scalar.cmpi .ne v132 c0_i32_75
  let v134 : BitVec 1 := Scalar.andi v131 v133
  let v120 : BitVec 32 := Scalar.divsi v119 c2_i32
  let c1_i32_76 : BitVec 32 := 1#32
  let v135 : BitVec 32 := Scalar.subi v120 c1_i32_76
  let v136 : BitVec 32 := Scalar.select v134 v135 v120
  let v137 : BitVec 32 := Scalar.subi v136 c0_i32_78
  let c1_i32_79 : BitVec 32 := 1#32
  let v139 : BitVec 32 := Scalar.divsi v137 c1_i32_79
  let v140 : BitVec 32 := Scalar.muli v139 c1_i32_79
  let v141 : BitVec 32 := Scalar.addi c0_i32_78 v140
  let v138 : BitVec 32 := Scalar.addi c0_i32_78 v137
  let c1_i32_81 : BitVec 32 := 1#32
  ⟨v141, v138, c1_i32_81⟩
def k0_mult9 (i : grid0.Coords) (k0_t2 : Fin (k0_t2_loop i).trips) : BitVec 32 :=
  let arg1 : BitVec 32 := BitVec.ofNat 32 (i 1).val
  let c1_i32_88 : BitVec 32 := 1#32
  let v151 : BitVec 32 := Scalar.addi arg1 c1_i32_88
  let c2_i32_89 : BitVec 32 := 2#32
  let c0_i32_78 : BitVec 32 := 0#32
  let c15_i32 : BitVec 32 := 15#32
  let v18 : BitVec 32 := Scalar.subi c15_i32 arg1
  let c1_i32_70 : BitVec 32 := 1#32
  let v119 : BitVec 32 := Scalar.subi v18 c1_i32_70
  let c0_i32_71 : BitVec 32 := 0#32
  let v121 : BitVec 1 := Scalar.cmpi .sgt v119 c0_i32_71
  let v122 : BitVec 32 := Scalar.extui v121
  let c0_i32_72 : BitVec 32 := 0#32
  let v123 : BitVec 1 := Scalar.cmpi .slt v119 c0_i32_72
  let v124 : BitVec 32 := Scalar.extui v123
  let v125 : BitVec 32 := Scalar.subi v122 v124
  let c2_i32 : BitVec 32 := 2#32
  let c0_i32_73 : BitVec 32 := 0#32
  let v126 : BitVec 1 := Scalar.cmpi .sgt c2_i32 c0_i32_73
  let v127 : BitVec 32 := Scalar.extui v126
  let c0_i32_74 : BitVec 32 := 0#32
  let v128 : BitVec 1 := Scalar.cmpi .slt c2_i32 c0_i32_74
  let v129 : BitVec 32 := Scalar.extui v128
  let v130 : BitVec 32 := Scalar.subi v127 v129
  let v131 : BitVec 1 := Scalar.cmpi .ne v125 v130
  let v132 : BitVec 32 := Scalar.remsi v119 c2_i32
  let c0_i32_75 : BitVec 32 := 0#32
  let v133 : BitVec 1 := Scalar.cmpi .ne v132 c0_i32_75
  let v134 : BitVec 1 := Scalar.andi v131 v133
  let v120 : BitVec 32 := Scalar.divsi v119 c2_i32
  let c1_i32_76 : BitVec 32 := 1#32
  let v135 : BitVec 32 := Scalar.subi v120 c1_i32_76
  let v136 : BitVec 32 := Scalar.select v134 v135 v120
  let v137 : BitVec 32 := Scalar.subi v136 c0_i32_78
  let c1_i32_79 : BitVec 32 := 1#32
  let v139 : BitVec 32 := Scalar.divsi v137 c1_i32_79
  let v140 : BitVec 32 := Scalar.muli v139 c1_i32_79
  let v141 : BitVec 32 := Scalar.addi c0_i32_78 v140
  let c1_i32_81 : BitVec 32 := 1#32
  let arg17 : BitVec 32 := Scf.iv v141 c1_i32_81 k0_t2
  let v152 : BitVec 32 := Scalar.muli c2_i32_89 arg17
  let v153 : BitVec 32 := Scalar.addi v151 v152
  let c1_i32_90 : BitVec 32 := 1#32
  let v154 : BitVec 32 := Scalar.addi v153 c1_i32_90
  let c512_i32_91 : BitVec 32 := 512#32
  let v155 : BitVec 32 := Scalar.muli v154 c512_i32_91
  v155
def k0_off17 (i : grid0.Coords) (k0_t2 : Fin (k0_t2_loop i).trips) (c1_i32_90 : BitVec 32) : Fin 2 → Nat :=
  let arg1 : BitVec 32 := BitVec.ofNat 32 (i 1).val
  let c1_i32_88 : BitVec 32 := 1#32
  let v151 : BitVec 32 := Scalar.addi arg1 c1_i32_88
  let c2_i32_89 : BitVec 32 := 2#32
  let c0_i32_78 : BitVec 32 := 0#32
  let c15_i32 : BitVec 32 := 15#32
  let v18 : BitVec 32 := Scalar.subi c15_i32 arg1
  let c1_i32_70 : BitVec 32 := 1#32
  let v119 : BitVec 32 := Scalar.subi v18 c1_i32_70
  let c0_i32_71 : BitVec 32 := 0#32
  let v121 : BitVec 1 := Scalar.cmpi .sgt v119 c0_i32_71
  let v122 : BitVec 32 := Scalar.extui v121
  let c0_i32_72 : BitVec 32 := 0#32
  let v123 : BitVec 1 := Scalar.cmpi .slt v119 c0_i32_72
  let v124 : BitVec 32 := Scalar.extui v123
  let v125 : BitVec 32 := Scalar.subi v122 v124
  let c2_i32 : BitVec 32 := 2#32
  let c0_i32_73 : BitVec 32 := 0#32
  let v126 : BitVec 1 := Scalar.cmpi .sgt c2_i32 c0_i32_73
  let v127 : BitVec 32 := Scalar.extui v126
  let c0_i32_74 : BitVec 32 := 0#32
  let v128 : BitVec 1 := Scalar.cmpi .slt c2_i32 c0_i32_74
  let v129 : BitVec 32 := Scalar.extui v128
  let v130 : BitVec 32 := Scalar.subi v127 v129
  let v131 : BitVec 1 := Scalar.cmpi .ne v125 v130
  let v132 : BitVec 32 := Scalar.remsi v119 c2_i32
  let c0_i32_75 : BitVec 32 := 0#32
  let v133 : BitVec 1 := Scalar.cmpi .ne v132 c0_i32_75
  let v134 : BitVec 1 := Scalar.andi v131 v133
  let v120 : BitVec 32 := Scalar.divsi v119 c2_i32
  let c1_i32_76 : BitVec 32 := 1#32
  let v135 : BitVec 32 := Scalar.subi v120 c1_i32_76
  let v136 : BitVec 32 := Scalar.select v134 v135 v120
  let v137 : BitVec 32 := Scalar.subi v136 c0_i32_78
  let c1_i32_79 : BitVec 32 := 1#32
  let v139 : BitVec 32 := Scalar.divsi v137 c1_i32_79
  let v140 : BitVec 32 := Scalar.muli v139 c1_i32_79
  let v141 : BitVec 32 := Scalar.addi c0_i32_78 v140
  let c1_i32_81 : BitVec 32 := 1#32
  let arg17 : BitVec 32 := Scf.iv v141 c1_i32_81 k0_t2
  let v152 : BitVec 32 := Scalar.muli c2_i32_89 arg17
  let v153 : BitVec 32 := Scalar.addi v151 v152
  let v154 : BitVec 32 := Scalar.addi v153 c1_i32_90
  let c512_i32_91 : BitVec 32 := 512#32
  let v155 : BitVec 32 := Scalar.muli v154 c512_i32_91
  let v156 : BitVec 32 := v155
  let v157 : Index := Scalar.indexCast v156
  let c0_92 : Index := 0#32
  ![v157.toNat, 0]
def k0_off18 (i : grid0.Coords) (k0_t2 : Fin (k0_t2_loop i).trips) (c1_i32_90 : BitVec 32) : Fin 2 → Nat :=
  let arg1 : BitVec 32 := BitVec.ofNat 32 (i 1).val
  let c1_i32_88 : BitVec 32 := 1#32
  let v151 : BitVec 32 := Scalar.addi arg1 c1_i32_88
  let c2_i32_89 : BitVec 32 := 2#32
  let c0_i32_78 : BitVec 32 := 0#32
  let c15_i32 : BitVec 32 := 15#32
  let v18 : BitVec 32 := Scalar.subi c15_i32 arg1
  let c1_i32_70 : BitVec 32 := 1#32
  let v119 : BitVec 32 := Scalar.subi v18 c1_i32_70
  let c0_i32_71 : BitVec 32 := 0#32
  let v121 : BitVec 1 := Scalar.cmpi .sgt v119 c0_i32_71
  let v122 : BitVec 32 := Scalar.extui v121
  let c0_i32_72 : BitVec 32 := 0#32
  let v123 : BitVec 1 := Scalar.cmpi .slt v119 c0_i32_72
  let v124 : BitVec 32 := Scalar.extui v123
  let v125 : BitVec 32 := Scalar.subi v122 v124
  let c2_i32 : BitVec 32 := 2#32
  let c0_i32_73 : BitVec 32 := 0#32
  let v126 : BitVec 1 := Scalar.cmpi .sgt c2_i32 c0_i32_73
  let v127 : BitVec 32 := Scalar.extui v126
  let c0_i32_74 : BitVec 32 := 0#32
  let v128 : BitVec 1 := Scalar.cmpi .slt c2_i32 c0_i32_74
  let v129 : BitVec 32 := Scalar.extui v128
  let v130 : BitVec 32 := Scalar.subi v127 v129
  let v131 : BitVec 1 := Scalar.cmpi .ne v125 v130
  let v132 : BitVec 32 := Scalar.remsi v119 c2_i32
  let c0_i32_75 : BitVec 32 := 0#32
  let v133 : BitVec 1 := Scalar.cmpi .ne v132 c0_i32_75
  let v134 : BitVec 1 := Scalar.andi v131 v133
  let v120 : BitVec 32 := Scalar.divsi v119 c2_i32
  let c1_i32_76 : BitVec 32 := 1#32
  let v135 : BitVec 32 := Scalar.subi v120 c1_i32_76
  let v136 : BitVec 32 := Scalar.select v134 v135 v120
  let v137 : BitVec 32 := Scalar.subi v136 c0_i32_78
  let c1_i32_79 : BitVec 32 := 1#32
  let v139 : BitVec 32 := Scalar.divsi v137 c1_i32_79
  let v140 : BitVec 32 := Scalar.muli v139 c1_i32_79
  let v141 : BitVec 32 := Scalar.addi c0_i32_78 v140
  let c1_i32_81 : BitVec 32 := 1#32
  let arg17 : BitVec 32 := Scf.iv v141 c1_i32_81 k0_t2
  let v152 : BitVec 32 := Scalar.muli c2_i32_89 arg17
  let v153 : BitVec 32 := Scalar.addi v151 v152
  let v154 : BitVec 32 := Scalar.addi v153 c1_i32_90
  let c512_i32_91 : BitVec 32 := 512#32
  let v155 : BitVec 32 := Scalar.muli v154 c512_i32_91
  let v156 : BitVec 32 := v155
  let v164 : Index := Scalar.indexCast v156
  let c0_96 : Index := 0#32
  ![v164.toNat, 0]
def k0_mult10 (i : grid0.Coords) (k0_t2 : Fin (k0_t2_loop i).trips) : BitVec 32 :=
  let arg1 : BitVec 32 := BitVec.ofNat 32 (i 1).val
  let c1_i32_88 : BitVec 32 := 1#32
  let v151 : BitVec 32 := Scalar.addi arg1 c1_i32_88
  let c2_i32_89 : BitVec 32 := 2#32
  let c0_i32_78 : BitVec 32 := 0#32
  let c15_i32 : BitVec 32 := 15#32
  let v18 : BitVec 32 := Scalar.subi c15_i32 arg1
  let c1_i32_70 : BitVec 32 := 1#32
  let v119 : BitVec 32 := Scalar.subi v18 c1_i32_70
  let c0_i32_71 : BitVec 32 := 0#32
  let v121 : BitVec 1 := Scalar.cmpi .sgt v119 c0_i32_71
  let v122 : BitVec 32 := Scalar.extui v121
  let c0_i32_72 : BitVec 32 := 0#32
  let v123 : BitVec 1 := Scalar.cmpi .slt v119 c0_i32_72
  let v124 : BitVec 32 := Scalar.extui v123
  let v125 : BitVec 32 := Scalar.subi v122 v124
  let c2_i32 : BitVec 32 := 2#32
  let c0_i32_73 : BitVec 32 := 0#32
  let v126 : BitVec 1 := Scalar.cmpi .sgt c2_i32 c0_i32_73
  let v127 : BitVec 32 := Scalar.extui v126
  let c0_i32_74 : BitVec 32 := 0#32
  let v128 : BitVec 1 := Scalar.cmpi .slt c2_i32 c0_i32_74
  let v129 : BitVec 32 := Scalar.extui v128
  let v130 : BitVec 32 := Scalar.subi v127 v129
  let v131 : BitVec 1 := Scalar.cmpi .ne v125 v130
  let v132 : BitVec 32 := Scalar.remsi v119 c2_i32
  let c0_i32_75 : BitVec 32 := 0#32
  let v133 : BitVec 1 := Scalar.cmpi .ne v132 c0_i32_75
  let v134 : BitVec 1 := Scalar.andi v131 v133
  let v120 : BitVec 32 := Scalar.divsi v119 c2_i32
  let c1_i32_76 : BitVec 32 := 1#32
  let v135 : BitVec 32 := Scalar.subi v120 c1_i32_76
  let v136 : BitVec 32 := Scalar.select v134 v135 v120
  let v137 : BitVec 32 := Scalar.subi v136 c0_i32_78
  let c1_i32_79 : BitVec 32 := 1#32
  let v139 : BitVec 32 := Scalar.divsi v137 c1_i32_79
  let v140 : BitVec 32 := Scalar.muli v139 c1_i32_79
  let v141 : BitVec 32 := Scalar.addi c0_i32_78 v140
  let c1_i32_81 : BitVec 32 := 1#32
  let arg17 : BitVec 32 := Scf.iv v141 c1_i32_81 k0_t2
  let v152 : BitVec 32 := Scalar.muli c2_i32_89 arg17
  let v153 : BitVec 32 := Scalar.addi v151 v152
  let c512_i32_100 : BitVec 32 := 512#32
  let v171 : BitVec 32 := Scalar.muli v153 c512_i32_100
  v171
def k0_off19 (i : grid0.Coords) (k0_t2 : Fin (k0_t2_loop i).trips) : Fin 2 → Nat :=
  let arg1 : BitVec 32 := BitVec.ofNat 32 (i 1).val
  let c1_i32_88 : BitVec 32 := 1#32
  let v151 : BitVec 32 := Scalar.addi arg1 c1_i32_88
  let c2_i32_89 : BitVec 32 := 2#32
  let c0_i32_78 : BitVec 32 := 0#32
  let c15_i32 : BitVec 32 := 15#32
  let v18 : BitVec 32 := Scalar.subi c15_i32 arg1
  let c1_i32_70 : BitVec 32 := 1#32
  let v119 : BitVec 32 := Scalar.subi v18 c1_i32_70
  let c0_i32_71 : BitVec 32 := 0#32
  let v121 : BitVec 1 := Scalar.cmpi .sgt v119 c0_i32_71
  let v122 : BitVec 32 := Scalar.extui v121
  let c0_i32_72 : BitVec 32 := 0#32
  let v123 : BitVec 1 := Scalar.cmpi .slt v119 c0_i32_72
  let v124 : BitVec 32 := Scalar.extui v123
  let v125 : BitVec 32 := Scalar.subi v122 v124
  let c2_i32 : BitVec 32 := 2#32
  let c0_i32_73 : BitVec 32 := 0#32
  let v126 : BitVec 1 := Scalar.cmpi .sgt c2_i32 c0_i32_73
  let v127 : BitVec 32 := Scalar.extui v126
  let c0_i32_74 : BitVec 32 := 0#32
  let v128 : BitVec 1 := Scalar.cmpi .slt c2_i32 c0_i32_74
  let v129 : BitVec 32 := Scalar.extui v128
  let v130 : BitVec 32 := Scalar.subi v127 v129
  let v131 : BitVec 1 := Scalar.cmpi .ne v125 v130
  let v132 : BitVec 32 := Scalar.remsi v119 c2_i32
  let c0_i32_75 : BitVec 32 := 0#32
  let v133 : BitVec 1 := Scalar.cmpi .ne v132 c0_i32_75
  let v134 : BitVec 1 := Scalar.andi v131 v133
  let v120 : BitVec 32 := Scalar.divsi v119 c2_i32
  let c1_i32_76 : BitVec 32 := 1#32
  let v135 : BitVec 32 := Scalar.subi v120 c1_i32_76
  let v136 : BitVec 32 := Scalar.select v134 v135 v120
  let v137 : BitVec 32 := Scalar.subi v136 c0_i32_78
  let c1_i32_79 : BitVec 32 := 1#32
  let v139 : BitVec 32 := Scalar.divsi v137 c1_i32_79
  let v140 : BitVec 32 := Scalar.muli v139 c1_i32_79
  let v141 : BitVec 32 := Scalar.addi c0_i32_78 v140
  let c1_i32_81 : BitVec 32 := 1#32
  let arg17 : BitVec 32 := Scf.iv v141 c1_i32_81 k0_t2
  let v152 : BitVec 32 := Scalar.muli c2_i32_89 arg17
  let v153 : BitVec 32 := Scalar.addi v151 v152
  let c512_i32_100 : BitVec 32 := 512#32
  let v171 : BitVec 32 := Scalar.muli v153 c512_i32_100
  let v172 : BitVec 32 := v171
  let v173 : Index := Scalar.indexCast v172
  let c0_101 : Index := 0#32
  ![v173.toNat, 0]
def k0_off20 (i : grid0.Coords) (k0_t2 : Fin (k0_t2_loop i).trips) : Fin 2 → Nat :=
  let arg1 : BitVec 32 := BitVec.ofNat 32 (i 1).val
  let c1_i32_88 : BitVec 32 := 1#32
  let v151 : BitVec 32 := Scalar.addi arg1 c1_i32_88
  let c2_i32_89 : BitVec 32 := 2#32
  let c0_i32_78 : BitVec 32 := 0#32
  let c15_i32 : BitVec 32 := 15#32
  let v18 : BitVec 32 := Scalar.subi c15_i32 arg1
  let c1_i32_70 : BitVec 32 := 1#32
  let v119 : BitVec 32 := Scalar.subi v18 c1_i32_70
  let c0_i32_71 : BitVec 32 := 0#32
  let v121 : BitVec 1 := Scalar.cmpi .sgt v119 c0_i32_71
  let v122 : BitVec 32 := Scalar.extui v121
  let c0_i32_72 : BitVec 32 := 0#32
  let v123 : BitVec 1 := Scalar.cmpi .slt v119 c0_i32_72
  let v124 : BitVec 32 := Scalar.extui v123
  let v125 : BitVec 32 := Scalar.subi v122 v124
  let c2_i32 : BitVec 32 := 2#32
  let c0_i32_73 : BitVec 32 := 0#32
  let v126 : BitVec 1 := Scalar.cmpi .sgt c2_i32 c0_i32_73
  let v127 : BitVec 32 := Scalar.extui v126
  let c0_i32_74 : BitVec 32 := 0#32
  let v128 : BitVec 1 := Scalar.cmpi .slt c2_i32 c0_i32_74
  let v129 : BitVec 32 := Scalar.extui v128
  let v130 : BitVec 32 := Scalar.subi v127 v129
  let v131 : BitVec 1 := Scalar.cmpi .ne v125 v130
  let v132 : BitVec 32 := Scalar.remsi v119 c2_i32
  let c0_i32_75 : BitVec 32 := 0#32
  let v133 : BitVec 1 := Scalar.cmpi .ne v132 c0_i32_75
  let v134 : BitVec 1 := Scalar.andi v131 v133
  let v120 : BitVec 32 := Scalar.divsi v119 c2_i32
  let c1_i32_76 : BitVec 32 := 1#32
  let v135 : BitVec 32 := Scalar.subi v120 c1_i32_76
  let v136 : BitVec 32 := Scalar.select v134 v135 v120
  let v137 : BitVec 32 := Scalar.subi v136 c0_i32_78
  let c1_i32_79 : BitVec 32 := 1#32
  let v139 : BitVec 32 := Scalar.divsi v137 c1_i32_79
  let v140 : BitVec 32 := Scalar.muli v139 c1_i32_79
  let v141 : BitVec 32 := Scalar.addi c0_i32_78 v140
  let c1_i32_81 : BitVec 32 := 1#32
  let arg17 : BitVec 32 := Scf.iv v141 c1_i32_81 k0_t2
  let v152 : BitVec 32 := Scalar.muli c2_i32_89 arg17
  let v153 : BitVec 32 := Scalar.addi v151 v152
  let c512_i32_100 : BitVec 32 := 512#32
  let v171 : BitVec 32 := Scalar.muli v153 c512_i32_100
  let v172 : BitVec 32 := v171
  let v176 : Index := Scalar.indexCast v172
  let c0_102 : Index := 0#32
  ![v176.toNat, 0]
def k0_off21 (i : grid0.Coords) (k0_t2 : Fin (k0_t2_loop i).trips) : Fin 4 → Nat :=
  let c0_105 : Index := 0#32
  let arg1 : BitVec 32 := BitVec.ofNat 32 (i 1).val
  let c1_i32_88 : BitVec 32 := 1#32
  let v151 : BitVec 32 := Scalar.addi arg1 c1_i32_88
  let c2_i32_89 : BitVec 32 := 2#32
  let c0_i32_78 : BitVec 32 := 0#32
  let c15_i32 : BitVec 32 := 15#32
  let v18 : BitVec 32 := Scalar.subi c15_i32 arg1
  let c1_i32_70 : BitVec 32 := 1#32
  let v119 : BitVec 32 := Scalar.subi v18 c1_i32_70
  let c0_i32_71 : BitVec 32 := 0#32
  let v121 : BitVec 1 := Scalar.cmpi .sgt v119 c0_i32_71
  let v122 : BitVec 32 := Scalar.extui v121
  let c0_i32_72 : BitVec 32 := 0#32
  let v123 : BitVec 1 := Scalar.cmpi .slt v119 c0_i32_72
  let v124 : BitVec 32 := Scalar.extui v123
  let v125 : BitVec 32 := Scalar.subi v122 v124
  let c2_i32 : BitVec 32 := 2#32
  let c0_i32_73 : BitVec 32 := 0#32
  let v126 : BitVec 1 := Scalar.cmpi .sgt c2_i32 c0_i32_73
  let v127 : BitVec 32 := Scalar.extui v126
  let c0_i32_74 : BitVec 32 := 0#32
  let v128 : BitVec 1 := Scalar.cmpi .slt c2_i32 c0_i32_74
  let v129 : BitVec 32 := Scalar.extui v128
  let v130 : BitVec 32 := Scalar.subi v127 v129
  let v131 : BitVec 1 := Scalar.cmpi .ne v125 v130
  let v132 : BitVec 32 := Scalar.remsi v119 c2_i32
  let c0_i32_75 : BitVec 32 := 0#32
  let v133 : BitVec 1 := Scalar.cmpi .ne v132 c0_i32_75
  let v134 : BitVec 1 := Scalar.andi v131 v133
  let v120 : BitVec 32 := Scalar.divsi v119 c2_i32
  let c1_i32_76 : BitVec 32 := 1#32
  let v135 : BitVec 32 := Scalar.subi v120 c1_i32_76
  let v136 : BitVec 32 := Scalar.select v134 v135 v120
  let v137 : BitVec 32 := Scalar.subi v136 c0_i32_78
  let c1_i32_79 : BitVec 32 := 1#32
  let v139 : BitVec 32 := Scalar.divsi v137 c1_i32_79
  let v140 : BitVec 32 := Scalar.muli v139 c1_i32_79
  let v141 : BitVec 32 := Scalar.addi c0_i32_78 v140
  let c1_i32_81 : BitVec 32 := 1#32
  let arg17 : BitVec 32 := Scf.iv v141 c1_i32_81 k0_t2
  let v152 : BitVec 32 := Scalar.muli c2_i32_89 arg17
  let v153 : BitVec 32 := Scalar.addi v151 v152
  let v180 : Index := Scalar.indexCast v153
  let c0_106 : Index := 0#32
  let c0_107 : Index := 0#32
  ![0, v180.toNat, 0, 0]
def k0_mult11 (i : grid0.Coords) (k0_t2 : Fin (k0_t2_loop i).trips) : BitVec 32 :=
  let arg1 : BitVec 32 := BitVec.ofNat 32 (i 1).val
  let c1_i32_88 : BitVec 32 := 1#32
  let v151 : BitVec 32 := Scalar.addi arg1 c1_i32_88
  let c2_i32_89 : BitVec 32 := 2#32
  let c0_i32_78 : BitVec 32 := 0#32
  let c15_i32 : BitVec 32 := 15#32
  let v18 : BitVec 32 := Scalar.subi c15_i32 arg1
  let c1_i32_70 : BitVec 32 := 1#32
  let v119 : BitVec 32 := Scalar.subi v18 c1_i32_70
  let c0_i32_71 : BitVec 32 := 0#32
  let v121 : BitVec 1 := Scalar.cmpi .sgt v119 c0_i32_71
  let v122 : BitVec 32 := Scalar.extui v121
  let c0_i32_72 : BitVec 32 := 0#32
  let v123 : BitVec 1 := Scalar.cmpi .slt v119 c0_i32_72
  let v124 : BitVec 32 := Scalar.extui v123
  let v125 : BitVec 32 := Scalar.subi v122 v124
  let c2_i32 : BitVec 32 := 2#32
  let c0_i32_73 : BitVec 32 := 0#32
  let v126 : BitVec 1 := Scalar.cmpi .sgt c2_i32 c0_i32_73
  let v127 : BitVec 32 := Scalar.extui v126
  let c0_i32_74 : BitVec 32 := 0#32
  let v128 : BitVec 1 := Scalar.cmpi .slt c2_i32 c0_i32_74
  let v129 : BitVec 32 := Scalar.extui v128
  let v130 : BitVec 32 := Scalar.subi v127 v129
  let v131 : BitVec 1 := Scalar.cmpi .ne v125 v130
  let v132 : BitVec 32 := Scalar.remsi v119 c2_i32
  let c0_i32_75 : BitVec 32 := 0#32
  let v133 : BitVec 1 := Scalar.cmpi .ne v132 c0_i32_75
  let v134 : BitVec 1 := Scalar.andi v131 v133
  let v120 : BitVec 32 := Scalar.divsi v119 c2_i32
  let c1_i32_76 : BitVec 32 := 1#32
  let v135 : BitVec 32 := Scalar.subi v120 c1_i32_76
  let v136 : BitVec 32 := Scalar.select v134 v135 v120
  let v137 : BitVec 32 := Scalar.subi v136 c0_i32_78
  let c1_i32_79 : BitVec 32 := 1#32
  let v139 : BitVec 32 := Scalar.divsi v137 c1_i32_79
  let v140 : BitVec 32 := Scalar.muli v139 c1_i32_79
  let v141 : BitVec 32 := Scalar.addi c0_i32_78 v140
  let c1_i32_81 : BitVec 32 := 1#32
  let arg17 : BitVec 32 := Scf.iv v141 c1_i32_81 k0_t2
  let v152 : BitVec 32 := Scalar.muli c2_i32_89 arg17
  let v153 : BitVec 32 := Scalar.addi v151 v152
  let c2_i32_126 : BitVec 32 := 2#32
  let v214 : BitVec 32 := Scalar.addi v153 c2_i32_126
  let c512_i32_127 : BitVec 32 := 512#32
  let v215 : BitVec 32 := Scalar.muli v214 c512_i32_127
  v215
def k0_mult12 (i : grid0.Coords) (k0_t2 : Fin (k0_t2_loop i).trips) : BitVec 32 :=
  let arg1 : BitVec 32 := BitVec.ofNat 32 (i 1).val
  let c1_i32_88 : BitVec 32 := 1#32
  let v151 : BitVec 32 := Scalar.addi arg1 c1_i32_88
  let c2_i32_89 : BitVec 32 := 2#32
  let c0_i32_78 : BitVec 32 := 0#32
  let c15_i32 : BitVec 32 := 15#32
  let v18 : BitVec 32 := Scalar.subi c15_i32 arg1
  let c1_i32_70 : BitVec 32 := 1#32
  let v119 : BitVec 32 := Scalar.subi v18 c1_i32_70
  let c0_i32_71 : BitVec 32 := 0#32
  let v121 : BitVec 1 := Scalar.cmpi .sgt v119 c0_i32_71
  let v122 : BitVec 32 := Scalar.extui v121
  let c0_i32_72 : BitVec 32 := 0#32
  let v123 : BitVec 1 := Scalar.cmpi .slt v119 c0_i32_72
  let v124 : BitVec 32 := Scalar.extui v123
  let v125 : BitVec 32 := Scalar.subi v122 v124
  let c2_i32 : BitVec 32 := 2#32
  let c0_i32_73 : BitVec 32 := 0#32
  let v126 : BitVec 1 := Scalar.cmpi .sgt c2_i32 c0_i32_73
  let v127 : BitVec 32 := Scalar.extui v126
  let c0_i32_74 : BitVec 32 := 0#32
  let v128 : BitVec 1 := Scalar.cmpi .slt c2_i32 c0_i32_74
  let v129 : BitVec 32 := Scalar.extui v128
  let v130 : BitVec 32 := Scalar.subi v127 v129
  let v131 : BitVec 1 := Scalar.cmpi .ne v125 v130
  let v132 : BitVec 32 := Scalar.remsi v119 c2_i32
  let c0_i32_75 : BitVec 32 := 0#32
  let v133 : BitVec 1 := Scalar.cmpi .ne v132 c0_i32_75
  let v134 : BitVec 1 := Scalar.andi v131 v133
  let v120 : BitVec 32 := Scalar.divsi v119 c2_i32
  let c1_i32_76 : BitVec 32 := 1#32
  let v135 : BitVec 32 := Scalar.subi v120 c1_i32_76
  let v136 : BitVec 32 := Scalar.select v134 v135 v120
  let v137 : BitVec 32 := Scalar.subi v136 c0_i32_78
  let c1_i32_79 : BitVec 32 := 1#32
  let v139 : BitVec 32 := Scalar.divsi v137 c1_i32_79
  let v140 : BitVec 32 := Scalar.muli v139 c1_i32_79
  let v141 : BitVec 32 := Scalar.addi c0_i32_78 v140
  let c1_i32_81 : BitVec 32 := 1#32
  let arg17 : BitVec 32 := Scf.iv v141 c1_i32_81 k0_t2
  let v152 : BitVec 32 := Scalar.muli c2_i32_89 arg17
  let v153 : BitVec 32 := Scalar.addi v151 v152
  let c1_i32_136 : BitVec 32 := 1#32
  let v231 : BitVec 32 := Scalar.addi v153 c1_i32_136
  let c512_i32_137 : BitVec 32 := 512#32
  let v232 : BitVec 32 := Scalar.muli v231 c512_i32_137
  v232
def k0_off22 (i : grid0.Coords) (k0_t2 : Fin (k0_t2_loop i).trips) : Fin 4 → Nat :=
  let c0_142 : Index := 0#32
  let arg1 : BitVec 32 := BitVec.ofNat 32 (i 1).val
  let c1_i32_88 : BitVec 32 := 1#32
  let v151 : BitVec 32 := Scalar.addi arg1 c1_i32_88
  let c2_i32_89 : BitVec 32 := 2#32
  let c0_i32_78 : BitVec 32 := 0#32
  let c15_i32 : BitVec 32 := 15#32
  let v18 : BitVec 32 := Scalar.subi c15_i32 arg1
  let c1_i32_70 : BitVec 32 := 1#32
  let v119 : BitVec 32 := Scalar.subi v18 c1_i32_70
  let c0_i32_71 : BitVec 32 := 0#32
  let v121 : BitVec 1 := Scalar.cmpi .sgt v119 c0_i32_71
  let v122 : BitVec 32 := Scalar.extui v121
  let c0_i32_72 : BitVec 32 := 0#32
  let v123 : BitVec 1 := Scalar.cmpi .slt v119 c0_i32_72
  let v124 : BitVec 32 := Scalar.extui v123
  let v125 : BitVec 32 := Scalar.subi v122 v124
  let c2_i32 : BitVec 32 := 2#32
  let c0_i32_73 : BitVec 32 := 0#32
  let v126 : BitVec 1 := Scalar.cmpi .sgt c2_i32 c0_i32_73
  let v127 : BitVec 32 := Scalar.extui v126
  let c0_i32_74 : BitVec 32 := 0#32
  let v128 : BitVec 1 := Scalar.cmpi .slt c2_i32 c0_i32_74
  let v129 : BitVec 32 := Scalar.extui v128
  let v130 : BitVec 32 := Scalar.subi v127 v129
  let v131 : BitVec 1 := Scalar.cmpi .ne v125 v130
  let v132 : BitVec 32 := Scalar.remsi v119 c2_i32
  let c0_i32_75 : BitVec 32 := 0#32
  let v133 : BitVec 1 := Scalar.cmpi .ne v132 c0_i32_75
  let v134 : BitVec 1 := Scalar.andi v131 v133
  let v120 : BitVec 32 := Scalar.divsi v119 c2_i32
  let c1_i32_76 : BitVec 32 := 1#32
  let v135 : BitVec 32 := Scalar.subi v120 c1_i32_76
  let v136 : BitVec 32 := Scalar.select v134 v135 v120
  let v137 : BitVec 32 := Scalar.subi v136 c0_i32_78
  let c1_i32_79 : BitVec 32 := 1#32
  let v139 : BitVec 32 := Scalar.divsi v137 c1_i32_79
  let v140 : BitVec 32 := Scalar.muli v139 c1_i32_79
  let v141 : BitVec 32 := Scalar.addi c0_i32_78 v140
  let c1_i32_81 : BitVec 32 := 1#32
  let arg17 : BitVec 32 := Scf.iv v141 c1_i32_81 k0_t2
  let v152 : BitVec 32 := Scalar.muli c2_i32_89 arg17
  let v153 : BitVec 32 := Scalar.addi v151 v152
  let c1_i32_136 : BitVec 32 := 1#32
  let v231 : BitVec 32 := Scalar.addi v153 c1_i32_136
  let v241 : Index := Scalar.indexCast v231
  let c0_143 : Index := 0#32
  let c0_144 : Index := 0#32
  ![0, v241.toNat, 0, 0]
def k0_cond4 (i : grid0.Coords) : BitVec 1 :=
  let arg1 : BitVec 32 := BitVec.ofNat 32 (i 1).val
  let c1_i32_82 : BitVec 32 := 1#32
  let v142 : BitVec 32 := Scalar.addi arg1 c1_i32_82
  let c2_i32_83 : BitVec 32 := 2#32
  let c15_i32 : BitVec 32 := 15#32
  let v18 : BitVec 32 := Scalar.subi c15_i32 arg1
  let c1_i32_70 : BitVec 32 := 1#32
  let v119 : BitVec 32 := Scalar.subi v18 c1_i32_70
  let c0_i32_71 : BitVec 32 := 0#32
  let v121 : BitVec 1 := Scalar.cmpi .sgt v119 c0_i32_71
  let v122 : BitVec 32 := Scalar.extui v121
  let c0_i32_72 : BitVec 32 := 0#32
  let v123 : BitVec 1 := Scalar.cmpi .slt v119 c0_i32_72
  let v124 : BitVec 32 := Scalar.extui v123
  let v125 : BitVec 32 := Scalar.subi v122 v124
  let c2_i32 : BitVec 32 := 2#32
  let c0_i32_73 : BitVec 32 := 0#32
  let v126 : BitVec 1 := Scalar.cmpi .sgt c2_i32 c0_i32_73
  let v127 : BitVec 32 := Scalar.extui v126
  let c0_i32_74 : BitVec 32 := 0#32
  let v128 : BitVec 1 := Scalar.cmpi .slt c2_i32 c0_i32_74
  let v129 : BitVec 32 := Scalar.extui v128
  let v130 : BitVec 32 := Scalar.subi v127 v129
  let v131 : BitVec 1 := Scalar.cmpi .ne v125 v130
  let v132 : BitVec 32 := Scalar.remsi v119 c2_i32
  let c0_i32_75 : BitVec 32 := 0#32
  let v133 : BitVec 1 := Scalar.cmpi .ne v132 c0_i32_75
  let v134 : BitVec 1 := Scalar.andi v131 v133
  let v120 : BitVec 32 := Scalar.divsi v119 c2_i32
  let c1_i32_76 : BitVec 32 := 1#32
  let v135 : BitVec 32 := Scalar.subi v120 c1_i32_76
  let v136 : BitVec 32 := Scalar.select v134 v135 v120
  let v143 : BitVec 32 := Scalar.muli c2_i32_83 v136
  let v144 : BitVec 32 := Scalar.addi v142 v143
  let c15_i32_84 : BitVec 32 := 15#32
  let v145 : BitVec 1 := Scalar.cmpi .eq v144 c15_i32_84
  let v146 : BitVec 32 := Scalar.extui v145
  let c0_i32_85 : BitVec 32 := 0#32
  let v147 : BitVec 1 := Scalar.cmpi .ne v146 c0_i32_85
  v147

def k0_mult13 (i : grid0.Coords) : BitVec 32 :=
  let arg1 : BitVec 32 := BitVec.ofNat 32 (i 1).val
  let c1_i32_82 : BitVec 32 := 1#32
  let v142 : BitVec 32 := Scalar.addi arg1 c1_i32_82
  let c2_i32_83 : BitVec 32 := 2#32
  let c15_i32 : BitVec 32 := 15#32
  let v18 : BitVec 32 := Scalar.subi c15_i32 arg1
  let c1_i32_70 : BitVec 32 := 1#32
  let v119 : BitVec 32 := Scalar.subi v18 c1_i32_70
  let c0_i32_71 : BitVec 32 := 0#32
  let v121 : BitVec 1 := Scalar.cmpi .sgt v119 c0_i32_71
  let v122 : BitVec 32 := Scalar.extui v121
  let c0_i32_72 : BitVec 32 := 0#32
  let v123 : BitVec 1 := Scalar.cmpi .slt v119 c0_i32_72
  let v124 : BitVec 32 := Scalar.extui v123
  let v125 : BitVec 32 := Scalar.subi v122 v124
  let c2_i32 : BitVec 32 := 2#32
  let c0_i32_73 : BitVec 32 := 0#32
  let v126 : BitVec 1 := Scalar.cmpi .sgt c2_i32 c0_i32_73
  let v127 : BitVec 32 := Scalar.extui v126
  let c0_i32_74 : BitVec 32 := 0#32
  let v128 : BitVec 1 := Scalar.cmpi .slt c2_i32 c0_i32_74
  let v129 : BitVec 32 := Scalar.extui v128
  let v130 : BitVec 32 := Scalar.subi v127 v129
  let v131 : BitVec 1 := Scalar.cmpi .ne v125 v130
  let v132 : BitVec 32 := Scalar.remsi v119 c2_i32
  let c0_i32_75 : BitVec 32 := 0#32
  let v133 : BitVec 1 := Scalar.cmpi .ne v132 c0_i32_75
  let v134 : BitVec 1 := Scalar.andi v131 v133
  let v120 : BitVec 32 := Scalar.divsi v119 c2_i32
  let c1_i32_76 : BitVec 32 := 1#32
  let v135 : BitVec 32 := Scalar.subi v120 c1_i32_76
  let v136 : BitVec 32 := Scalar.select v134 v135 v120
  let v143 : BitVec 32 := Scalar.muli c2_i32_83 v136
  let v144 : BitVec 32 := Scalar.addi v142 v143
  let c512_i32_88 : BitVec 32 := 512#32
  let v151 : BitVec 32 := Scalar.muli v144 c512_i32_88
  v151
def k0_off23 (i : grid0.Coords) : Fin 2 → Nat :=
  let arg1 : BitVec 32 := BitVec.ofNat 32 (i 1).val
  let c1_i32_82 : BitVec 32 := 1#32
  let v142 : BitVec 32 := Scalar.addi arg1 c1_i32_82
  let c2_i32_83 : BitVec 32 := 2#32
  let c15_i32 : BitVec 32 := 15#32
  let v18 : BitVec 32 := Scalar.subi c15_i32 arg1
  let c1_i32_70 : BitVec 32 := 1#32
  let v119 : BitVec 32 := Scalar.subi v18 c1_i32_70
  let c0_i32_71 : BitVec 32 := 0#32
  let v121 : BitVec 1 := Scalar.cmpi .sgt v119 c0_i32_71
  let v122 : BitVec 32 := Scalar.extui v121
  let c0_i32_72 : BitVec 32 := 0#32
  let v123 : BitVec 1 := Scalar.cmpi .slt v119 c0_i32_72
  let v124 : BitVec 32 := Scalar.extui v123
  let v125 : BitVec 32 := Scalar.subi v122 v124
  let c2_i32 : BitVec 32 := 2#32
  let c0_i32_73 : BitVec 32 := 0#32
  let v126 : BitVec 1 := Scalar.cmpi .sgt c2_i32 c0_i32_73
  let v127 : BitVec 32 := Scalar.extui v126
  let c0_i32_74 : BitVec 32 := 0#32
  let v128 : BitVec 1 := Scalar.cmpi .slt c2_i32 c0_i32_74
  let v129 : BitVec 32 := Scalar.extui v128
  let v130 : BitVec 32 := Scalar.subi v127 v129
  let v131 : BitVec 1 := Scalar.cmpi .ne v125 v130
  let v132 : BitVec 32 := Scalar.remsi v119 c2_i32
  let c0_i32_75 : BitVec 32 := 0#32
  let v133 : BitVec 1 := Scalar.cmpi .ne v132 c0_i32_75
  let v134 : BitVec 1 := Scalar.andi v131 v133
  let v120 : BitVec 32 := Scalar.divsi v119 c2_i32
  let c1_i32_76 : BitVec 32 := 1#32
  let v135 : BitVec 32 := Scalar.subi v120 c1_i32_76
  let v136 : BitVec 32 := Scalar.select v134 v135 v120
  let v143 : BitVec 32 := Scalar.muli c2_i32_83 v136
  let v144 : BitVec 32 := Scalar.addi v142 v143
  let c512_i32_88 : BitVec 32 := 512#32
  let v151 : BitVec 32 := Scalar.muli v144 c512_i32_88
  let v152 : BitVec 32 := v151
  let v153 : Index := Scalar.indexCast v152
  let c0_89 : Index := 0#32
  ![v153.toNat, 0]
def k0_off24 (i : grid0.Coords) : Fin 2 → Nat :=
  let arg1 : BitVec 32 := BitVec.ofNat 32 (i 1).val
  let c1_i32_82 : BitVec 32 := 1#32
  let v142 : BitVec 32 := Scalar.addi arg1 c1_i32_82
  let c2_i32_83 : BitVec 32 := 2#32
  let c15_i32 : BitVec 32 := 15#32
  let v18 : BitVec 32 := Scalar.subi c15_i32 arg1
  let c1_i32_70 : BitVec 32 := 1#32
  let v119 : BitVec 32 := Scalar.subi v18 c1_i32_70
  let c0_i32_71 : BitVec 32 := 0#32
  let v121 : BitVec 1 := Scalar.cmpi .sgt v119 c0_i32_71
  let v122 : BitVec 32 := Scalar.extui v121
  let c0_i32_72 : BitVec 32 := 0#32
  let v123 : BitVec 1 := Scalar.cmpi .slt v119 c0_i32_72
  let v124 : BitVec 32 := Scalar.extui v123
  let v125 : BitVec 32 := Scalar.subi v122 v124
  let c2_i32 : BitVec 32 := 2#32
  let c0_i32_73 : BitVec 32 := 0#32
  let v126 : BitVec 1 := Scalar.cmpi .sgt c2_i32 c0_i32_73
  let v127 : BitVec 32 := Scalar.extui v126
  let c0_i32_74 : BitVec 32 := 0#32
  let v128 : BitVec 1 := Scalar.cmpi .slt c2_i32 c0_i32_74
  let v129 : BitVec 32 := Scalar.extui v128
  let v130 : BitVec 32 := Scalar.subi v127 v129
  let v131 : BitVec 1 := Scalar.cmpi .ne v125 v130
  let v132 : BitVec 32 := Scalar.remsi v119 c2_i32
  let c0_i32_75 : BitVec 32 := 0#32
  let v133 : BitVec 1 := Scalar.cmpi .ne v132 c0_i32_75
  let v134 : BitVec 1 := Scalar.andi v131 v133
  let v120 : BitVec 32 := Scalar.divsi v119 c2_i32
  let c1_i32_76 : BitVec 32 := 1#32
  let v135 : BitVec 32 := Scalar.subi v120 c1_i32_76
  let v136 : BitVec 32 := Scalar.select v134 v135 v120
  let v143 : BitVec 32 := Scalar.muli c2_i32_83 v136
  let v144 : BitVec 32 := Scalar.addi v142 v143
  let c512_i32_88 : BitVec 32 := 512#32
  let v151 : BitVec 32 := Scalar.muli v144 c512_i32_88
  let v152 : BitVec 32 := v151
  let v156 : Index := Scalar.indexCast v152
  let c0_90 : Index := 0#32
  ![v156.toNat, 0]
def k0_off25 (i : grid0.Coords) : Fin 4 → Nat :=
  let c0_93 : Index := 0#32
  let arg1 : BitVec 32 := BitVec.ofNat 32 (i 1).val
  let c1_i32_82 : BitVec 32 := 1#32
  let v142 : BitVec 32 := Scalar.addi arg1 c1_i32_82
  let c2_i32_83 : BitVec 32 := 2#32
  let c15_i32 : BitVec 32 := 15#32
  let v18 : BitVec 32 := Scalar.subi c15_i32 arg1
  let c1_i32_70 : BitVec 32 := 1#32
  let v119 : BitVec 32 := Scalar.subi v18 c1_i32_70
  let c0_i32_71 : BitVec 32 := 0#32
  let v121 : BitVec 1 := Scalar.cmpi .sgt v119 c0_i32_71
  let v122 : BitVec 32 := Scalar.extui v121
  let c0_i32_72 : BitVec 32 := 0#32
  let v123 : BitVec 1 := Scalar.cmpi .slt v119 c0_i32_72
  let v124 : BitVec 32 := Scalar.extui v123
  let v125 : BitVec 32 := Scalar.subi v122 v124
  let c2_i32 : BitVec 32 := 2#32
  let c0_i32_73 : BitVec 32 := 0#32
  let v126 : BitVec 1 := Scalar.cmpi .sgt c2_i32 c0_i32_73
  let v127 : BitVec 32 := Scalar.extui v126
  let c0_i32_74 : BitVec 32 := 0#32
  let v128 : BitVec 1 := Scalar.cmpi .slt c2_i32 c0_i32_74
  let v129 : BitVec 32 := Scalar.extui v128
  let v130 : BitVec 32 := Scalar.subi v127 v129
  let v131 : BitVec 1 := Scalar.cmpi .ne v125 v130
  let v132 : BitVec 32 := Scalar.remsi v119 c2_i32
  let c0_i32_75 : BitVec 32 := 0#32
  let v133 : BitVec 1 := Scalar.cmpi .ne v132 c0_i32_75
  let v134 : BitVec 1 := Scalar.andi v131 v133
  let v120 : BitVec 32 := Scalar.divsi v119 c2_i32
  let c1_i32_76 : BitVec 32 := 1#32
  let v135 : BitVec 32 := Scalar.subi v120 c1_i32_76
  let v136 : BitVec 32 := Scalar.select v134 v135 v120
  let v143 : BitVec 32 := Scalar.muli c2_i32_83 v136
  let v144 : BitVec 32 := Scalar.addi v142 v143
  let v160 : Index := Scalar.indexCast v144
  let c0_94 : Index := 0#32
  let c0_95 : Index := 0#32
  ![0, v160.toNat, 0, 0]
def k0_cond5 (i : grid0.Coords) : BitVec 1 :=
  let arg1 : BitVec 32 := BitVec.ofNat 32 (i 1).val
  let c1_i32_82 : BitVec 32 := 1#32
  let v142 : BitVec 32 := Scalar.addi arg1 c1_i32_82
  let c2_i32_83 : BitVec 32 := 2#32
  let c15_i32 : BitVec 32 := 15#32
  let v18 : BitVec 32 := Scalar.subi c15_i32 arg1
  let c1_i32_70 : BitVec 32 := 1#32
  let v119 : BitVec 32 := Scalar.subi v18 c1_i32_70
  let c0_i32_71 : BitVec 32 := 0#32
  let v121 : BitVec 1 := Scalar.cmpi .sgt v119 c0_i32_71
  let v122 : BitVec 32 := Scalar.extui v121
  let c0_i32_72 : BitVec 32 := 0#32
  let v123 : BitVec 1 := Scalar.cmpi .slt v119 c0_i32_72
  let v124 : BitVec 32 := Scalar.extui v123
  let v125 : BitVec 32 := Scalar.subi v122 v124
  let c2_i32 : BitVec 32 := 2#32
  let c0_i32_73 : BitVec 32 := 0#32
  let v126 : BitVec 1 := Scalar.cmpi .sgt c2_i32 c0_i32_73
  let v127 : BitVec 32 := Scalar.extui v126
  let c0_i32_74 : BitVec 32 := 0#32
  let v128 : BitVec 1 := Scalar.cmpi .slt c2_i32 c0_i32_74
  let v129 : BitVec 32 := Scalar.extui v128
  let v130 : BitVec 32 := Scalar.subi v127 v129
  let v131 : BitVec 1 := Scalar.cmpi .ne v125 v130
  let v132 : BitVec 32 := Scalar.remsi v119 c2_i32
  let c0_i32_75 : BitVec 32 := 0#32
  let v133 : BitVec 1 := Scalar.cmpi .ne v132 c0_i32_75
  let v134 : BitVec 1 := Scalar.andi v131 v133
  let v120 : BitVec 32 := Scalar.divsi v119 c2_i32
  let c1_i32_76 : BitVec 32 := 1#32
  let v135 : BitVec 32 := Scalar.subi v120 c1_i32_76
  let v136 : BitVec 32 := Scalar.select v134 v135 v120
  let v143 : BitVec 32 := Scalar.muli c2_i32_83 v136
  let v144 : BitVec 32 := Scalar.addi v142 v143
  let c15_i32_86 : BitVec 32 := 15#32
  let v148 : BitVec 1 := Scalar.cmpi .slt v144 c15_i32_86
  let v149 : BitVec 32 := Scalar.extui v148
  let c0_i32_87 : BitVec 32 := 0#32
  let v150 : BitVec 1 := Scalar.cmpi .ne v149 c0_i32_87
  v150

def k0_mult14 (i : grid0.Coords) : BitVec 32 :=
  let arg1 : BitVec 32 := BitVec.ofNat 32 (i 1).val
  let c1_i32_82 : BitVec 32 := 1#32
  let v142 : BitVec 32 := Scalar.addi arg1 c1_i32_82
  let c2_i32_83 : BitVec 32 := 2#32
  let c15_i32 : BitVec 32 := 15#32
  let v18 : BitVec 32 := Scalar.subi c15_i32 arg1
  let c1_i32_70 : BitVec 32 := 1#32
  let v119 : BitVec 32 := Scalar.subi v18 c1_i32_70
  let c0_i32_71 : BitVec 32 := 0#32
  let v121 : BitVec 1 := Scalar.cmpi .sgt v119 c0_i32_71
  let v122 : BitVec 32 := Scalar.extui v121
  let c0_i32_72 : BitVec 32 := 0#32
  let v123 : BitVec 1 := Scalar.cmpi .slt v119 c0_i32_72
  let v124 : BitVec 32 := Scalar.extui v123
  let v125 : BitVec 32 := Scalar.subi v122 v124
  let c2_i32 : BitVec 32 := 2#32
  let c0_i32_73 : BitVec 32 := 0#32
  let v126 : BitVec 1 := Scalar.cmpi .sgt c2_i32 c0_i32_73
  let v127 : BitVec 32 := Scalar.extui v126
  let c0_i32_74 : BitVec 32 := 0#32
  let v128 : BitVec 1 := Scalar.cmpi .slt c2_i32 c0_i32_74
  let v129 : BitVec 32 := Scalar.extui v128
  let v130 : BitVec 32 := Scalar.subi v127 v129
  let v131 : BitVec 1 := Scalar.cmpi .ne v125 v130
  let v132 : BitVec 32 := Scalar.remsi v119 c2_i32
  let c0_i32_75 : BitVec 32 := 0#32
  let v133 : BitVec 1 := Scalar.cmpi .ne v132 c0_i32_75
  let v134 : BitVec 1 := Scalar.andi v131 v133
  let v120 : BitVec 32 := Scalar.divsi v119 c2_i32
  let c1_i32_76 : BitVec 32 := 1#32
  let v135 : BitVec 32 := Scalar.subi v120 c1_i32_76
  let v136 : BitVec 32 := Scalar.select v134 v135 v120
  let v143 : BitVec 32 := Scalar.muli c2_i32_83 v136
  let v144 : BitVec 32 := Scalar.addi v142 v143
  let c1_i32_88 : BitVec 32 := 1#32
  let v151 : BitVec 32 := Scalar.addi v144 c1_i32_88
  let c512_i32_89 : BitVec 32 := 512#32
  let v152 : BitVec 32 := Scalar.muli v151 c512_i32_89
  v152
def k0_off26 (i : grid0.Coords) : Fin 2 → Nat :=
  let arg1 : BitVec 32 := BitVec.ofNat 32 (i 1).val
  let c1_i32_82 : BitVec 32 := 1#32
  let v142 : BitVec 32 := Scalar.addi arg1 c1_i32_82
  let c2_i32_83 : BitVec 32 := 2#32
  let c15_i32 : BitVec 32 := 15#32
  let v18 : BitVec 32 := Scalar.subi c15_i32 arg1
  let c1_i32_70 : BitVec 32 := 1#32
  let v119 : BitVec 32 := Scalar.subi v18 c1_i32_70
  let c0_i32_71 : BitVec 32 := 0#32
  let v121 : BitVec 1 := Scalar.cmpi .sgt v119 c0_i32_71
  let v122 : BitVec 32 := Scalar.extui v121
  let c0_i32_72 : BitVec 32 := 0#32
  let v123 : BitVec 1 := Scalar.cmpi .slt v119 c0_i32_72
  let v124 : BitVec 32 := Scalar.extui v123
  let v125 : BitVec 32 := Scalar.subi v122 v124
  let c2_i32 : BitVec 32 := 2#32
  let c0_i32_73 : BitVec 32 := 0#32
  let v126 : BitVec 1 := Scalar.cmpi .sgt c2_i32 c0_i32_73
  let v127 : BitVec 32 := Scalar.extui v126
  let c0_i32_74 : BitVec 32 := 0#32
  let v128 : BitVec 1 := Scalar.cmpi .slt c2_i32 c0_i32_74
  let v129 : BitVec 32 := Scalar.extui v128
  let v130 : BitVec 32 := Scalar.subi v127 v129
  let v131 : BitVec 1 := Scalar.cmpi .ne v125 v130
  let v132 : BitVec 32 := Scalar.remsi v119 c2_i32
  let c0_i32_75 : BitVec 32 := 0#32
  let v133 : BitVec 1 := Scalar.cmpi .ne v132 c0_i32_75
  let v134 : BitVec 1 := Scalar.andi v131 v133
  let v120 : BitVec 32 := Scalar.divsi v119 c2_i32
  let c1_i32_76 : BitVec 32 := 1#32
  let v135 : BitVec 32 := Scalar.subi v120 c1_i32_76
  let v136 : BitVec 32 := Scalar.select v134 v135 v120
  let v143 : BitVec 32 := Scalar.muli c2_i32_83 v136
  let v144 : BitVec 32 := Scalar.addi v142 v143
  let c1_i32_88 : BitVec 32 := 1#32
  let v151 : BitVec 32 := Scalar.addi v144 c1_i32_88
  let c512_i32_89 : BitVec 32 := 512#32
  let v152 : BitVec 32 := Scalar.muli v151 c512_i32_89
  let v153 : BitVec 32 := v152
  let v154 : Index := Scalar.indexCast v153
  let c0_90 : Index := 0#32
  ![v154.toNat, 0]
def k0_off27 (i : grid0.Coords) : Fin 2 → Nat :=
  let arg1 : BitVec 32 := BitVec.ofNat 32 (i 1).val
  let c1_i32_82 : BitVec 32 := 1#32
  let v142 : BitVec 32 := Scalar.addi arg1 c1_i32_82
  let c2_i32_83 : BitVec 32 := 2#32
  let c15_i32 : BitVec 32 := 15#32
  let v18 : BitVec 32 := Scalar.subi c15_i32 arg1
  let c1_i32_70 : BitVec 32 := 1#32
  let v119 : BitVec 32 := Scalar.subi v18 c1_i32_70
  let c0_i32_71 : BitVec 32 := 0#32
  let v121 : BitVec 1 := Scalar.cmpi .sgt v119 c0_i32_71
  let v122 : BitVec 32 := Scalar.extui v121
  let c0_i32_72 : BitVec 32 := 0#32
  let v123 : BitVec 1 := Scalar.cmpi .slt v119 c0_i32_72
  let v124 : BitVec 32 := Scalar.extui v123
  let v125 : BitVec 32 := Scalar.subi v122 v124
  let c2_i32 : BitVec 32 := 2#32
  let c0_i32_73 : BitVec 32 := 0#32
  let v126 : BitVec 1 := Scalar.cmpi .sgt c2_i32 c0_i32_73
  let v127 : BitVec 32 := Scalar.extui v126
  let c0_i32_74 : BitVec 32 := 0#32
  let v128 : BitVec 1 := Scalar.cmpi .slt c2_i32 c0_i32_74
  let v129 : BitVec 32 := Scalar.extui v128
  let v130 : BitVec 32 := Scalar.subi v127 v129
  let v131 : BitVec 1 := Scalar.cmpi .ne v125 v130
  let v132 : BitVec 32 := Scalar.remsi v119 c2_i32
  let c0_i32_75 : BitVec 32 := 0#32
  let v133 : BitVec 1 := Scalar.cmpi .ne v132 c0_i32_75
  let v134 : BitVec 1 := Scalar.andi v131 v133
  let v120 : BitVec 32 := Scalar.divsi v119 c2_i32
  let c1_i32_76 : BitVec 32 := 1#32
  let v135 : BitVec 32 := Scalar.subi v120 c1_i32_76
  let v136 : BitVec 32 := Scalar.select v134 v135 v120
  let v143 : BitVec 32 := Scalar.muli c2_i32_83 v136
  let v144 : BitVec 32 := Scalar.addi v142 v143
  let c1_i32_88 : BitVec 32 := 1#32
  let v151 : BitVec 32 := Scalar.addi v144 c1_i32_88
  let c512_i32_89 : BitVec 32 := 512#32
  let v152 : BitVec 32 := Scalar.muli v151 c512_i32_89
  let v153 : BitVec 32 := v152
  let v161 : Index := Scalar.indexCast v153
  let c0_94 : Index := 0#32
  ![v161.toNat, 0]
def k0_mult15 (i : grid0.Coords) : BitVec 32 :=
  let arg1 : BitVec 32 := BitVec.ofNat 32 (i 1).val
  let c1_i32_82 : BitVec 32 := 1#32
  let v142 : BitVec 32 := Scalar.addi arg1 c1_i32_82
  let c2_i32_83 : BitVec 32 := 2#32
  let c15_i32 : BitVec 32 := 15#32
  let v18 : BitVec 32 := Scalar.subi c15_i32 arg1
  let c1_i32_70 : BitVec 32 := 1#32
  let v119 : BitVec 32 := Scalar.subi v18 c1_i32_70
  let c0_i32_71 : BitVec 32 := 0#32
  let v121 : BitVec 1 := Scalar.cmpi .sgt v119 c0_i32_71
  let v122 : BitVec 32 := Scalar.extui v121
  let c0_i32_72 : BitVec 32 := 0#32
  let v123 : BitVec 1 := Scalar.cmpi .slt v119 c0_i32_72
  let v124 : BitVec 32 := Scalar.extui v123
  let v125 : BitVec 32 := Scalar.subi v122 v124
  let c2_i32 : BitVec 32 := 2#32
  let c0_i32_73 : BitVec 32 := 0#32
  let v126 : BitVec 1 := Scalar.cmpi .sgt c2_i32 c0_i32_73
  let v127 : BitVec 32 := Scalar.extui v126
  let c0_i32_74 : BitVec 32 := 0#32
  let v128 : BitVec 1 := Scalar.cmpi .slt c2_i32 c0_i32_74
  let v129 : BitVec 32 := Scalar.extui v128
  let v130 : BitVec 32 := Scalar.subi v127 v129
  let v131 : BitVec 1 := Scalar.cmpi .ne v125 v130
  let v132 : BitVec 32 := Scalar.remsi v119 c2_i32
  let c0_i32_75 : BitVec 32 := 0#32
  let v133 : BitVec 1 := Scalar.cmpi .ne v132 c0_i32_75
  let v134 : BitVec 1 := Scalar.andi v131 v133
  let v120 : BitVec 32 := Scalar.divsi v119 c2_i32
  let c1_i32_76 : BitVec 32 := 1#32
  let v135 : BitVec 32 := Scalar.subi v120 c1_i32_76
  let v136 : BitVec 32 := Scalar.select v134 v135 v120
  let v143 : BitVec 32 := Scalar.muli c2_i32_83 v136
  let v144 : BitVec 32 := Scalar.addi v142 v143
  let c512_i32_98 : BitVec 32 := 512#32
  let v168 : BitVec 32 := Scalar.muli v144 c512_i32_98
  v168
def k0_off28 (i : grid0.Coords) : Fin 2 → Nat :=
  let arg1 : BitVec 32 := BitVec.ofNat 32 (i 1).val
  let c1_i32_82 : BitVec 32 := 1#32
  let v142 : BitVec 32 := Scalar.addi arg1 c1_i32_82
  let c2_i32_83 : BitVec 32 := 2#32
  let c15_i32 : BitVec 32 := 15#32
  let v18 : BitVec 32 := Scalar.subi c15_i32 arg1
  let c1_i32_70 : BitVec 32 := 1#32
  let v119 : BitVec 32 := Scalar.subi v18 c1_i32_70
  let c0_i32_71 : BitVec 32 := 0#32
  let v121 : BitVec 1 := Scalar.cmpi .sgt v119 c0_i32_71
  let v122 : BitVec 32 := Scalar.extui v121
  let c0_i32_72 : BitVec 32 := 0#32
  let v123 : BitVec 1 := Scalar.cmpi .slt v119 c0_i32_72
  let v124 : BitVec 32 := Scalar.extui v123
  let v125 : BitVec 32 := Scalar.subi v122 v124
  let c2_i32 : BitVec 32 := 2#32
  let c0_i32_73 : BitVec 32 := 0#32
  let v126 : BitVec 1 := Scalar.cmpi .sgt c2_i32 c0_i32_73
  let v127 : BitVec 32 := Scalar.extui v126
  let c0_i32_74 : BitVec 32 := 0#32
  let v128 : BitVec 1 := Scalar.cmpi .slt c2_i32 c0_i32_74
  let v129 : BitVec 32 := Scalar.extui v128
  let v130 : BitVec 32 := Scalar.subi v127 v129
  let v131 : BitVec 1 := Scalar.cmpi .ne v125 v130
  let v132 : BitVec 32 := Scalar.remsi v119 c2_i32
  let c0_i32_75 : BitVec 32 := 0#32
  let v133 : BitVec 1 := Scalar.cmpi .ne v132 c0_i32_75
  let v134 : BitVec 1 := Scalar.andi v131 v133
  let v120 : BitVec 32 := Scalar.divsi v119 c2_i32
  let c1_i32_76 : BitVec 32 := 1#32
  let v135 : BitVec 32 := Scalar.subi v120 c1_i32_76
  let v136 : BitVec 32 := Scalar.select v134 v135 v120
  let v143 : BitVec 32 := Scalar.muli c2_i32_83 v136
  let v144 : BitVec 32 := Scalar.addi v142 v143
  let c512_i32_98 : BitVec 32 := 512#32
  let v168 : BitVec 32 := Scalar.muli v144 c512_i32_98
  let v169 : BitVec 32 := v168
  let v170 : Index := Scalar.indexCast v169
  let c0_99 : Index := 0#32
  ![v170.toNat, 0]
def k0_off29 (i : grid0.Coords) : Fin 2 → Nat :=
  let arg1 : BitVec 32 := BitVec.ofNat 32 (i 1).val
  let c1_i32_82 : BitVec 32 := 1#32
  let v142 : BitVec 32 := Scalar.addi arg1 c1_i32_82
  let c2_i32_83 : BitVec 32 := 2#32
  let c15_i32 : BitVec 32 := 15#32
  let v18 : BitVec 32 := Scalar.subi c15_i32 arg1
  let c1_i32_70 : BitVec 32 := 1#32
  let v119 : BitVec 32 := Scalar.subi v18 c1_i32_70
  let c0_i32_71 : BitVec 32 := 0#32
  let v121 : BitVec 1 := Scalar.cmpi .sgt v119 c0_i32_71
  let v122 : BitVec 32 := Scalar.extui v121
  let c0_i32_72 : BitVec 32 := 0#32
  let v123 : BitVec 1 := Scalar.cmpi .slt v119 c0_i32_72
  let v124 : BitVec 32 := Scalar.extui v123
  let v125 : BitVec 32 := Scalar.subi v122 v124
  let c2_i32 : BitVec 32 := 2#32
  let c0_i32_73 : BitVec 32 := 0#32
  let v126 : BitVec 1 := Scalar.cmpi .sgt c2_i32 c0_i32_73
  let v127 : BitVec 32 := Scalar.extui v126
  let c0_i32_74 : BitVec 32 := 0#32
  let v128 : BitVec 1 := Scalar.cmpi .slt c2_i32 c0_i32_74
  let v129 : BitVec 32 := Scalar.extui v128
  let v130 : BitVec 32 := Scalar.subi v127 v129
  let v131 : BitVec 1 := Scalar.cmpi .ne v125 v130
  let v132 : BitVec 32 := Scalar.remsi v119 c2_i32
  let c0_i32_75 : BitVec 32 := 0#32
  let v133 : BitVec 1 := Scalar.cmpi .ne v132 c0_i32_75
  let v134 : BitVec 1 := Scalar.andi v131 v133
  let v120 : BitVec 32 := Scalar.divsi v119 c2_i32
  let c1_i32_76 : BitVec 32 := 1#32
  let v135 : BitVec 32 := Scalar.subi v120 c1_i32_76
  let v136 : BitVec 32 := Scalar.select v134 v135 v120
  let v143 : BitVec 32 := Scalar.muli c2_i32_83 v136
  let v144 : BitVec 32 := Scalar.addi v142 v143
  let c512_i32_98 : BitVec 32 := 512#32
  let v168 : BitVec 32 := Scalar.muli v144 c512_i32_98
  let v169 : BitVec 32 := v168
  let v173 : Index := Scalar.indexCast v169
  let c0_100 : Index := 0#32
  ![v173.toNat, 0]
def k0_off30 (i : grid0.Coords) : Fin 4 → Nat :=
  let c0_103 : Index := 0#32
  let arg1 : BitVec 32 := BitVec.ofNat 32 (i 1).val
  let c1_i32_82 : BitVec 32 := 1#32
  let v142 : BitVec 32 := Scalar.addi arg1 c1_i32_82
  let c2_i32_83 : BitVec 32 := 2#32
  let c15_i32 : BitVec 32 := 15#32
  let v18 : BitVec 32 := Scalar.subi c15_i32 arg1
  let c1_i32_70 : BitVec 32 := 1#32
  let v119 : BitVec 32 := Scalar.subi v18 c1_i32_70
  let c0_i32_71 : BitVec 32 := 0#32
  let v121 : BitVec 1 := Scalar.cmpi .sgt v119 c0_i32_71
  let v122 : BitVec 32 := Scalar.extui v121
  let c0_i32_72 : BitVec 32 := 0#32
  let v123 : BitVec 1 := Scalar.cmpi .slt v119 c0_i32_72
  let v124 : BitVec 32 := Scalar.extui v123
  let v125 : BitVec 32 := Scalar.subi v122 v124
  let c2_i32 : BitVec 32 := 2#32
  let c0_i32_73 : BitVec 32 := 0#32
  let v126 : BitVec 1 := Scalar.cmpi .sgt c2_i32 c0_i32_73
  let v127 : BitVec 32 := Scalar.extui v126
  let c0_i32_74 : BitVec 32 := 0#32
  let v128 : BitVec 1 := Scalar.cmpi .slt c2_i32 c0_i32_74
  let v129 : BitVec 32 := Scalar.extui v128
  let v130 : BitVec 32 := Scalar.subi v127 v129
  let v131 : BitVec 1 := Scalar.cmpi .ne v125 v130
  let v132 : BitVec 32 := Scalar.remsi v119 c2_i32
  let c0_i32_75 : BitVec 32 := 0#32
  let v133 : BitVec 1 := Scalar.cmpi .ne v132 c0_i32_75
  let v134 : BitVec 1 := Scalar.andi v131 v133
  let v120 : BitVec 32 := Scalar.divsi v119 c2_i32
  let c1_i32_76 : BitVec 32 := 1#32
  let v135 : BitVec 32 := Scalar.subi v120 c1_i32_76
  let v136 : BitVec 32 := Scalar.select v134 v135 v120
  let v143 : BitVec 32 := Scalar.muli c2_i32_83 v136
  let v144 : BitVec 32 := Scalar.addi v142 v143
  let v177 : Index := Scalar.indexCast v144
  let c0_104 : Index := 0#32
  let c0_105 : Index := 0#32
  ![0, v177.toNat, 0, 0]
def k0_mult16 (i : grid0.Coords) : BitVec 32 :=
  let arg1 : BitVec 32 := BitVec.ofNat 32 (i 1).val
  let c1_i32_82 : BitVec 32 := 1#32
  let v142 : BitVec 32 := Scalar.addi arg1 c1_i32_82
  let c2_i32_83 : BitVec 32 := 2#32
  let c15_i32 : BitVec 32 := 15#32
  let v18 : BitVec 32 := Scalar.subi c15_i32 arg1
  let c1_i32_70 : BitVec 32 := 1#32
  let v119 : BitVec 32 := Scalar.subi v18 c1_i32_70
  let c0_i32_71 : BitVec 32 := 0#32
  let v121 : BitVec 1 := Scalar.cmpi .sgt v119 c0_i32_71
  let v122 : BitVec 32 := Scalar.extui v121
  let c0_i32_72 : BitVec 32 := 0#32
  let v123 : BitVec 1 := Scalar.cmpi .slt v119 c0_i32_72
  let v124 : BitVec 32 := Scalar.extui v123
  let v125 : BitVec 32 := Scalar.subi v122 v124
  let c2_i32 : BitVec 32 := 2#32
  let c0_i32_73 : BitVec 32 := 0#32
  let v126 : BitVec 1 := Scalar.cmpi .sgt c2_i32 c0_i32_73
  let v127 : BitVec 32 := Scalar.extui v126
  let c0_i32_74 : BitVec 32 := 0#32
  let v128 : BitVec 1 := Scalar.cmpi .slt c2_i32 c0_i32_74
  let v129 : BitVec 32 := Scalar.extui v128
  let v130 : BitVec 32 := Scalar.subi v127 v129
  let v131 : BitVec 1 := Scalar.cmpi .ne v125 v130
  let v132 : BitVec 32 := Scalar.remsi v119 c2_i32
  let c0_i32_75 : BitVec 32 := 0#32
  let v133 : BitVec 1 := Scalar.cmpi .ne v132 c0_i32_75
  let v134 : BitVec 1 := Scalar.andi v131 v133
  let v120 : BitVec 32 := Scalar.divsi v119 c2_i32
  let c1_i32_76 : BitVec 32 := 1#32
  let v135 : BitVec 32 := Scalar.subi v120 c1_i32_76
  let v136 : BitVec 32 := Scalar.select v134 v135 v120
  let v143 : BitVec 32 := Scalar.muli c2_i32_83 v136
  let v144 : BitVec 32 := Scalar.addi v142 v143
  let c1_i32_124 : BitVec 32 := 1#32
  let v211 : BitVec 32 := Scalar.addi v144 c1_i32_124
  let c512_i32_125 : BitVec 32 := 512#32
  let v212 : BitVec 32 := Scalar.muli v211 c512_i32_125
  v212
def k0_off31 (i : grid0.Coords) : Fin 4 → Nat :=
  let c0_130 : Index := 0#32
  let arg1 : BitVec 32 := BitVec.ofNat 32 (i 1).val
  let c1_i32_82 : BitVec 32 := 1#32
  let v142 : BitVec 32 := Scalar.addi arg1 c1_i32_82
  let c2_i32_83 : BitVec 32 := 2#32
  let c15_i32 : BitVec 32 := 15#32
  let v18 : BitVec 32 := Scalar.subi c15_i32 arg1
  let c1_i32_70 : BitVec 32 := 1#32
  let v119 : BitVec 32 := Scalar.subi v18 c1_i32_70
  let c0_i32_71 : BitVec 32 := 0#32
  let v121 : BitVec 1 := Scalar.cmpi .sgt v119 c0_i32_71
  let v122 : BitVec 32 := Scalar.extui v121
  let c0_i32_72 : BitVec 32 := 0#32
  let v123 : BitVec 1 := Scalar.cmpi .slt v119 c0_i32_72
  let v124 : BitVec 32 := Scalar.extui v123
  let v125 : BitVec 32 := Scalar.subi v122 v124
  let c2_i32 : BitVec 32 := 2#32
  let c0_i32_73 : BitVec 32 := 0#32
  let v126 : BitVec 1 := Scalar.cmpi .sgt c2_i32 c0_i32_73
  let v127 : BitVec 32 := Scalar.extui v126
  let c0_i32_74 : BitVec 32 := 0#32
  let v128 : BitVec 1 := Scalar.cmpi .slt c2_i32 c0_i32_74
  let v129 : BitVec 32 := Scalar.extui v128
  let v130 : BitVec 32 := Scalar.subi v127 v129
  let v131 : BitVec 1 := Scalar.cmpi .ne v125 v130
  let v132 : BitVec 32 := Scalar.remsi v119 c2_i32
  let c0_i32_75 : BitVec 32 := 0#32
  let v133 : BitVec 1 := Scalar.cmpi .ne v132 c0_i32_75
  let v134 : BitVec 1 := Scalar.andi v131 v133
  let v120 : BitVec 32 := Scalar.divsi v119 c2_i32
  let c1_i32_76 : BitVec 32 := 1#32
  let v135 : BitVec 32 := Scalar.subi v120 c1_i32_76
  let v136 : BitVec 32 := Scalar.select v134 v135 v120
  let v143 : BitVec 32 := Scalar.muli c2_i32_83 v136
  let v144 : BitVec 32 := Scalar.addi v142 v143
  let c1_i32_124 : BitVec 32 := 1#32
  let v211 : BitVec 32 := Scalar.addi v144 c1_i32_124
  let v221 : Index := Scalar.indexCast v211
  let c0_131 : Index := 0#32
  let c0_132 : Index := 0#32
  ![0, v221.toNat, 0, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8192x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== AttnIdeal.lean ====
variable {F : FTy → Type} [FloatOps F] [Named F]
def κ : String → Option EReal := fun
  | "ln_2" => some ((Real.log 2 : ℝ) : EReal)
  | "mask" => some ⊥
  | _ => none
-- ==== AttnRefIdeal.lean ====
abbrev S8192x4096 : Shape := ⟨2, ![8192, 4096]⟩
abbrev S8192x128 : Shape := ⟨2, ![8192, 128]⟩
abbrev S8192x2048 : Shape := ⟨2, ![8192, 2048]⟩
abbrev S16x8192x128 : Shape := ⟨3, ![16, 8192, 128]⟩
abbrev S8192x16x256 : Shape := ⟨3, ![8192, 16, 256]⟩
abbrev S8192x16x128 : Shape := ⟨3, ![8192, 16, 128]⟩
abbrev S16x8192x8192 : Shape := ⟨3, ![16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x8192 : Shape := ⟨2, ![16, 8192]⟩
abbrev S16x8192x1 : Shape := ⟨3, ![16, 8192, 1]⟩
abbrev S16x128x8192 : Shape := ⟨3, ![16, 128, 8192]⟩

abbrev nBuf : Space → Nat
  | .hbm => 117
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x128, .f32⟩
  | .hbm, ⟨3, _⟩ => ⟨S8192x2048, .f32⟩
  | .hbm, ⟨4, _⟩ => ⟨S16x8192x128, .f32⟩
  | .hbm, ⟨5, _⟩ => ⟨S8192x16x256, .f32⟩
  | .hbm, ⟨6, _⟩ => ⟨S8192x16x256, .f32⟩
  | .hbm, ⟨7, _⟩ => ⟨S8192x16x128, .f32⟩
  | .hbm, ⟨8, _⟩ => ⟨S8192x16x128, .f32⟩
  | .hbm, ⟨9, _⟩ => ⟨S16x8192x8192, .f32⟩
  | .hbm, ⟨10, _⟩ => ⟨S8192x16x128, .f32⟩
  | .hbm, ⟨11, _⟩ => ⟨S16x8192x8192, .f32⟩
  | .hbm, ⟨12, _⟩ => ⟨S16x8192x8192, .f32⟩
  | .hbm, ⟨13, _⟩ => ⟨S_, .f32⟩
  | .hbm, ⟨14, _⟩ => ⟨S16x8192x8192, .f32⟩
  | .hbm, ⟨15, _⟩ => ⟨S16x8192x8192, .f32⟩
  | .hbm, ⟨16, _⟩ => ⟨S8192, .i32⟩
  | .hbm, ⟨17, _⟩ => ⟨S1x8192, .i32⟩
  | .hbm, ⟨18, _⟩ => ⟨S8192, .i32⟩
  | .hbm, ⟨19, _⟩ => ⟨S8192x1, .i32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S_, .f32⟩
  | .hbm, ⟨24, _⟩ => ⟨S_, .f32⟩
  | .hbm, ⟨25, _⟩ => ⟨S16x8192x8192, .i1⟩
  | .hbm, ⟨26, _⟩ => ⟨S16x8192x8192, .f32⟩
  | .hbm, ⟨27, _⟩ => ⟨S16x8192x8192, .f32⟩
  | .hbm, ⟨28, _⟩ => ⟨S_, .f32⟩
  | .hbm, ⟨29, _⟩ => ⟨S16x8192x8192, .f32⟩
  | .hbm, ⟨30, _⟩ => ⟨S_, .f32⟩
  | .hbm, ⟨31, _⟩ => ⟨S16x8192, .f32⟩
  | .hbm, ⟨32, _⟩ => ⟨S16x8192x1, .f32⟩
  | .hbm, ⟨33, _⟩ => ⟨S16x8192x8192, .f32⟩
  | .hbm, ⟨34, _⟩ => ⟨S16x8192x8192, .i1⟩
  | .hbm, ⟨35, _⟩ => ⟨S16x8192x8192, .f32⟩
  | .hbm, ⟨36, _⟩ => ⟨S_, .f32⟩
  | .hbm, ⟨37, _⟩ => ⟨S16x8192, .f32⟩
  | .hbm, ⟨38, _⟩ => ⟨S_, .f32⟩
  | .hbm, ⟨39, _⟩ => ⟨S16x8192, .f32⟩
  | .hbm, ⟨40, _⟩ => ⟨S16x8192, .f32⟩
  | .hbm, ⟨41, _⟩ => ⟨S_, .f32⟩
  | .hbm, ⟨42, _⟩ => ⟨S16x8192, .f32⟩
  | .hbm, ⟨43, _⟩ => ⟨S16x8192, .i1⟩
  | .hbm, ⟨44, _⟩ => ⟨S_, .f32⟩
  | .hbm, ⟨45, _⟩ => ⟨S16x8192, .f32⟩
  | .hbm, ⟨46, _⟩ => ⟨S16x8192, .i1⟩
  | .hbm, ⟨47, _⟩ => ⟨S_, .f32⟩
  | .hbm, ⟨48, _⟩ => ⟨S16x8192, .f32⟩
  | .hbm, ⟨49, _⟩ => ⟨S_, .f32⟩
  | .hbm, ⟨50, _⟩ => ⟨S16x8192, .f32⟩
  | .hbm, ⟨51, _⟩ => ⟨S_, .f32⟩
  | .hbm, ⟨52, _⟩ => ⟨S16x8192, .f32⟩
  | .hbm, ⟨53, _⟩ => ⟨S16x8192, .f32⟩
  | .hbm, ⟨54, _⟩ => ⟨S16x8192, .f32⟩
  | .hbm, ⟨55, _⟩ => ⟨S16x8192x1, .f32⟩
  | .hbm, ⟨56, _⟩ => ⟨S16x8192x8192, .f32⟩
  | .hbm, ⟨57, _⟩ => ⟨S16x8192x8192, .f32⟩
  | .hbm, ⟨58, _⟩ => ⟨S16x8192x8192, .f32⟩
  | .hbm, ⟨59, _⟩ => ⟨S_, .f32⟩
  | .hbm, ⟨60, _⟩ => ⟨S16x8192, .f32⟩
  | .hbm, ⟨61, _⟩ => ⟨S16x8192x1, .f32⟩
  | .hbm, ⟨62, _⟩ => ⟨S16x8192x8192, .f32⟩
  | .hbm, ⟨63, _⟩ => ⟨S16x8192x8192, .f32⟩
  | .hbm, ⟨64, _⟩ => ⟨S16x8192x1, .f32⟩
  | .hbm, ⟨65, _⟩ => ⟨S_, .f32⟩
  | .hbm, ⟨66, _⟩ => ⟨S16x8192x1, .f32⟩
  | .hbm, ⟨67, _⟩ => ⟨S16x8192x1, .f32⟩
  | .hbm, ⟨68, _⟩ => ⟨S8192x16x128, .f32⟩
  | .hbm, ⟨69, _⟩ => ⟨S16x128x8192, .f32⟩
  | .hbm, ⟨70, _⟩ => ⟨S8192x16x128, .f32⟩
  | .hbm, ⟨71, _⟩ => ⟨S8192x2048, .f32⟩
  | .hbm, ⟨72, _⟩ => ⟨S8192x16x128, .f32⟩
  | .hbm, ⟨73, _⟩ => ⟨S16x128x8192, .f32⟩
  | .hbm, ⟨74, _⟩ => ⟨S16x8192x8192, .f32⟩
  | .hbm, ⟨75, _⟩ => ⟨S16x128x8192, .f32⟩
  | .hbm, ⟨76, _⟩ => ⟨S8192x16x128, .f32⟩
  | .hbm, ⟨77, _⟩ => ⟨S_, .f32⟩
  | .hbm, ⟨78, _⟩ => ⟨S8192x16x256, .f32⟩
  | .hbm, ⟨79, _⟩ => ⟨S16x8192x8192, .f32⟩
  | .hbm, ⟨80, _⟩ => ⟨S16x8192x8192, .f32⟩
  | .hbm, ⟨81, _⟩ => ⟨S16x8192x8192, .f32⟩
  | .hbm, ⟨82, _⟩ => ⟨S_, .f32⟩
  | .hbm, ⟨83, _⟩ => ⟨S16x8192, .f32⟩
  | .hbm, ⟨84, _⟩ => ⟨S16x8192x1, .f32⟩
  | .hbm, ⟨85, _⟩ => ⟨S16x8192x1, .f32⟩
  | .hbm, ⟨86, _⟩ => ⟨S16x8192x8192, .f32⟩
  | .hbm, ⟨87, _⟩ => ⟨S16x8192x8192, .f32⟩
  | .hbm, ⟨88, _⟩ => ⟨S_, .f32⟩
  | .hbm, ⟨89, _⟩ => ⟨S16x8192, .f32⟩
  | .hbm, ⟨90, _⟩ => ⟨S16x8192x8192, .f32⟩
  | .hbm, ⟨91, _⟩ => ⟨S16x8192x8192, .f32⟩
  | .hbm, ⟨92, _⟩ => ⟨S16x8192x8192, .f32⟩
  | .hbm, ⟨93, _⟩ => ⟨S_, .f32⟩
  | .hbm, ⟨94, _⟩ => ⟨S16x8192x8192, .f32⟩
  | .hbm, ⟨95, _⟩ => ⟨S16x8192x8192, .f32⟩
  | .hbm, ⟨96, _⟩ => ⟨S_, .f32⟩
  | .hbm, ⟨97, _⟩ => ⟨S16x8192x8192, .f32⟩
  | .hbm, ⟨98, _⟩ => ⟨S16x8192x8192, .f32⟩
  | .hbm, ⟨99, _⟩ => ⟨S16x8192x128, .f32⟩
  | .hbm, ⟨100, _⟩ => ⟨S16x8192x128, .f32⟩
  | .hbm, ⟨101, _⟩ => ⟨S8192x16x128, .f32⟩
  | .hbm, ⟨102, _⟩ => ⟨S_, .f32⟩
  | .hbm, ⟨103, _⟩ => ⟨S8192x16x256, .f32⟩
  | .hbm, ⟨104, _⟩ => ⟨S16x8192x128, .f32⟩
  | .hbm, ⟨105, _⟩ => ⟨S8192x16x128, .f32⟩
  | .hbm, ⟨106, _⟩ => ⟨S16x8192x128, .f32⟩
  | .hbm, ⟨107, _⟩ => ⟨S8192x16x128, .f32⟩
  | .hbm, ⟨108, _⟩ => ⟨S_, .f32⟩
  | .hbm, ⟨109, _⟩ => ⟨S8192x16x256, .f32⟩
  | .hbm, ⟨110, _⟩ => ⟨S8192x16x256, .f32⟩
  | .hbm, ⟨111, _⟩ => ⟨S_, .f32⟩
  | .hbm, ⟨112, _⟩ => ⟨S8192x16x256, .f32⟩
  | .hbm, ⟨113, _⟩ => ⟨S8192x16x256, .f32⟩
  | .hbm, ⟨114, _⟩ => ⟨S8192x4096, .f32⟩
  | .hbm, ⟨115, _⟩ => ⟨S8192x4096, .f32⟩
  | .hbm, ⟨116, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_call0_v0 : Ref sig .tc := ⟨.hbm, 24, rfl⟩
abbrev main_v18_1 : Ref sig .tc := ⟨.hbm, 25, rfl⟩
abbrev main_call0_v2 : Ref sig .tc := ⟨.hbm, 26, rfl⟩
abbrev main_v18_0 : Ref sig .tc := ⟨.hbm, 27, rfl⟩
abbrev main_call0_cst : Ref sig .tc := ⟨.hbm, 28, rfl⟩
abbrev main_v18_2 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_13 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_call1_cst : Ref sig .tc := ⟨.hbm, 93, rfl⟩
abbrev main_call1_v0 : Ref sig .tc := ⟨.hbm, 94, rfl⟩
abbrev main_v69 : Ref sig .tc := ⟨.hbm, 95, rfl⟩
abbrev main_cst_14 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_15 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_16 : Ref sig .tc := ⟨.hbm, 108, rfl⟩
abbrev main_v80 : Ref sig .tc := ⟨.hbm, 109, rfl⟩
abbrev main_v81 : Ref sig .tc := ⟨.hbm, 110, rfl⟩
abbrev main_cst_17 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩

abbrev nD : Nat := 1
abbrev τ : Topo := Topo.v7x

variable {F : FTy → Type} [FloatOps F]
-- ==== Up.lean ====
abbrev S8192x2048 : Shape := ⟨2, ![8192, 2048]⟩
abbrev S4x2048x1408 : Shape := ⟨3, ![4, 2048, 1408]⟩
abbrev S8192x5632 : Shape := ⟨2, ![8192, 5632]⟩
abbrev S512x2048 : Shape := ⟨2, ![512, 2048]⟩
abbrev S1x2048x1408 : Shape := ⟨3, ![1, 2048, 1408]⟩
abbrev S512x1408 : Shape := ⟨2, ![512, 1408]⟩
abbrev S2048x1408 : Shape := ⟨2, ![2048, 1408]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S4x2048x1408, .bf16⟩
  | .hbm, ⟨2, _⟩ => ⟨S4x2048x1408, .bf16⟩
  | .hbm, ⟨3, _⟩ => ⟨S8192x5632, .bf16⟩
  | .hbm, ⟨4, _⟩ => ⟨S8192x5632, .bf16⟩
  | .hbm, ⟨5, _⟩ => ⟨S8192x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpRefIdeal.lean ====
abbrev S8192x2048 : Shape := ⟨2, ![8192, 2048]⟩
abbrev S4x2048x1408 : Shape := ⟨3, ![4, 2048, 1408]⟩
abbrev S8192x4x1408 : Shape := ⟨3, ![8192, 4, 1408]⟩
abbrev S8192x5632 : Shape := ⟨2, ![8192, 5632]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x1408, .bf16⟩
  | .hbm, ⟨2, _⟩ => ⟨S4x2048x1408, .bf16⟩
  | .hbm, ⟨3, _⟩ => ⟨S8192x2048, .f32⟩
  | .hbm, ⟨4, _⟩ => ⟨S4x2048x1408, .f32⟩
  | .hbm, ⟨5, _⟩ => ⟨S4x2048x1408, .f32⟩
  | .hbm, ⟨6, _⟩ => ⟨S8192x4x1408, .f32⟩
  | .hbm, ⟨7, _⟩ => ⟨S8192x5632, .f32⟩
  | .hbm, ⟨8, _⟩ => ⟨S8192x4x1408, .f32⟩
  | .hbm, ⟨9, _⟩ => ⟨S8192x5632, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S_, .f32⟩
  | .hbm, ⟨16, _⟩ => ⟨S8192x5632, .f32⟩
  | .hbm, ⟨17, _⟩ => ⟨S8192x5632, .f32⟩
  | .hbm, ⟨18, _⟩ => ⟨S_, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S_, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S8192x5632, .bf16⟩
  | .hbm, ⟨33, _⟩ => ⟨S8192x5632, .bf16⟩
  | .hbm, ⟨34, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v7_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v7_1 : Ref sig .tc := ⟨.hbm, 21, rfl⟩
abbrev main_v7_0 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩

abbrev nD : Nat := 1
abbrev τ : Topo := Topo.v7x

variable {F : FTy → Type} [FloatOps F]
-- ==== Act.lean ====
abbrev S8192x2048 : Shape := ⟨2, ![8192, 2048]⟩
abbrev S4x1408x2048 : Shape := ⟨3, ![4, 1408, 2048]⟩
abbrev S8192x5632 : Shape := ⟨2, ![8192, 5632]⟩
abbrev S_ : Shape := ⟨0, ![]⟩
abbrev S1024x2048 : Shape := ⟨2, ![1024, 2048]⟩
abbrev S1x1408x2048 : Shape := ⟨3, ![1, 1408, 2048]⟩
abbrev S1024x1408 : Shape := ⟨2, ![1024, 1408]⟩
abbrev S1408x2048 : Shape := ⟨2, ![1408, 2048]⟩

abbrev nBuf : Space → Nat
  | .hbm => 30
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S4x1408x2048, .bf16⟩
  | .hbm, ⟨2, _⟩ => ⟨S8192x5632, .f32⟩
  | .hbm, ⟨3, _⟩ => ⟨S8192x5632, .f32⟩
  | .hbm, ⟨4, _⟩ => ⟨S8192x5632, .f32⟩
  | .hbm, ⟨5, _⟩ => ⟨S8192x5632, .f32⟩
  | .hbm, ⟨6, _⟩ => ⟨S_, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S_, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .bf16⟩
  | .hbm, ⟨27, _⟩ => ⟨S8192x5632, .bf16⟩
  | .hbm, ⟨28, _⟩ => ⟨S8192x5632, .bf16⟩
  | .hbm, ⟨29, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8_0 : Ref sig .tc := ⟨.hbm, 28, rfl⟩
abbrev main_v8_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ActRefIdeal.lean ====
abbrev S8192x2048 : Shape := ⟨2, ![8192, 2048]⟩
abbrev S4x1408x2048 : Shape := ⟨3, ![4, 1408, 2048]⟩
abbrev S8192x5632 : Shape := ⟨2, ![8192, 5632]⟩
abbrev S_ : Shape := ⟨0, ![]⟩
abbrev S5632x2048 : Shape := ⟨2, ![5632, 2048]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x1408x2048, .bf16⟩
  | .hbm, ⟨2, _⟩ => ⟨S8192x5632, .f32⟩
  | .hbm, ⟨3, _⟩ => ⟨S8192x5632, .f32⟩
  | .hbm, ⟨4, _⟩ => ⟨S8192x5632, .f32⟩
  | .hbm, ⟨5, _⟩ => ⟨S8192x5632, .f32⟩
  | .hbm, ⟨6, _⟩ => ⟨S_, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S4x1408x2048, .f32⟩
  | .hbm, ⟨19, _⟩ => ⟨S5632x2048, .f32⟩
  | .hbm, ⟨20, _⟩ => ⟨S8192x2048, .f32⟩
  | .hbm, ⟨21, _⟩ => ⟨S8192x2048, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S8192x5632, .bf16⟩
  | .hbm, ⟨30, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== DwUp.lean ====
abbrev S8192x2048 : Shape := ⟨2, ![8192, 2048]⟩
abbrev S8192x5632 : Shape := ⟨2, ![8192, 5632]⟩
abbrev S4x2048x1408 : Shape := ⟨3, ![4, 2048, 1408]⟩
abbrev S1024x2048 : Shape := ⟨2, ![1024, 2048]⟩
abbrev S1024x1408 : Shape := ⟨2, ![1024, 1408]⟩
abbrev S1x2048x1408 : Shape := ⟨3, ![1, 2048, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S4x2048x1408, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1408, .bf16⟩
  | .local _ .vmem, ⟨3, _⟩ => ⟨S1024x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S2048x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== DwUpRefIdeal.lean ====
abbrev S8192x2048 : Shape := ⟨2, ![8192, 2048]⟩
abbrev S8192x5632 : Shape := ⟨2, ![8192, 5632]⟩
abbrev S_ : Shape := ⟨0, ![]⟩
abbrev S4x2048x1408 : Shape := ⟨3, ![4, 2048, 1408]⟩
abbrev S8192x4x1408 : Shape := ⟨3, ![8192, 4, 1408]⟩
abbrev S4x1408x2048 : Shape := ⟨3, ![4, 1408, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S_, .f32⟩
  | .hbm, ⟨3, _⟩ => ⟨S4x2048x1408, .f32⟩
  | .hbm, ⟨4, _⟩ => ⟨S8192x2048, .f32⟩
  | .hbm, ⟨5, _⟩ => ⟨S8192x4x1408, .f32⟩
  | .hbm, ⟨6, _⟩ => ⟨S8192x5632, .f32⟩
  | .hbm, ⟨7, _⟩ => ⟨S8192x5632, .f32⟩
  | .hbm, ⟨8, _⟩ => ⟨S8192x4x1408, .f32⟩
  | .hbm, ⟨9, _⟩ => ⟨S4x1408x2048, .f32⟩
  | .hbm, ⟨10, _⟩ => ⟨S4x2048x1408, .f32⟩
  | .hbm, ⟨11, _⟩ => ⟨S4x2048x1408, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DwDown.lean ====
abbrev S8192x5632 : Shape := ⟨2, ![8192, 5632]⟩
abbrev S8192x2048 : Shape := ⟨2, ![8192, 2048]⟩
abbrev S4x1408x2048 : Shape := ⟨3, ![4, 1408, 2048]⟩
abbrev S1024x1408 : Shape := ⟨2, ![1024, 1408]⟩
abbrev S1024x1024 : Shape := ⟨2, ![1024, 1024]⟩
abbrev S1x1408x1024 : Shape := ⟨3, ![1, 1408, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S4x1408x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg2.toNat, v16.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg2.toNat, v9.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== DwDownRefIdeal.lean ====
abbrev S8192x5632 : Shape := ⟨2, ![8192, 5632]⟩
abbrev S8192x2048 : Shape := ⟨2, ![8192, 2048]⟩
abbrev S_ : Shape := ⟨0, ![]⟩
abbrev S4x1408x2048 : Shape := ⟨3, ![4, 1408, 2048]⟩
abbrev S5632x2048 : Shape := ⟨2, ![5632, 2048]⟩
abbrev S2048x5632 : Shape := ⟨2, ![2048, 5632]⟩

abbrev nBuf : Space → Nat
  | .hbm => 12
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S_, .f32⟩
  | .hbm, ⟨3, _⟩ => ⟨S4x1408x2048, .f32⟩
  | .hbm, ⟨4, _⟩ => ⟨S8192x5632, .f32⟩
  | .hbm, ⟨5, _⟩ => ⟨S5632x2048, .f32⟩
  | .hbm, ⟨6, _⟩ => ⟨S8192x2048, .f32⟩
  | .hbm, ⟨7, _⟩ => ⟨S8192x2048, .f32⟩
  | .hbm, ⟨8, _⟩ => ⟨S2048x5632, .f32⟩
  | .hbm, ⟨9, _⟩ => ⟨S5632x2048, .f32⟩
  | .hbm, ⟨10, _⟩ => ⟨S4x1408x2048, .f32⟩
  | .hbm, ⟨11, _⟩ => ⟨S4x1408x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Dh.lean ====
abbrev S8192x5632 : Shape := ⟨2, ![8192, 5632]⟩
abbrev S4x2048x1408 : Shape := ⟨3, ![4, 2048, 1408]⟩
abbrev S8192x2048 : Shape := ⟨2, ![8192, 2048]⟩
abbrev S512x1408 : Shape := ⟨2, ![512, 1408]⟩
abbrev S1x2048x1408 : Shape := ⟨3, ![1, 2048, 1408]⟩
abbrev S512x2048 : Shape := ⟨2, ![512, 2048]⟩
abbrev S2048x1408 : Shape := ⟨2, ![2048, 1408]⟩

abbrev nBuf : Space → Nat
  | .hbm => 5
  | .vmem => 11
  | .smem => 0
  | _ => 0

abbrev bufTy : (tb : Table) → Fin (tcTables nBuf tb) → BufTy
  | .hbm, ⟨0, _⟩ => ⟨S8192x5632, .bf16⟩
  | .hbm, ⟨1, _⟩ => ⟨S4x2048x1408, .bf16⟩
  | .hbm, ⟨2, _⟩ => ⟨S8192x5632, .bf16⟩
  | .hbm, ⟨3, _⟩ => ⟨S4x2048x1408, .bf16⟩
  | .hbm, ⟨4, _⟩ => ⟨S8192x2048, .f32⟩
  | .local _ .vmem, ⟨0, _⟩ => ⟨S512x1408, .bf16⟩
  | .local _ .vmem, ⟨1, _⟩ => ⟨S512x1408, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S512x1408, .bf16⟩
  | .local _ .vmem, ⟨5, _⟩ => ⟨S512x1408, .bf16⟩
  | .local _ .vmem, ⟨6, _⟩ => ⟨S1x2048x1408, .bf16⟩
  | .local _ .vmem, ⟨7, _⟩ => ⟨S1x2048x1408, .bf16⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 1, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x2048x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== DhRefIdeal.lean ====
abbrev S8192x5632 : Shape := ⟨2, ![8192, 5632]⟩
abbrev S4x2048x1408 : Shape := ⟨3, ![4, 2048, 1408]⟩
abbrev S_ : Shape := ⟨0, ![]⟩
abbrev S8192x2048 : Shape := ⟨2, ![8192, 2048]⟩
abbrev S8192x4x1408 : Shape := ⟨3, ![8192, 4, 1408]⟩

abbrev nBuf : Space → Nat
  | .hbm => 19
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S4x2048x1408, .bf16⟩
  | .hbm, ⟨2, _⟩ => ⟨S8192x5632, .bf16⟩
  | .hbm, ⟨3, _⟩ => ⟨S4x2048x1408, .bf16⟩
  | .hbm, ⟨4, _⟩ => ⟨S8192x5632, .f32⟩
  | .hbm, ⟨5, _⟩ => ⟨S4x2048x1408, .f32⟩
  | .hbm, ⟨6, _⟩ => ⟨S8192x5632, .f32⟩
  | .hbm, ⟨7, _⟩ => ⟨S4x2048x1408, .f32⟩
  | .hbm, ⟨8, _⟩ => ⟨S_, .f32⟩
  | .hbm, ⟨9, _⟩ => ⟨S8192x2048, .f32⟩
  | .hbm, ⟨10, _⟩ => ⟨S8192x4x1408, .f32⟩
  | .hbm, ⟨11, _⟩ => ⟨S8192x5632, .f32⟩
  | .hbm, ⟨12, _⟩ => ⟨S8192x4x1408, .f32⟩
  | .hbm, ⟨13, _⟩ => ⟨S8192x5632, .f32⟩
  | .hbm, ⟨14, _⟩ => ⟨S8192x4x1408, .f32⟩
  | .hbm, ⟨15, _⟩ => ⟨S8192x2048, .f32⟩
  | .hbm, ⟨16, _⟩ => ⟨S8192x4x1408, .f32⟩
  | .hbm, ⟨17, _⟩ => ⟨S8192x2048, .f32⟩
  | .hbm, ⟨18, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Down.lean ====
abbrev S8192x5632 : Shape := ⟨2, ![8192, 5632]⟩
abbrev S4x1408x2048 : Shape := ⟨3, ![4, 1408, 2048]⟩
abbrev S8192x2048 : Shape := ⟨2, ![8192, 2048]⟩
abbrev S1024x1408 : Shape := ⟨2, ![1024, 1408]⟩
abbrev S1x1408x1024 : Shape := ⟨3, ![1, 1408, 1024]⟩
abbrev S1024x1024 : Shape := ⟨2, ![1024, 1024]⟩
abbrev S1408x1024 : Shape := ⟨2, ![1408, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S4x1408x2048, .bf16⟩
  | .hbm, ⟨2, _⟩ => ⟨S8192x2048, .f32⟩
  | .hbm, ⟨3, _⟩ => ⟨S8192x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S8192x5632 : Shape := ⟨2, ![8192, 5632]⟩
abbrev S4x1408x2048 : Shape := ⟨3, ![4, 1408, 2048]⟩
abbrev S8192x2048 : Shape := ⟨2, ![8192, 2048]⟩
abbrev S5632x2048 : Shape := ⟨2, ![5632, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S4x1408x2048, .bf16⟩
  | .hbm, ⟨2, _⟩ => ⟨S8192x2048, .f32⟩
  | .hbm, ⟨3, _⟩ => ⟨S8192x5632, .f32⟩
  | .hbm, ⟨4, _⟩ => ⟨S4x1408x2048, .f32⟩
  | .hbm, ⟨5, _⟩ => ⟨S5632x2048, .f32⟩
  | .hbm, ⟨6, _⟩ => ⟨S8192x2048, .f32⟩
  | .hbm, ⟨7, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AdamVec.lean ====
abbrev S5x2048 : Shape := ⟨2, ![5, 2048]⟩

abbrev nBuf : Space → Nat
  | .hbm => 7
  | .vmem => 7
  | .smem => 0
  | _ => 0

abbrev bufTy : (tb : Table) → Fin (tcTables nBuf tb) → BufTy
  | .hbm, ⟨0, _⟩ => ⟨S5x2048, .f32⟩
  | .hbm, ⟨1, _⟩ => ⟨S5x2048, .f32⟩
  | .hbm, ⟨2, _⟩ => ⟨S5x2048, .f32⟩
  | .hbm, ⟨3, _⟩ => ⟨S5x2048, .f32⟩
  | .hbm, ⟨4, _⟩ => ⟨S5x2048, .f32⟩
  | .hbm, ⟨5, _⟩ => ⟨S5x2048, .f32⟩
  | .hbm, ⟨6, _⟩ => ⟨S5x2048, .f32⟩
  | .local _ .vmem, ⟨0, _⟩ => ⟨S5x2048, .f32⟩
  | .local _ .vmem, ⟨1, _⟩ => ⟨S5x2048, .f32⟩
  | .local _ .vmem, ⟨2, _⟩ => ⟨S5x2048, .f32⟩
  | .local _ .vmem, ⟨3, _⟩ => ⟨S5x2048, .f32⟩
  | .local _ .vmem, ⟨4, _⟩ => ⟨S5x2048, .f32⟩
  | .local _ .vmem, ⟨5, _⟩ => ⟨S5x2048, .f32⟩
  | .local _ .vmem, ⟨6, _⟩ => ⟨S5x2048, .f32⟩
  | _, _ => ⟨S5x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S5x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S5x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S5x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S5x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S5x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S5x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S5x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamVecRefIdeal.lean ====
abbrev S5x2048 : Shape := ⟨2, ![5, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S5x2048, .f32⟩
  | .hbm, ⟨1, _⟩ => ⟨S5x2048, .f32⟩
  | .hbm, ⟨2, _⟩ => ⟨S5x2048, .f32⟩
  | .hbm, ⟨3, _⟩ => ⟨S5x2048, .f32⟩
  | .hbm, ⟨4, _⟩ => ⟨S_, .f32⟩
  | .hbm, ⟨5, _⟩ => ⟨S5x2048, .f32⟩
  | .hbm, ⟨6, _⟩ => ⟨S5x2048, .f32⟩
  | .hbm, ⟨7, _⟩ => ⟨S_, .f32⟩
  | .hbm, ⟨8, _⟩ => ⟨S5x2048, .f32⟩
  | .hbm, ⟨9, _⟩ => ⟨S5x2048, .f32⟩
  | .hbm, ⟨10, _⟩ => ⟨S5x2048, .f32⟩
  | .hbm, ⟨11, _⟩ => ⟨S_, .f32⟩
  | .hbm, ⟨12, _⟩ => ⟨S5x2048, .f32⟩
  | .hbm, ⟨13, _⟩ => ⟨S5x2048, .f32⟩
  | .hbm, ⟨14, _⟩ => ⟨S5x2048, .f32⟩
  | .hbm, ⟨15, _⟩ => ⟨S_, .f32⟩
  | .hbm, ⟨16, _⟩ => ⟨S5x2048, .f32⟩
  | .hbm, ⟨17, _⟩ => ⟨S5x2048, .f32⟩
  | .hbm, ⟨18, _⟩ => ⟨S5x2048, .f32⟩
  | .hbm, ⟨19, _⟩ => ⟨S_, .f32⟩
  | .hbm, ⟨20, _⟩ => ⟨S5x2048, .f32⟩
  | .hbm, ⟨21, _⟩ => ⟨S5x2048, .f32⟩
  | .hbm, ⟨22, _⟩ => ⟨S_, .f32⟩
  | .hbm, ⟨23, _⟩ => ⟨S5x2048, .f32⟩
  | .hbm, ⟨24, _⟩ => ⟨S5x2048, .f32⟩
  | .hbm, ⟨25, _⟩ => ⟨S5x2048, .f32⟩
  | .hbm, ⟨26, _⟩ => ⟨S_, .f32⟩
  | .hbm, ⟨27, _⟩ => ⟨S5x2048, .f32⟩
  | .hbm, ⟨28, _⟩ => ⟨S5x2048, .f32⟩
  | .hbm, ⟨29, _⟩ => ⟨S5x2048, .f32⟩
  | .hbm, ⟨30, _⟩ => ⟨S_, .f32⟩
  | .hbm, ⟨31, _⟩ => ⟨S5x2048, .f32⟩
  | .hbm, ⟨32, _⟩ => ⟨S5x2048, .f32⟩
  | .hbm, ⟨33, _⟩ => ⟨S5x2048, .f32⟩
  | .hbm, ⟨34, _⟩ => ⟨S_, .f32⟩
  | .hbm, ⟨35, _⟩ => ⟨S5x2048, .f32⟩
  | .hbm, ⟨36, _⟩ => ⟨S5x2048, .f32⟩
  | _, _ => ⟨S5x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamLat.lean ====
abbrev S2x512 : Shape := ⟨2, ![2, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .local _ .vmem, ⟨0, _⟩ => ⟨S2x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamLatRefIdeal.lean ====
abbrev S2x512 : Shape := ⟨2, ![2, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S_, .f32⟩
  | .hbm, ⟨5, _⟩ => ⟨S2x512, .f32⟩
  | .hbm, ⟨6, _⟩ => ⟨S2x512, .f32⟩
  | .hbm, ⟨7, _⟩ => ⟨S_, .f32⟩
  | .hbm, ⟨8, _⟩ => ⟨S2x512, .f32⟩
  | .hbm, ⟨9, _⟩ => ⟨S2x512, .f32⟩
  | .hbm, ⟨10, _⟩ => ⟨S2x512, .f32⟩
  | .hbm, ⟨11, _⟩ => ⟨S_, .f32⟩
  | .hbm, ⟨12, _⟩ => ⟨S2x512, .f32⟩
  | .hbm, ⟨13, _⟩ => ⟨S2x512, .f32⟩
  | .hbm, ⟨14, _⟩ => ⟨S2x512, .f32⟩
  | .hbm, ⟨15, _⟩ => ⟨S_, .f32⟩
  | .hbm, ⟨16, _⟩ => ⟨S2x512, .f32⟩
  | .hbm, ⟨17, _⟩ => ⟨S2x512, .f32⟩
  | .hbm, ⟨18, _⟩ => ⟨S2x512, .f32⟩
  | .hbm, ⟨19, _⟩ => ⟨S_, .f32⟩
  | .hbm, ⟨20, _⟩ => ⟨S2x512, .f32⟩
  | .hbm, ⟨21, _⟩ => ⟨S2x512, .f32⟩
  | .hbm, ⟨22, _⟩ => ⟨S_, .f32⟩
  | .hbm, ⟨23, _⟩ => ⟨S2x512, .f32⟩
  | .hbm, ⟨24, _⟩ => ⟨S2x512, .f32⟩
  | .hbm, ⟨25, _⟩ => ⟨S2x512, .f32⟩
  | .hbm, ⟨26, _⟩ => ⟨S_, .f32⟩
  | .hbm, ⟨27, _⟩ => ⟨S2x512, .f32⟩
  | .hbm, ⟨28, _⟩ => ⟨S2x512, .f32⟩
  | .hbm, ⟨29, _⟩ => ⟨S2x512, .f32⟩
  | .hbm, ⟨30, _⟩ => ⟨S_, .f32⟩
  | .hbm, ⟨31, _⟩ => ⟨S2x512, .f32⟩
  | .hbm, ⟨32, _⟩ => ⟨S2x512, .f32⟩
  | .hbm, ⟨33, _⟩ => ⟨S2x512, .f32⟩
  | .hbm, ⟨34, _⟩ => ⟨S_, .f32⟩
  | .hbm, ⟨35, _⟩ => ⟨S2x512, .f32⟩
  | .hbm, ⟨36, _⟩ => ⟨S2x512, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamPool.lean ====
abbrev S2x2048 : Shape := ⟨2, ![2, 2048]⟩

abbrev nBuf : Space → Nat
  | .hbm => 7
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S2x2048, .f32⟩
  | .hbm, ⟨5, _⟩ => ⟨S2x2048, .f32⟩
  | .hbm, ⟨6, _⟩ => ⟨S2x2048, .f32⟩
  | .local _ .vmem, ⟨0, _⟩ => ⟨S2x2048, .f32⟩
  | .local _ .vmem, ⟨1, _⟩ => ⟨S2x2048, .f32⟩
  | .local _ .vmem, ⟨2, _⟩ => ⟨S2x2048, .f32⟩
  | .local _ .vmem, ⟨3, _⟩ => ⟨S2x2048, .f32⟩
  | .local _ .vmem, ⟨4, _⟩ => ⟨S2x2048, .f32⟩
  | .local _ .vmem, ⟨5, _⟩ => ⟨S2x2048, .f32⟩
  | .local _ .vmem, ⟨6, _⟩ => ⟨S2x2048, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamPoolRefIdeal.lean ====
abbrev S2x2048 : Shape := ⟨2, ![2, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S_, .f32⟩
  | .hbm, ⟨5, _⟩ => ⟨S2x2048, .f32⟩
  | .hbm, ⟨6, _⟩ => ⟨S2x2048, .f32⟩
  | .hbm, ⟨7, _⟩ => ⟨S_, .f32⟩
  | .hbm, ⟨8, _⟩ => ⟨S2x2048, .f32⟩
  | .hbm, ⟨9, _⟩ => ⟨S2x2048, .f32⟩
  | .hbm, ⟨10, _⟩ => ⟨S2x2048, .f32⟩
  | .hbm, ⟨11, _⟩ => ⟨S_, .f32⟩
  | .hbm, ⟨12, _⟩ => ⟨S2x2048, .f32⟩
  | .hbm, ⟨13, _⟩ => ⟨S2x2048, .f32⟩
  | .hbm, ⟨14, _⟩ => ⟨S2x2048, .f32⟩
  | .hbm, ⟨15, _⟩ => ⟨S_, .f32⟩
  | .hbm, ⟨16, _⟩ => ⟨S2x2048, .f32⟩
  | .hbm, ⟨17, _⟩ => ⟨S2x2048, .f32⟩
  | .hbm, ⟨18, _⟩ => ⟨S2x2048, .f32⟩
  | .hbm, ⟨19, _⟩ => ⟨S_, .f32⟩
  | .hbm, ⟨20, _⟩ => ⟨S2x2048, .f32⟩
  | .hbm, ⟨21, _⟩ => ⟨S2x2048, .f32⟩
  | .hbm, ⟨22, _⟩ => ⟨S_, .f32⟩
  | .hbm, ⟨23, _⟩ => ⟨S2x2048, .f32⟩
  | .hbm, ⟨24, _⟩ => ⟨S2x2048, .f32⟩
  | .hbm, ⟨25, _⟩ => ⟨S2x2048, .f32⟩
  | .hbm, ⟨26, _⟩ => ⟨S_, .f32⟩
  | .hbm, ⟨27, _⟩ => ⟨S2x2048, .f32⟩
  | .hbm, ⟨28, _⟩ => ⟨S2x2048, .f32⟩
  | .hbm, ⟨29, _⟩ => ⟨S2x2048, .f32⟩
  | .hbm, ⟨30, _⟩ => ⟨S_, .f32⟩
  | .hbm, ⟨31, _⟩ => ⟨S2x2048, .f32⟩
  | .hbm, ⟨32, _⟩ => ⟨S2x2048, .f32⟩
  | .hbm, ⟨33, _⟩ => ⟨S2x2048, .f32⟩
  | .hbm, ⟨34, _⟩ => ⟨S_, .f32⟩
  | .hbm, ⟨35, _⟩ => ⟨S2x2048, .f32⟩
  | .hbm, ⟨36, _⟩ => ⟨S2x2048, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.OffsI.lean ====
/-
  Where the rectangles of the attention backward kernel lie. The kernel's grid is (head, key tile); at key tile `b` its
  body goes through the query tiles `b, b+1, …, 15`, two at a time, and computes each offset from `b` and the trip of
  the loop. Here every offset is stated as a number: 512 times the query tile it belongs to.
-/
module

public import proofs.«01_k».proof.Proof.Gen.AttnIdeal.Frame
public import Idealize.ShloMosaic.Lib.Exec

@[expose] public section

noncomputable section

namespace Cert.Proof.AttnIdeal

open Cert.AttnIdeal
open Idealize.ShloMosaic

/-- Below the last key tile `b`, the loop makes `(14 - b) / 2` trips. -/
theorem t1_trips : ∀ i : grid0.Coords, (i 1).val < 15 → (k0_t1_loop i).trips = (14 - (i 1).val) / 2 := by decide +kernel

theorem cond1_iff : ∀ i : grid0.Coords, k0_cond1 i = 1#1 ↔ (i 1).val = 0 := by decide +kernel
theorem cond2_iff : ∀ i : grid0.Coords, k0_cond2 i = 1#1 ↔ (i 1).val = 15 := by decide +kernel
theorem cond3_iff : ∀ i : grid0.Coords, k0_cond3 i = 1#1 ↔ (i 1).val < 15 := by decide +kernel
theorem cond4_iff : ∀ i : grid0.Coords, (i 1).val < 15 → (k0_cond4 i = 1#1 ↔ (i 1).val % 2 = 0) := by decide +kernel
theorem cond5_iff : ∀ i : grid0.Coords, (i 1).val < 15 → (k0_cond5 i = 1#1 ↔ (i 1).val % 2 = 1) := by decide +kernel

theorem off1_eq : ∀ i : grid0.Coords, k0_off1 i = ![512 * (i 1).val, 0] := by decide +kernel
theorem off2_eq : ∀ i : grid0.Coords, k0_off2 i = ![512 * (i 1).val, 0] := by decide +kernel
theorem off3_eq : ∀ i : grid0.Coords, k0_off3 i = ![512 * (i 1).val, 0] := by decide +kernel
theorem off4_eq : ∀ i : grid0.Coords, k0_off4 i = ![512 * (i 1).val, 0] := by decide +kernel
theorem off5_eq : ∀ i : grid0.Coords, k0_off5 i = ![0, (i 1).val, 0, 0] := by decide +kernel
theorem off6_eq : ∀ i : grid0.Coords, k0_off6 i = ![512 * ((i 1).val + 1), 0] := by decide +kernel
theorem off7_eq : ∀ i : grid0.Coords, k0_off7 i = ![512 * ((i 1).val + 1), 0] := by decide +kernel
theorem off8_eq : ∀ i : grid0.Coords, k0_off8 i = ![512 * (i 1).val, 0] := by decide +kernel
theorem off9_eq : ∀ i : grid0.Coords, k0_off9 i = ![512 * (i 1).val, 0] := by decide +kernel
theorem off10_eq : ∀ i : grid0.Coords, k0_off10 i = ![0, (i 1).val, 0, 0] := by decide +kernel
theorem off11_eq1 : ∀ (i : grid0.Coords) (t : Fin (k0_t1_loop i).trips), k0_off11 i t 1#32 = ![512 * ((i 1).val + 2 * t.val + 2), 0] := by decide +kernel
theorem off11_eq2 : ∀ (i : grid0.Coords) (t : Fin (k0_t1_loop i).trips), k0_off11 i t 2#32 = ![512 * ((i 1).val + 2 * t.val + 3), 0] := by decide +kernel
theorem off12_eq1 : ∀ (i : grid0.Coords) (t : Fin (k0_t1_loop i).trips), k0_off12 i t 1#32 = ![512 * ((i 1).val + 2 * t.val + 2), 0] := by decide +kernel
theorem off12_eq2 : ∀ (i : grid0.Coords) (t : Fin (k0_t1_loop i).trips), k0_off12 i t 2#32 = ![512 * ((i 1).val + 2 * t.val + 3), 0] := by decide +kernel
theorem off13_eq : ∀ (i : grid0.Coords) (t : Fin (k0_t1_loop i).trips), k0_off13 i t = ![512 * ((i 1).val + 2 * t.val + 1), 0] := by decide +kernel
theorem off14_eq : ∀ (i : grid0.Coords) (t : Fin (k0_t1_loop i).trips), k0_off14 i t = ![512 * ((i 1).val + 2 * t.val + 1), 0] := by decide +kernel
theorem off15_eq : ∀ (i : grid0.Coords) (t : Fin (k0_t1_loop i).trips), k0_off15 i t = ![0, (i 1).val + 2 * t.val + 1, 0, 0] := by decide +kernel
theorem off16_eq : ∀ (i : grid0.Coords) (t : Fin (k0_t1_loop i).trips), k0_off16 i t = ![0, (i 1).val + 2 * t.val + 2, 0, 0] := by decide +kernel
theorem off23_eq : ∀ i : grid0.Coords, k0_off23 i = ![512 * (15 - (i 1).val % 2), 0] := by decide +kernel
theorem off24_eq : ∀ i : grid0.Coords, k0_off24 i = ![512 * (15 - (i 1).val % 2), 0] := by decide +kernel
theorem off25_eq : ∀ i : grid0.Coords, k0_off25 i = ![0, 15 - (i 1).val % 2, 0, 0] := by decide +kernel
theorem off26_eq : ∀ i : grid0.Coords, k0_off26 i = ![512 * (16 - (i 1).val % 2), 0] := by decide +kernel
theorem off27_eq : ∀ i : grid0.Coords, k0_off27 i = ![512 * (16 - (i 1).val % 2), 0] := by decide +kernel
theorem off28_eq : ∀ i : grid0.Coords, k0_off28 i = ![512 * (15 - (i 1).val % 2), 0] := by decide +kernel
theorem off29_eq : ∀ i : grid0.Coords, k0_off29 i = ![512 * (15 - (i 1).val % 2), 0] := by decide +kernel
theorem off30_eq : ∀ i : grid0.Coords, k0_off30 i = ![0, 15 - (i 1).val % 2, 0, 0] := by decide +kernel
theorem off31_eq : ∀ i : grid0.Coords, k0_off31 i = ![0, 16 - (i 1).val % 2, 0, 0] := by decide +kernel

instance (i : grid0.Coords) : ClosedOff (k0_off1 i) := ⟨_, off1_eq i⟩
instance (i : grid0.Coords) : ClosedOff (k0_off2 i) := ⟨_, off2_eq i⟩
instance (i : grid0.Coords) : ClosedOff (k0_off3 i) := ⟨_, off3_eq i⟩
instance (i : grid0.Coords) : ClosedOff (k0_off4 i) := ⟨_, off4_eq i⟩
instance (i : grid0.Coords) : ClosedOff (k0_off5 i) := ⟨_, off5_eq i⟩
instance (i : grid0.Coords) : ClosedOff (k0_off6 i) := ⟨_, off6_eq i⟩
instance (i : grid0.Coords) : ClosedOff (k0_off7 i) := ⟨_, off7_eq i⟩
instance (i : grid0.Coords) : ClosedOff (k0_off8 i) := ⟨_, off8_eq i⟩
instance (i : grid0.Coords) : ClosedOff (k0_off9 i) := ⟨_, off9_eq i⟩
instance (i : grid0.Coords) : ClosedOff (k0_off10 i) := ⟨_, off10_eq i⟩
instance (i : grid0.Coords) (t : Fin (k0_t1_loop i).trips) : ClosedOff (k0_off11 i t 1#32) := ⟨_, off11_eq1 i t⟩
instance (i : grid0.Coords) (t : Fin (k0_t1_loop i).trips) : ClosedOff (k0_off11 i t 2#32) := ⟨_, off11_eq2 i t⟩
instance (i : grid0.Coords) (t : Fin (k0_t1_loop i).trips) : ClosedOff (k0_off12 i t 1#32) := ⟨_, off12_eq1 i t⟩
instance (i : grid0.Coords) (t : Fin (k0_t1_loop i).trips) : ClosedOff (k0_off12 i t 2#32) := ⟨_, off12_eq2 i t⟩
instance (i : grid0.Coords) (t : Fin (k0_t1_loop i).trips) : ClosedOff (k0_off13 i t) := ⟨_, off13_eq i t⟩
instance (i : grid0.Coords) (t : Fin (k0_t1_loop i).trips) : ClosedOff (k0_off14 i t) := ⟨_, off14_eq i t⟩
instance (i : grid0.Coords) (t : Fin (k0_t1_loop i).trips) : ClosedOff (k0_off15 i t) := ⟨_, off15_eq i t⟩
instance (i : grid0.Coords) (t : Fin (k0_t1_loop i).trips) : ClosedOff (k0_off16 i t) := ⟨_, off16_eq i t⟩
instance (i : grid0.Coords) : ClosedOff (k0_off23 i) := ⟨_, off23_eq i⟩
instance (i : grid0.Coords) : ClosedOff (k0_off24 i) := ⟨_, off24_eq i⟩
instance (i : grid0.Coords) : ClosedOff (k0_off25 i) := ⟨_, off25_eq i⟩
instance (i : grid0.Coords) : ClosedOff (k0_off26 i) := ⟨_, off26_eq i⟩
instance (i : grid0.Coords) : ClosedOff (k0_off27 i) := ⟨_, off27_eq i⟩
instance (i : grid0.Coords) : ClosedOff (k0_off28 i) := ⟨_, off28_eq i⟩
instance (i : grid0.Coords) : ClosedOff (k0_off29 i) := ⟨_, off29_eq i⟩
instance (i : grid0.Coords) : ClosedOff (k0_off30 i) := ⟨_, off30_eq i⟩
instance (i : grid0.Coords) : ClosedOff (k0_off31 i) := ⟨_, off31_eq i⟩

end Cert.Proof.AttnIdeal

end
-- ==== Proof.ModelI.lean ====
/-
  What one head's backward pass of attention does at a key tile, as functions of vectors: no memory in them.

  A key tile is 512 rows of the keys `K` (256 columns) and of the values `V` (128 columns); the head's queries, output
  gradients, log-sum-exps and deltas lie in sixteen query tiles of 512. At key tile `b` the kernel goes through the query
  tiles `b, b+1, …, 15`, the first of them with the mask, and at each it adds to the key gradient, the value gradient and
  the query tile's gradient. The payload names are those of the program's own operations.
-/
module

public import proofs.«01_k».proof.Proof.Gen.AttnIdeal.Skeleton
public import Idealize.ShloMosaic.Lib.VecWindow

@[expose] public section

noncomputable section

namespace Cert.Proof.AttnIdeal

open Cert.AttnIdeal Cert.AttnIdeal.Gen
open Idealize.ShloMosaic

variable {F : FTy → Type} [FloatOps F] [Named F]

/-- Where query tile `n` begins in the head's rows, and in the rows of its log-sum-exps and deltas. -/
abbrev tileOff (n : ℕ) : Fin 2 → ℕ := ![512 * (n % 16), 0]
abbrev rowOff (n : ℕ) : Fin 4 → ℕ := ![0, n % 16, 0, 0]

theorem tile256_inb (n : ℕ) : ∀ a, tileOff n a + S512x256.size a ≤ S8192x256.size a := by
  intro a; fin_cases a
  · show 512 * (n % 16) + 512 ≤ 8192; omega
  · show 0 + 256 ≤ 256; omega

theorem tile128_inb (n : ℕ) : ∀ a, tileOff n a + S512x128.size a ≤ S8192x128.size a := by
  intro a; fin_cases a
  · show 512 * (n % 16) + 512 ≤ 8192; omega
  · show 0 + 128 ≤ 128; omega

theorem row_inb (n : ℕ) : ∀ a, rowOff n a + S1x1x1x512.size a ≤ S1x16x1x512.size a := by
  intro a; fin_cases a
  · show 0 + 1 ≤ 1; omega
  · show n % 16 + 1 ≤ 16; omega
  · show 0 + 1 ≤ 1; omega
  · show 0 + 512 ≤ 512; omega

/-- Query tile `n` of an array of 256 columns, of one of 128, and of a row array. -/
def t256 {e : EltTy} (x : Vec F S8192x256 e) (n : ℕ) : Vec F S512x256 e := VecWindow.window x (tileOff n) S512x256.size (tile256_inb n)
def t128 {e : EltTy} (x : Vec F S8192x128 e) (n : ℕ) : Vec F S512x128 e := VecWindow.window x (tileOff n) S512x128.size (tile128_inb n)
def tRow {e : EltTy} (x : Vec F S1x16x1x512 e) (n : ℕ) : Vec F S1x1x1x512 e := VecWindow.window x (rowOff n) S1x1x1x512.size (row_inb n)
/-- An array of 256 columns with `w` in place of its query tile `n`. -/
def put256 {e : EltTy} (x : Vec F S8192x256 e) (n : ℕ) (w : Vec F S512x256 e) : Vec F S8192x256 e := VecWindow.put x (tileOff n) S512x256.size w

variable (K : FVec F S512x256 .bf16) (V : FVec F S512x128 .bf16)
variable (q : Vec F S8192x256 .bf16) (d : Vec F S8192x128 .bf16) (l δ : Vec F S1x16x1x512 .f32)

/-- The scores of key tile against query tile `n`, and the products of the values with the output gradients. -/
def sT (n : ℕ) : FVec F S512x512 .f32 := k0_pay24 K (t256 q n)
def pT (n : ℕ) : FVec F S512x512 .f32 := k0_pay25 V (t128 d n)

/-- The probabilities of query tile `n`: below the diagonal, and on it (masked). -/
def prob (n : ℕ) : FVec F S512x512 .f32 := k0_pay28 (sT K q n) (tRow l n)
def probM (n : ℕ) : FVec F S512x512 .f32 := k0_pay75 (sT K q n) (tRow l n)

/-- What query tile `n` makes of a value gradient, a key gradient and its own query gradient. -/
def dvUp (n : ℕ) (x : Vec F S512x128 .f32) : FVec F S512x128 .f32 := k0_pay30 (k0_pay27 (t128 d n)) (prob K q l n) x
def dkUp (n : ℕ) (x : Vec F S512x256 .f32) : FVec F S512x256 .f32 := k0_pay31 (k0_pay26 (t256 q n)) (prob K q l n) (pT V d n) (tRow δ n) x
def dqUp (n : ℕ) (x : Vec F S512x256 .f32) : FVec F S512x256 .f32 := k0_pay32 K (prob K q l n) (pT V d n) (tRow δ n) x
/-- The same on the diagonal. -/
def dvUpM (n : ℕ) (x : Vec F S512x128 .f32) : FVec F S512x128 .f32 := k0_pay77 (k0_pay74 (t128 d n)) (probM K q l n) x
def dkUpM (n : ℕ) (x : Vec F S512x256 .f32) : FVec F S512x256 .f32 := k0_pay78 (k0_pay73 (t256 q n)) (probM K q l n) (pT V d n) (tRow δ n) x
def dqUpM (n : ℕ) (x : Vec F S512x256 .f32) : FVec F S512x256 .f32 := k0_pay79 K (probM K q l n) (pT V d n) (tRow δ n) x

/-- The value gradient of key tile `b` after `t + 1` query tiles; the key gradient; and the head's query gradients,
    which were `o` when key tile `b` began. -/
def DV (b : ℕ) : ℕ → Vec F S512x128 .f32
  | 0 => dvUpM K q d l b k0_pay84
  | t + 1 => dvUp K q d l (b + 1 + t) (DV b t)
def DK (b : ℕ) : ℕ → Vec F S512x256 .f32
  | 0 => dkUpM K V q d l δ b k0_pay83
  | t + 1 => dkUp K V q d l δ (b + 1 + t) (DK b t)
def DQ (b : ℕ) (o : Vec F S8192x256 .f32) : ℕ → Vec F S8192x256 .f32
  | 0 => put256 o b (dqUpM K V q d l δ b (t256 o b))
  | t + 1 => put256 (DQ b o t) (b + 1 + t) (dqUp K V q d l δ (b + 1 + t) (t256 (DQ b o t) (b + 1 + t)))

/-- Another query tile's rows are not touched. -/
theorem t256_put256 {e : EltTy} (x : Vec F S8192x256 e) (n n' : ℕ) (w : Vec F S512x256 e) (h : n % 16 ≠ n' % 16) :
    t256 (put256 x n w) n' = t256 x n' :=
  VecWindow.window_put_of_disjoint x (tileOff n) S512x256.size (tileOff n') S512x256.size (tile256_inb n') w 0 (by
    show 512 * (n' % 16) + 512 ≤ 512 * (n % 16) ∨ 512 * (n % 16) + 512 ≤ 512 * (n' % 16)
    omega)

/-- Two query tiles in a row: the second reads its rows as they were before the first. -/
theorem DQ_add_two (b : ℕ) (o : Vec F S8192x256 .f32) (t : ℕ) (h : (b + 1 + t) % 16 ≠ (b + 1 + (t + 1)) % 16) :
    DQ K V q d l δ b o (t + 2)
      = put256 (put256 (DQ K V q d l δ b o t) (b + 1 + t) (dqUp K V q d l δ (b + 1 + t) (t256 (DQ K V q d l δ b o t) (b + 1 + t)))) (b + 1 + (t + 1))
          (dqUp K V q d l δ (b + 1 + (t + 1)) (t256 (DQ K V q d l δ b o t) (b + 1 + (t + 1)))) := by
  rw [DQ, DQ, t256_put256 _ _ _ _ h]

end Cert.Proof.AttnIdeal

end
-- ==== Proof.LoopI.lean ====
/-
  The counted loop of the attention backward kernel: two query tiles a trip.
-/
module

public import proofs.«01_k».proof.Proof.OffsI
public import proofs.«01_k».proof.Proof.Gen.AttnIdeal.Loops
public import proofs.«01_k».proof.Proof.ModelI
public import Idealize.ShloMosaic.Lib.LoopRemainder

@[expose] public section

set_option warn.classDefReducibility false

noncomputable section

namespace Cert.Proof.AttnIdeal

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

abbrev UU (nD : ℕ) (τ : Topo) : Type := UR sig nD τ
abbrev 𝒱₀ : Variants := Variants.none
local notation "𝕄" => MT nD τ sig Unit (Elt F) ℕ (UU nD τ) ℕ

/-- The buffer `m` on core `c`, holding the values `x`. -/
abbrev at_ (c : Dev nD) {s : Shape} {e : EltTy} (m : Memref sig .tc .vmem s e) (x : Vec F s e) : sProp 𝕄 :=
  m.view.loc (c : Thread nD τ) ↦[m.view.set]{fullShare} m.view.rep x

/-- A buffer held at contents that read `x` holds `x`. -/
theorem at_of_read (c : Dev nD) {s : Shape} {e : EltTy} (m : Memref sig .tc .vmem s e) (g : Buf (Elt F) (m.view.loc (c : Thread nD τ))) (x : Vec F s e)
    (h : m.view.read (Elt F) g = x) : (m.view.loc (c : Thread nD τ) ↦[m.view.set]{fullShare} g : sProp 𝕄) ⊢ at_ c m x :=
  pointsTo_rep_of_read (c : Thread nD τ) m g fullShare x h

/-- Loads of a query tile, and a store of one. -/
theorem readAt_t256 {e : EltTy} (m : Memref sig .tc .vmem S8192x256 e) (x : Vec F S8192x256 e) {off : Fin 2 → ℕ} (n : ℕ) (h : off = tileOff n)
    (inb : ∀ a, off a + S512x256.size a ≤ S8192x256.size a) :
    m.view.readAt (Elt F) (Rect.unit (s := S8192x256) off S512x256.size inb).toLoadRect (m.view.rep x) = t256 x n :=
  View.readAt_rep_unit m.view x inb h (tile256_inb n)
theorem readAt_t128 {e : EltTy} (m : Memref sig .tc .vmem S8192x128 e) (x : Vec F S8192x128 e) {off : Fin 2 → ℕ} (n : ℕ) (h : off = tileOff n)
    (inb : ∀ a, off a + S512x128.size a ≤ S8192x128.size a) :
    m.view.readAt (Elt F) (Rect.unit (s := S8192x128) off S512x128.size inb).toLoadRect (m.view.rep x) = t128 x n :=
  View.readAt_rep_unit m.view x inb h (tile128_inb n)
theorem readAt_tRow {e : EltTy} (m : Memref sig .tc .vmem S1x16x1x512 e) (x : Vec F S1x16x1x512 e) {off : Fin 4 → ℕ} (n : ℕ) (h : off = rowOff n)
    (inb : ∀ a, off a + S1x1x1x512.size a ≤ S1x16x1x512.size a) :
    m.view.readAt (Elt F) (Rect.unit (s := S1x16x1x512) off S1x1x1x512.size inb).toLoadRect (m.view.rep x) = tRow x n :=
  View.readAt_rep_unit m.view x inb h (row_inb n)
theorem read_put256 {e : EltTy} (m : Memref sig .tc .vmem S8192x256 e) (g : m.view.ty.Contents (Elt F)) {off : Fin 2 → ℕ} (n : ℕ) (h : off = tileOff n)
    (inb : ∀ a, off a + S512x256.size a ≤ S8192x256.size a) (w : Vec F S512x256 e) (L : List (View.Piece (Elt F) S8192x256 e)) :
    m.view.read (Elt F) (m.view.writes (Elt F) g (⟨Rect.unit (s := S8192x256) off S512x256.size inb, w⟩ :: L))
      = put256 (m.view.read (Elt F) (m.view.writes (Elt F) g L)) n w :=
  View.read_writes_cons_put m.view g inb w L h

/-- A load of a query tile after a store of the whole array. -/
theorem readCov_t256 {e : EltTy} (m : Memref sig .tc .vmem S8192x256 e) (x : Vec F S8192x256 e) {off off' : Fin 2 → ℕ} (n : ℕ) (h : off = tileOff n)
    (inb : ∀ a, off a + S512x256.size a ≤ S8192x256.size a) (inb' : ∀ a, off' a + S8192x256.size a ≤ S8192x256.size a)
    (L : List (View.Piece (Elt F) S8192x256 e)) :
    m.view.readCov (⟨Rect.unit (s := S8192x256) off' S8192x256.size inb', x⟩ :: L) (Rect.unit (s := S8192x256) off S512x256.size inb).toLoadRect = t256 x n := by
  refine (View.readAt_unit m.view _ inb h (tile256_inb n)).trans ?_
  rw [View.read_writes_full]; rfl

section
variable (c : Dev nD) (i : grid0.Coords)
  (arg2 : Memref sig .tc .vmem S512x256 .bf16) (harg2 : arg2.IsWhole) (arg3 : Memref sig .tc .vmem S512x128 .bf16) (harg3 : arg3.IsWhole)
  (arg4 : Memref sig .tc .vmem S8192x256 .bf16) (harg4 : arg4.IsWhole) (arg5 : Memref sig .tc .vmem S8192x128 .bf16) (harg5 : arg5.IsWhole)
  (arg6 : Memref sig .tc .vmem S1x16x1x512 .f32) (harg6 : arg6.IsWhole) (arg7 : Memref sig .tc .vmem S1x16x1x512 .f32) (harg7 : arg7.IsWhole)
  (arg8 : Memref sig .tc .vmem S512x256 .bf16) (harg8 : arg8.IsWhole) (arg9 : Memref sig .tc .vmem S1x512x128 .f32) (harg9 : arg9.IsWhole)
  (arg10 : Memref sig .tc .vmem S8192x256 .f32) (harg10 : arg10.IsWhole) (arg11 : Memref sig .tc .vmem S512x256 .f32) (harg11 : arg11.IsWhole)
  (arg12 : Memref sig .tc .vmem S512x128 .f32) (harg12 : arg12.IsWhole) (arg13 : Memref sig .tc .vmem S512x512 .f32) (harg13 : arg13.IsWhole)
  (arg14 : Memref sig .tc .vmem S512x512 .f32) (harg14 : arg14.IsWhole) (arg15 : Memref sig .tc .vmem S512x512 .f32) (harg15 : arg15.IsWhole)
  (arg16 : Memref sig .tc .vmem S512x512 .f32) (harg16 : arg16.IsWhole)
  (q : Vec F S8192x256 .bf16) (d : Vec F S8192x128 .bf16) (l δ : Vec F S1x16x1x512 .f32) (o : Vec F S8192x256 .f32)
  (K : FVec F S512x256 .bf16) (V : FVec F S512x128 .bf16) (arg1 : BitVec 32)

/-- What is held before trip `k`: the head's arrays, the two gradients and the query gradients after `2 k + 1` query
    tiles, the next query tile's scores and products in the second pair of buffers, the first pair at anything. -/
def inv (k : ℕ) : sProp 𝕄 :=
  iprop(at_ c arg4 q ∗ at_ c arg5 d ∗ at_ c arg6 l ∗ at_ c arg7 δ
    ∗ at_ c arg10 (DQ K V q d l δ (i 1).val o (2 * k)) ∗ at_ c arg11 (DK K V q d l δ (i 1).val (2 * k)) ∗ at_ c arg12 (DV K q d l (i 1).val (2 * k))
    ∗ (∃ x, at_ c arg13 x) ∗ (∃ x, at_ c arg14 x)
    ∗ at_ c arg15 (sT K q ((i 1).val + 1 + 2 * k)) ∗ at_ c arg16 (pT V d ((i 1).val + 1 + 2 * k)))

def loopInv_k0_t1 (h3 : k0_cond3 i = 1#1) :
    Gen.LoopInvTy_k0_t1 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 K V h3 where
  inv k _ := inv c i arg4 arg5 arg6 arg7 arg10 arg11 arg12 arg13 arg14 arg15 arg16 q d l δ o K V k
  step k _ := by
    unfold inv Gen.k0_t1_body
    iintro ⟨H4, H5, H6, H7, H10, H11, H12, ⟨%x13, H13⟩, ⟨%x14, H14⟩, H15, H16⟩
    sl_exec
    sl_unfold_run_names
    have hb : (i 1).val + 2 * k.val + 3 < 16 := by
      have h15 := (cond3_iff i).mp h3
      have := k.isLt
      have e := t1_trips i h15
      change k.val < (k0_t1_loop i).trips at this
      omega
    have n1 : (i 1).val + 2 * k.val + 1 = ((i 1).val + 1 + 2 * k.val) % 16 := by omega
    have n2 : (i 1).val + 2 * k.val + 2 = ((i 1).val + 1 + (2 * k.val + 1)) % 16 := by omega
    have hne : ((i 1).val + 1 + 2 * k.val) % 16 ≠ ((i 1).val + 1 + (2 * k.val + 1)) % 16 := by omega
    have e11 := (off11_eq1 i k).trans (congrArg (fun n => ![512 * n, 0]) n2)
    have e12 := (off12_eq1 i k).trans (congrArg (fun n => ![512 * n, 0]) n2)
    have e13 := (off13_eq i k).trans (congrArg (fun n => ![512 * n, 0]) n1)
    have e14 := (off14_eq i k).trans (congrArg (fun n => ![512 * n, 0]) n1)
    have e15 := (off15_eq i k).trans (congrArg (fun n => ![0, n, 0, 0]) n1)
    have e16 := (off16_eq i k).trans (congrArg (fun n => ![0, n, 0, 0]) n2)
    have n3 : (i 1).val + 2 * k.val + 3 = ((i 1).val + 1 + 2 * (k.val + 1)) % 16 := by omega
    have e11' := (off11_eq2 i k).trans (congrArg (fun n => ![512 * n, 0]) n3)
    have e12' := (off12_eq2 i k).trans (congrArg (fun n => ![512 * n, 0]) n3)
    rw [wp_ret]; imodintro
    isplitl [H4]; · iexact H4
    isplitl [H5]; · iexact H5
    isplitl [H6]; · iexact H6
    isplitl [H7]; · iexact H7
    isplitl [H10]
    · iapply (at_of_read c arg10 _ _ ?_) $$ H10
      rw [show 2 * (k.val + 1) = 2 * k.val + 2 from rfl, DQ_add_two K V q d l δ _ _ _ hne, read_put256 _ _ _ e11, read_put256 _ _ _ e13]
      simp only [readAt_t256 _ _ _ e11, readAt_t256 _ _ _ e13, readAt_t128 _ _ _ e12, readAt_t128 _ _ _ e14, readAt_tRow _ _ _ e15, readAt_tRow _ _ _ e16,
        View.readAt_rep_full (s := S512x512), View.readAt_rep_full (s := S512x256), View.readAt_rep_full (s := S512x128),
        View.readCov_full (s := S512x512), View.readCov_full (s := S512x256), View.readCov_full (s := S512x128), View.writes_nil, View.read_rep]
      rfl
    isplitl [H11]
    · iapply (at_of_read c arg11 _ _ ?_) $$ H11
      rw [View.read_writes_full]
      simp only [readAt_t256 _ _ _ e11, readAt_t256 _ _ _ e13, readAt_t128 _ _ _ e12, readAt_t128 _ _ _ e14, readAt_tRow _ _ _ e15, readAt_tRow _ _ _ e16,
        View.readAt_rep_full (s := S512x512), View.readAt_rep_full (s := S512x256), View.readAt_rep_full (s := S512x128),
        View.readCov_full (s := S512x512), View.readCov_full (s := S512x256), View.readCov_full (s := S512x128)]
      rfl
    isplitl [H12]
    · iapply (at_of_read c arg12 _ _ ?_) $$ H12
      rw [View.read_writes_full]
      simp only [readAt_t256 _ _ _ e11, readAt_t256 _ _ _ e13, readAt_t128 _ _ _ e12, readAt_t128 _ _ _ e14, readAt_tRow _ _ _ e15, readAt_tRow _ _ _ e16,
        View.readAt_rep_full (s := S512x512), View.readAt_rep_full (s := S512x256), View.readAt_rep_full (s := S512x128),
        View.readCov_full (s := S512x512), View.readCov_full (s := S512x256), View.readCov_full (s := S512x128)]
      rfl
    isplitl [H13]
    · iexists _; iapply (at_of_read c arg13 _ _ rfl) $$ H13
    isplitl [H14]
    · iexists _; iapply (at_of_read c arg14 _ _ rfl) $$ H14
    isplitl [H15]
    · iapply (at_of_read c arg15 _ _ ?_) $$ H15
      rw [View.read_writes_full]
      simp only [readAt_t256 _ _ _ e11']
      rfl
    · iapply (at_of_read c arg16 _ _ ?_) $$ H16
      rw [View.read_writes_full]
      simp only [readAt_t128 _ _ _ e12']
      rfl
end

end Cert.Proof.AttnIdeal

end
-- ==== Proof.PrologueI.lean ====
/-
  The first part of the attention backward kernel's body, and what the body finds and leaves.
-/
module

public import proofs.«01_k».proof.Proof.LoopI

@[expose] public section

noncomputable section

namespace Cert.Proof.AttnIdeal

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UU nD τ) ℕ

/-- The key tile and the value tile, out of the tile of the keys' and values' array and the tile of the shared keys. -/
def keys (kv : Vec F S512x256 .bf16) (kpe : Vec F S512x128 .bf16) : FVec F S512x256 .bf16 :=
  k0_pay81 (VecWindow.window (s := S512x256) kv ![0, 0] S512x128.size inb_S512x256_S512x128_0_0) kpe
def vals (kv : Vec F S512x256 .bf16) : FVec F S512x128 .bf16 :=
  k0_pay82 (VecWindow.window (s := S512x256) kv ![0, 128] S512x128.size inb_S512x256_S512x128_0_128)

/-- The tile of the keys' and values' gradient: the key gradient's first 128 columns, then the value gradient. -/
def outKV (x : Vec F S512x256 .bf16) (dk : Vec F S512x256 .f32) (dv : Vec F S512x128 .f32) : Vec F S512x256 .bf16 :=
  VecWindow.put (s := S512x256) (VecWindow.put (s := S512x256) x ![0, 0] S512x128.size (k0_pay17 dk)) ![0, 128] S512x128.size (k0_pay18 dv)

section
variable (c : Dev nD) (i : grid0.Coords)
  (arg2 : Memref sig .tc .vmem S512x256 .bf16) (harg2 : arg2.IsWhole) (arg3 : Memref sig .tc .vmem S512x128 .bf16) (harg3 : arg3.IsWhole)
  (arg4 : Memref sig .tc .vmem S8192x256 .bf16) (harg4 : arg4.IsWhole) (arg5 : Memref sig .tc .vmem S8192x128 .bf16) (harg5 : arg5.IsWhole)
  (arg6 : Memref sig .tc .vmem S1x16x1x512 .f32) (harg6 : arg6.IsWhole) (arg7 : Memref sig .tc .vmem S1x16x1x512 .f32) (harg7 : arg7.IsWhole)
  (arg8 : Memref sig .tc .vmem S512x256 .bf16) (harg8 : arg8.IsWhole) (arg9 : Memref sig .tc .vmem S1x512x128 .f32) (harg9 : arg9.IsWhole)
  (arg10 : Memref sig .tc .vmem S8192x256 .f32) (harg10 : arg10.IsWhole) (arg11 : Memref sig .tc .vmem S512x256 .f32) (harg11 : arg11.IsWhole)
  (arg12 : Memref sig .tc .vmem S512x128 .f32) (harg12 : arg12.IsWhole) (arg13 : Memref sig .tc .vmem S512x512 .f32) (harg13 : arg13.IsWhole)
  (arg14 : Memref sig .tc .vmem S512x512 .f32) (harg14 : arg14.IsWhole) (arg15 : Memref sig .tc .vmem S512x512 .f32) (harg15 : arg15.IsWhole)
  (arg16 : Memref sig .tc .vmem S512x512 .f32) (harg16 : arg16.IsWhole)
  (kv : Vec F S512x256 .bf16) (kpe : Vec F S512x128 .bf16)
  (q : Vec F S8192x256 .bf16) (d : Vec F S8192x128 .bf16) (l δ : Vec F S1x16x1x512 .f32)
  (x8 : Vec F S512x256 .bf16) (x9 : Vec F S1x512x128 .f32) (o : Vec F S8192x256 .f32)
  (x11 : Vec F S512x256 .f32) (x12 : Vec F S512x128 .f32) (x13 x14 x15 x16 : Vec F S512x512 .f32)

/-- What the body finds, and what it leaves. -/
def bodyPre : sProp 𝕄 :=
  iprop(at_ c arg2 kv ∗ at_ c arg3 kpe ∗ at_ c arg4 q ∗ at_ c arg5 d ∗ at_ c arg6 l ∗ at_ c arg7 δ ∗ at_ c arg8 x8 ∗ at_ c arg9 x9 ∗ at_ c arg10 o
    ∗ at_ c arg11 x11 ∗ at_ c arg12 x12 ∗ at_ c arg13 x13 ∗ at_ c arg14 x14 ∗ at_ c arg15 x15 ∗ at_ c arg16 x16)

/-- The query gradients when key tile `b` begins: zero at the head's first. -/
def start (b : ℕ) : Vec F S8192x256 .f32 := if b = 0 then k0_pay80 else o

def bodyPost (b : ℕ) : sProp 𝕄 :=
  iprop(at_ c arg2 kv ∗ at_ c arg3 kpe ∗ at_ c arg4 q ∗ at_ c arg5 d ∗ at_ c arg6 l ∗ at_ c arg7 δ
    ∗ at_ c arg8 (outKV x8 (DK (keys kv kpe) (vals kv) q d l δ b (15 - b)) (DV (keys kv kpe) q d l b (15 - b)))
    ∗ at_ c arg9 (k0_pay19 (DK (keys kv kpe) (vals kv) q d l δ b (15 - b)))
    ∗ at_ c arg10 (DQ (keys kv kpe) (vals kv) q d l δ b (start o b) (15 - b))
    ∗ (∃ x, at_ c arg11 x) ∗ (∃ x, at_ c arg12 x) ∗ (∃ x, at_ c arg13 x) ∗ (∃ x, at_ c arg14 x) ∗ (∃ x, at_ c arg15 x) ∗ (∃ x, at_ c arg16 x))

/-- The body's first part clears the two gradients (and the query gradients, at the head's first key tile), and makes the
    first query tile's scores. -/
theorem prologue :
    iprop(at_ c arg2 kv ∗ at_ c arg3 kpe ∗ at_ c arg4 q ∗ at_ c arg5 d ∗ at_ c arg10 o ∗ at_ c arg11 x11 ∗ at_ c arg12 x12 ∗ at_ c arg13 x13)
      ⊢ wp frame (wpE (defs₀ (F := F)) 𝒱₀ (c : Thread nD τ) none) Set.univ
          (k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun r => iprop(⌜r.2.1 = keys kv kpe⌝ ∗ ⌜r.2.2.1 = vals kv⌝
            ∗ ⌜r.2.2.2.2 = k0_pay86 (VecWindow.window (s := S512x256) kv ![0, 128] S512x128.size inb_S512x256_S512x128_0_128) (t128 d (i 1).val)⌝
            ∗ at_ c arg2 kv ∗ at_ c arg3 kpe ∗ at_ c arg4 q ∗ at_ c arg5 d ∗ at_ c arg10 (start o (i 1).val)
            ∗ at_ c arg11 k0_pay83 ∗ at_ c arg12 k0_pay84 ∗ at_ c arg13 (sT (keys kv kpe) q (i 1).val))) := by
  have hn : (i 1).val = (i 1).val % 16 := (Nat.mod_eq_of_lt (i 1).isLt).symm
  have e1 := (off1_eq i).trans (congrArg (fun n => ![512 * n, 0]) hn)
  have e2 := (off2_eq i).trans (congrArg (fun n => ![512 * n, 0]) hn)
  have r2 := View.readAt_rep_unit arg2.view kv inb_S512x256_S512x128_0_0 rfl inb_S512x256_S512x128_0_0
  have r3 := View.readAt_rep_full arg3.view kpe inb_S512x128_S512x128_0_0
  iintro ⟨H2, H3, H4, H5, H10, H11, H12, H13⟩
  by_cases h1 : k0_cond1 i = 1#1
  all_goals
    sl_exec
    sl_unfold_run_names
    rw [wp_ret]; imodintro
    isplitr
    · ipureintro
      rfl
    isplitr
    · ipureintro
      simp only [View.readAt_rep_unit arg2.view kv inb_S512x256_S512x128_0_128 rfl inb_S512x256_S512x128_0_128]
      rfl
    isplitr
    · ipureintro
      simp only [View.readAt_rep_unit arg2.view kv inb_S512x256_S512x128_0_128 rfl inb_S512x256_S512x128_0_128, readAt_t128 _ _ _ e2]
      rfl
    isplitl [H2]; · iexact H2
    isplitl [H3]; · iexact H3
    isplitl [H4]; · iexact H4
    isplitl [H5]; · iexact H5
    isplitl [H10]
    · iapply (at_of_read c arg10 _ _ ?_) $$ H10
      first
        | (rw [View.read_writes_full, start, if_pos ((cond1_iff i).mp h1)]; rfl)
        | (rw [View.read_rep, start, if_neg fun e => h1 ((cond1_iff i).mpr e)])
    isplitl [H11]
    · iapply (at_of_read c arg11 _ _ (View.read_writes_full _ _ _ _ _)) $$ H11
    isplitl [H12]
    · iapply (at_of_read c arg12 _ _ (View.read_writes_full _ _ _ _ _)) $$ H12
    · iapply (at_of_read c arg13 _ _ ?_) $$ H13
      rw [View.read_writes_full]
      simp only [readAt_t256 _ _ _ e1]
      rfl

end

end Cert.Proof.AttnIdeal

end
-- ==== Proof.BodyI.lean ====
/-
  The body of the attention backward kernel at one grid point.
-/
module

public import proofs.«01_k».proof.Proof.PrologueI

@[expose] public section

noncomputable section

namespace Cert.Proof.AttnIdeal

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UU nD τ) ℕ

section
variable (c : Dev nD) (i : grid0.Coords)
  (arg2 : Memref sig .tc .vmem S512x256 .bf16) (harg2 : arg2.IsWhole) (arg3 : Memref sig .tc .vmem S512x128 .bf16) (harg3 : arg3.IsWhole)
  (arg4 : Memref sig .tc .vmem S8192x256 .bf16) (harg4 : arg4.IsWhole) (arg5 : Memref sig .tc .vmem S8192x128 .bf16) (harg5 : arg5.IsWhole)
  (arg6 : Memref sig .tc .vmem S1x16x1x512 .f32) (harg6 : arg6.IsWhole) (arg7 : Memref sig .tc .vmem S1x16x1x512 .f32) (harg7 : arg7.IsWhole)
  (arg8 : Memref sig .tc .vmem S512x256 .bf16) (harg8 : arg8.IsWhole) (arg9 : Memref sig .tc .vmem S1x512x128 .f32) (harg9 : arg9.IsWhole)
  (arg10 : Memref sig .tc .vmem S8192x256 .f32) (harg10 : arg10.IsWhole) (arg11 : Memref sig .tc .vmem S512x256 .f32) (harg11 : arg11.IsWhole)
  (arg12 : Memref sig .tc .vmem S512x128 .f32) (harg12 : arg12.IsWhole) (arg13 : Memref sig .tc .vmem S512x512 .f32) (harg13 : arg13.IsWhole)
  (arg14 : Memref sig .tc .vmem S512x512 .f32) (harg14 : arg14.IsWhole) (arg15 : Memref sig .tc .vmem S512x512 .f32) (harg15 : arg15.IsWhole)
  (arg16 : Memref sig .tc .vmem S512x512 .f32) (harg16 : arg16.IsWhole)
  (kv : Vec F S512x256 .bf16) (kpe : Vec F S512x128 .bf16)
  (q : Vec F S8192x256 .bf16) (d : Vec F S8192x128 .bf16) (l δ : Vec F S1x16x1x512 .f32)
  (x8 : Vec F S512x256 .bf16) (x9 : Vec F S1x512x128 .f32) (o : Vec F S8192x256 .f32)
  (x11 : Vec F S512x256 .f32) (x12 : Vec F S512x128 .f32) (x13 x14 x15 x16 : Vec F S512x512 .f32)

/-- A load of a query tile of any contents. -/
theorem readAt_t256' {e : EltTy} (m : Memref sig .tc .vmem S8192x256 e) (g : m.view.ty.Contents (Elt F)) {off : Fin 2 → ℕ} (n : ℕ) (h : off = tileOff n)
    (inb : ∀ a, off a + S512x256.size a ≤ S8192x256.size a) :
    m.view.readAt (Elt F) (Rect.unit (s := S8192x256) off S512x256.size inb).toLoadRect g = t256 (m.view.read (Elt F) g) n :=
  View.readAt_unit m.view g inb h (tile256_inb n)

set_option maxHeartbeats 1600000 in
theorem body_below (h : (i 1).val < 15) :
    bodyPre c arg2 arg3 arg4 arg5 arg6 arg7 arg8 arg9 arg10 arg11 arg12 arg13 arg14 arg15 arg16 kv kpe q d l δ x8 x9 o x11 x12 x13 x14 x15 x16
      ⊢ wp frame (wpE (defs₀ (F := F)) 𝒱₀ (c : Thread nD τ) none) Set.univ
          (cc0_flash_bwd i arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => bodyPost c arg2 arg3 arg4 arg5 arg6 arg7 arg8 arg9 arg10 arg11 arg12 arg13 arg14 arg15 arg16 kv kpe q d l δ x8 o (i 1).val) := by
  unfold bodyPre
  have h3 : k0_cond3 i = 1#1 := (cond3_iff i).mpr h
  have h2 : ¬ k0_cond2 i = 1#1 := fun e => by have := (cond2_iff i).mp e; omega
  have hp := prologue c i arg2 harg2 arg3 harg3 arg4 harg4 arg5 harg5 arg6 harg6 arg7 harg7 arg8 harg8 arg9 harg9 arg10 harg10 arg11 harg11 arg12 harg12 arg13 harg13 arg14 harg14 arg15 harg15 arg16 harg16 kv kpe q d o x11 x12 x13
  iintro ⟨H2, H3, H4, H5, H6, H7, H8, H9, H10, H11, H12, H13, H14, H15, H16⟩
  sl_exec
  obtain rfl : v7 = keys kv kpe := hk0_part13_0
  obtain rfl : v9 = vals kv := hk0_part13_1
  obtain rfl : v31 = k0_pay86 (VecWindow.window (s := S512x256) kv ![0, 128] S512x128.size inb_S512x256_S512x128_0_128) (t128 d (i 1).val) := hk0_part13_2
  sl_unfold_run_names
  have hn : (i 1).val = (i 1).val % 16 := (Nat.mod_eq_of_lt (i 1).isLt).symm
  have hn1 : (i 1).val + 1 = ((i 1).val + 1 + 2 * 0) % 16 := by omega
  have e6 := (off6_eq i).trans (congrArg (fun n => ![512 * n, 0]) hn1)
  have e7 := (off7_eq i).trans (congrArg (fun n => ![512 * n, 0]) hn1)
  have e8 := (off8_eq i).trans (congrArg (fun n => ![512 * n, 0]) hn)
  have e9 := (off9_eq i).trans (congrArg (fun n => ![512 * n, 0]) hn)
  have e10 := (off10_eq i).trans (congrArg (fun n => ![0, n, 0, 0]) hn)
  ihave H10 := (at_of_read c arg10 _ (DQ (keys kv kpe) (vals kv) q d l δ (i 1).val (start o (i 1).val) (2 * 0)) (by
    rw [read_put256 _ _ _ e8]
    simp only [readAt_t256 _ _ _ e8, readAt_tRow _ _ _ e10, View.readAt_rep_full (s := S512x512), View.readCov_full (s := S512x512), View.writes_nil, View.read_rep]
    rfl)) $$ Hk0_part13_7
  ihave H11 := (at_of_read c arg11 _ (DK (keys kv kpe) (vals kv) q d l δ (i 1).val (2 * 0)) (by
    rw [View.read_writes_full]
    simp only [readAt_t256 _ _ _ e8, readAt_tRow _ _ _ e10, View.readAt_rep_full (s := S512x512), View.readAt_rep_full (s := S512x256), View.readCov_full (s := S512x512), View.readCov_full (s := S512x256), View.writes_nil, View.read_rep]
    rfl)) $$ Hk0_part13_8
  ihave H12 := (at_of_read c arg12 _ (DV (keys kv kpe) q d l (i 1).val (2 * 0)) (by
    rw [View.read_writes_full]
    simp only [readAt_t128 _ _ _ e9, readAt_tRow _ _ _ e10, View.readAt_rep_full (s := S512x512), View.readAt_rep_full (s := S512x128), View.readCov_full (s := S512x512), View.readCov_full (s := S512x128), View.writes_nil, View.read_rep]
    rfl)) $$ Hk0_part13_9
  ihave H14 := (at_of_read c arg14 _ _ rfl) $$ H14
  ihave H15 := (at_of_read c arg15 _ (sT (keys kv kpe) q ((i 1).val + 1 + 2 * 0)) (by
    rw [View.read_writes_full]
    simp only [readAt_t256 _ _ _ e6]
    rfl)) $$ H15
  ihave H16 := (at_of_read c arg16 _ (pT (vals kv) d ((i 1).val + 1 + 2 * 0)) (by
    rw [View.read_writes_full]
    simp only [readAt_t128 _ _ _ e7]
    rfl)) $$ H16
  let I := loopInv_k0_t1 c i arg2 harg2 arg3 harg3 arg4 harg4 arg5 harg5 arg6 harg6 arg7 harg7 arg8 harg8 arg9 harg9 arg10 harg10 arg11 harg11 arg12 harg12 arg13 harg13 arg14 harg14 arg15 harg15 arg16 harg16 q d l δ (start o (i 1).val) (keys kv kpe) (vals kv) arg1 h3
  by_cases h4 : k0_cond4 i = 1#1
  · have h5 : ¬ k0_cond5 i = 1#1 := fun e => by have := (cond4_iff i h).mp h4; have := (cond5_iff i h).mp e; omega
    sl_exec
    sl_unfold_run_names
    have eT : (k0_t1_loop i).trips = (14 - (i 1).val) / 2 := t1_trips i h
    have eN : 15 - (i 1).val = 2 * (k0_t1_loop i).trips + 1 := by have := (cond4_iff i h).mp h4; omega
    have m : 15 - (i 1).val % 2 = ((i 1).val + 1 + 2 * (k0_t1_loop i).trips) % 16 := by have := (cond4_iff i h).mp h4; omega
    have e23 := (off23_eq i).trans (congrArg (fun n => ![512 * n, 0]) m)
    have e24 := (off24_eq i).trans (congrArg (fun n => ![512 * n, 0]) m)
    have e25 := (off25_eq i).trans (congrArg (fun n => ![0, n, 0, 0]) m)
    rw [wp_ret]; imodintro
    unfold bodyPost
    rw [eN]
    isplitl [Hk0_part13_3]; · iexact Hk0_part13_3
    isplitl [Hk0_part13_4]; · iexact Hk0_part13_4
    isplitl [Hk0_part13_5]; · iexact Hk0_part13_5
    isplitl [Hk0_part13_6]; · iexact Hk0_part13_6
    isplitl [H6]; · iexact H6
    isplitl [H7]; · iexact H7
    isplitl [H8]
    · iapply (at_of_read c arg8 _ _ ?_) $$ H8
      rw [View.read_writes_cons_put arg8.view _ inb_S512x256_S512x128_0_128 _ _ rfl, View.read_writes_cons_put arg8.view _ inb_S512x256_S512x128_0_0 _ _ rfl]
      simp only [readAt_t256 _ _ _ e23, readAt_t128 _ _ _ e24, readAt_tRow _ _ _ e25,
        View.readAt_rep_full (s := S512x512), View.readAt_rep_full (s := S512x256), View.readAt_rep_full (s := S512x128), View.readCov_full (s := S512x512), View.readCov_full (s := S512x256), View.readCov_full (s := S512x128), View.writes_nil, View.read_rep]
      rfl
    isplitl [H9]
    · iapply (at_of_read c arg9 _ _ ?_) $$ H9
      rw [View.read_writes_full]
      simp only [readAt_t256 _ _ _ e23, readAt_t128 _ _ _ e24, readAt_tRow _ _ _ e25,
        View.readAt_rep_full (s := S512x512), View.readAt_rep_full (s := S512x256), View.readAt_rep_full (s := S512x128), View.readCov_full (s := S512x512), View.readCov_full (s := S512x256), View.readCov_full (s := S512x128), View.writes_nil, View.read_rep]
      rfl
    isplitl [H10]
    · iapply (at_of_read c arg10 _ _ ?_) $$ H10
      rw [read_put256 _ _ _ e23]
      simp only [readAt_t256 _ _ _ e23, readAt_t128 _ _ _ e24, readAt_tRow _ _ _ e25,
        View.readAt_rep_full (s := S512x512), View.readAt_rep_full (s := S512x256), View.readAt_rep_full (s := S512x128), View.readCov_full (s := S512x512), View.readCov_full (s := S512x256), View.readCov_full (s := S512x128), View.writes_nil, View.read_rep]
      rfl
    isplitl [H11]
    · iexists _; iapply (at_of_read c arg11 _ _ rfl) $$ H11
    isplitl [H12]
    · iexists _; iapply (at_of_read c arg12 _ _ rfl) $$ H12
    isplitl [Hk0_part13_10]
    · iexists _; iapply (at_of_read c arg13 _ _ rfl) $$ Hk0_part13_10
    isplitl [H14]
    · iexists _; iapply (at_of_read c arg14 _ _ rfl) $$ H14
    isplitl [H15]
    · iexists _; iapply (at_of_read c arg15 _ _ rfl) $$ H15
    · iexists _; iapply (at_of_read c arg16 _ _ rfl) $$ H16
  · have h5 : k0_cond5 i = 1#1 := (cond5_iff i h).mpr (by have := mt (cond4_iff i h).mpr h4; omega)
    sl_exec
    sl_unfold_run_names
    have eT : (k0_t1_loop i).trips = (14 - (i 1).val) / 2 := t1_trips i h
    have b2 := (cond5_iff i h).mp h5
    have eN : 15 - (i 1).val = 2 * (k0_t1_loop i).trips + 2 := by omega
    have m : 15 - (i 1).val % 2 = ((i 1).val + 1 + 2 * (k0_t1_loop i).trips) % 16 := by omega
    have m' : 16 - (i 1).val % 2 = ((i 1).val + 1 + (2 * (k0_t1_loop i).trips + 1)) % 16 := by omega
    have hne : ((i 1).val + 1 + 2 * (k0_t1_loop i).trips) % 16 ≠ ((i 1).val + 1 + (2 * (k0_t1_loop i).trips + 1)) % 16 := by omega
    have e26 := (off26_eq i).trans (congrArg (fun n => ![512 * n, 0]) m')
    have e27 := (off27_eq i).trans (congrArg (fun n => ![512 * n, 0]) m')
    have e28 := (off28_eq i).trans (congrArg (fun n => ![512 * n, 0]) m)
    have e29 := (off29_eq i).trans (congrArg (fun n => ![512 * n, 0]) m)
    have e30 := (off30_eq i).trans (congrArg (fun n => ![0, n, 0, 0]) m)
    have e31 := (off31_eq i).trans (congrArg (fun n => ![0, n, 0, 0]) m')
    rw [wp_ret]; imodintro
    unfold bodyPost
    rw [eN]
    isplitl [Hk0_part13_3]; · iexact Hk0_part13_3
    isplitl [Hk0_part13_4]; · iexact Hk0_part13_4
    isplitl [Hk0_part13_5]; · iexact Hk0_part13_5
    isplitl [Hk0_part13_6]; · iexact Hk0_part13_6
    isplitl [H6]; · iexact H6
    isplitl [H7]; · iexact H7
    isplitl [H8]
    · iapply (at_of_read c arg8 _ _ ?_) $$ H8
      rw [View.read_writes_cons_put arg8.view _ inb_S512x256_S512x128_0_128 _ _ rfl, View.read_writes_cons_put arg8.view _ inb_S512x256_S512x128_0_0 _ _ rfl]
      simp only [readAt_t256 _ _ _ e26, readAt_t256 _ _ _ e28, readAt_t128 _ _ _ e27, readAt_t128 _ _ _ e29, readAt_tRow _ _ _ e30, readAt_tRow _ _ _ e31,
        View.readAt_rep_full (s := S512x512), View.readAt_rep_full (s := S512x256), View.readAt_rep_full (s := S512x128), View.readCov_full (s := S512x512), View.readCov_full (s := S512x256), View.readCov_full (s := S512x128), View.writes_nil, View.read_rep]
      rfl
    isplitl [H9]
    · iapply (at_of_read c arg9 _ _ ?_) $$ H9
      rw [View.read_writes_full]
      simp only [readAt_t256 _ _ _ e26, readAt_t256 _ _ _ e28, readAt_t128 _ _ _ e27, readAt_t128 _ _ _ e29, readAt_tRow _ _ _ e30, readAt_tRow _ _ _ e31,
        View.readAt_rep_full (s := S512x512), View.readAt_rep_full (s := S512x256), View.readAt_rep_full (s := S512x128), View.readCov_full (s := S512x512), View.readCov_full (s := S512x256), View.readCov_full (s := S512x128), View.writes_nil, View.read_rep]
      rfl
    isplitl [H10]
    · iapply (at_of_read c arg10 _ _ ?_) $$ H10
      rw [DQ_add_two _ _ _ _ _ _ _ _ _ hne, read_put256 _ _ _ e26, read_put256 _ _ _ e28]
      simp only [readAt_t256 _ _ _ e26, readAt_t256 _ _ _ e28, readAt_t128 _ _ _ e27, readAt_t128 _ _ _ e29, readAt_tRow _ _ _ e30, readAt_tRow _ _ _ e31,
        View.readAt_rep_full (s := S512x512), View.readAt_rep_full (s := S512x256), View.readAt_rep_full (s := S512x128), View.readCov_full (s := S512x512), View.readCov_full (s := S512x256), View.readCov_full (s := S512x128), View.writes_nil, View.read_rep,
        readAt_t256' arg10 _ _ e26, read_put256 arg10 _ _ e28, t256_put256 _ _ _ _ hne]
      rfl
    isplitl [H11]
    · iexists _; iapply (at_of_read c arg11 _ _ rfl) $$ H11
    isplitl [H12]
    · iexists _; iapply (at_of_read c arg12 _ _ rfl) $$ H12
    isplitl [Hk0_part13_10]
    · iexists _; iapply (at_of_read c arg13 _ _ rfl) $$ Hk0_part13_10
    isplitl [H14]
    · iexists _; iapply (at_of_read c arg14 _ _ rfl) $$ H14
    isplitl [H15]
    · iexists _; iapply (at_of_read c arg15 _ _ rfl) $$ H15
    · iexists _; iapply (at_of_read c arg16 _ _ rfl) $$ H16

end

end Cert.Proof.AttnIdeal

end
-- ==== Proof.BodyLastI.lean ====
/-
  The body of the attention backward kernel at a head's last key tile.
-/
module

public import proofs.«01_k».proof.Proof.PrologueI

@[expose] public section

noncomputable section

namespace Cert.Proof.AttnIdeal

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UU nD τ) ℕ

section
variable (c : Dev nD) (i : grid0.Coords)
  (arg2 : Memref sig .tc .vmem S512x256 .bf16) (harg2 : arg2.IsWhole) (arg3 : Memref sig .tc .vmem S512x128 .bf16) (harg3 : arg3.IsWhole)
  (arg4 : Memref sig .tc .vmem S8192x256 .bf16) (harg4 : arg4.IsWhole) (arg5 : Memref sig .tc .vmem S8192x128 .bf16) (harg5 : arg5.IsWhole)
  (arg6 : Memref sig .tc .vmem S1x16x1x512 .f32) (harg6 : arg6.IsWhole) (arg7 : Memref sig .tc .vmem S1x16x1x512 .f32) (harg7 : arg7.IsWhole)
  (arg8 : Memref sig .tc .vmem S512x256 .bf16) (harg8 : arg8.IsWhole) (arg9 : Memref sig .tc .vmem S1x512x128 .f32) (harg9 : arg9.IsWhole)
  (arg10 : Memref sig .tc .vmem S8192x256 .f32) (harg10 : arg10.IsWhole) (arg11 : Memref sig .tc .vmem S512x256 .f32) (harg11 : arg11.IsWhole)
  (arg12 : Memref sig .tc .vmem S512x128 .f32) (harg12 : arg12.IsWhole) (arg13 : Memref sig .tc .vmem S512x512 .f32) (harg13 : arg13.IsWhole)
  (arg14 : Memref sig .tc .vmem S512x512 .f32) (harg14 : arg14.IsWhole) (arg15 : Memref sig .tc .vmem S512x512 .f32) (harg15 : arg15.IsWhole)
  (arg16 : Memref sig .tc .vmem S512x512 .f32) (harg16 : arg16.IsWhole)
  (kv : Vec F S512x256 .bf16) (kpe : Vec F S512x128 .bf16)
  (q : Vec F S8192x256 .bf16) (d : Vec F S8192x128 .bf16) (l δ : Vec F S1x16x1x512 .f32)
  (x8 : Vec F S512x256 .bf16) (x9 : Vec F S1x512x128 .f32) (o : Vec F S8192x256 .f32)
  (x11 : Vec F S512x256 .f32) (x12 : Vec F S512x128 .f32) (x13 x14 x15 x16 : Vec F S512x512 .f32)

theorem body_last (h : (i 1).val = 15) :
    bodyPre c arg2 arg3 arg4 arg5 arg6 arg7 arg8 arg9 arg10 arg11 arg12 arg13 arg14 arg15 arg16 kv kpe q d l δ x8 x9 o x11 x12 x13 x14 x15 x16
      ⊢ wp frame (wpE (defs₀ (F := F)) 𝒱₀ (c : Thread nD τ) none) Set.univ
          (cc0_flash_bwd i arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => bodyPost c arg2 arg3 arg4 arg5 arg6 arg7 arg8 arg9 arg10 arg11 arg12 arg13 arg14 arg15 arg16 kv kpe q d l δ x8 o (i 1).val) := by
  unfold bodyPre
  have h3 : ¬ k0_cond3 i = 1#1 := fun e => by have := (cond3_iff i).mp e; omega
  have h2 : k0_cond2 i = 1#1 := (cond2_iff i).mpr h
  have hp := prologue c i arg2 harg2 arg3 harg3 arg4 harg4 arg5 harg5 arg6 harg6 arg7 harg7 arg8 harg8 arg9 harg9 arg10 harg10 arg11 harg11 arg12 harg12 arg13 harg13 arg14 harg14 arg15 harg15 arg16 harg16 kv kpe q d o x11 x12 x13
  iintro ⟨H2, H3, H4, H5, H6, H7, H8, H9, H10, H11, H12, H13, H14, H15, H16⟩
  sl_exec
  obtain rfl : v7 = keys kv kpe := hk0_part13_0
  obtain rfl : v9 = vals kv := hk0_part13_1
  obtain rfl : v31 = k0_pay86 (VecWindow.window (s := S512x256) kv ![0, 128] S512x128.size inb_S512x256_S512x128_0_128) (t128 d (i 1).val) := hk0_part13_2
  sl_unfold_run_names
  have hn : (i 1).val = (i 1).val % 16 := (Nat.mod_eq_of_lt (i 1).isLt).symm
  have eN : 15 - (i 1).val = 0 := by omega
  have e3 := (off3_eq i).trans (congrArg (fun n => ![512 * n, 0]) hn)
  have e4 := (off4_eq i).trans (congrArg (fun n => ![512 * n, 0]) hn)
  have e5 := (off5_eq i).trans (congrArg (fun n => ![0, n, 0, 0]) hn)
  rw [wp_ret]; imodintro
  unfold bodyPost
  rw [eN]
  isplitl [Hk0_part13_3]; · iexact Hk0_part13_3
  isplitl [Hk0_part13_4]; · iexact Hk0_part13_4
  isplitl [Hk0_part13_5]; · iexact Hk0_part13_5
  isplitl [Hk0_part13_6]; · iexact Hk0_part13_6
  isplitl [H6]; · iexact H6
  isplitl [H7]; · iexact H7
  isplitl [H8]
  · iapply (at_of_read c arg8 _ _ ?_) $$ H8
    rw [View.read_writes_cons_put arg8.view _ inb_S512x256_S512x128_0_128 _ _ rfl, View.read_writes_cons_put arg8.view _ inb_S512x256_S512x128_0_0 _ _ rfl]
    simp only [readAt_t256 _ _ _ e3, readAt_t128 _ _ _ e4, readAt_tRow _ _ _ e5,
      View.readAt_rep_full (s := S512x512), View.readAt_rep_full (s := S512x256), View.readAt_rep_full (s := S512x128), View.readCov_full (s := S512x512), View.readCov_full (s := S512x256), View.readCov_full (s := S512x128), View.writes_nil, View.read_rep]
    rfl
  isplitl [H9]
  · iapply (at_of_read c arg9 _ _ ?_) $$ H9
    rw [View.read_writes_full]
    simp only [readAt_t256 _ _ _ e3, readAt_t128 _ _ _ e4, readAt_tRow _ _ _ e5,
      View.readAt_rep_full (s := S512x512), View.readAt_rep_full (s := S512x256), View.readAt_rep_full (s := S512x128), View.readCov_full (s := S512x512), View.readCov_full (s := S512x256), View.readCov_full (s := S512x128), View.writes_nil, View.read_rep]
    rfl
  isplitl [Hk0_part13_7]
  · iapply (at_of_read c arg10 _ _ ?_) $$ Hk0_part13_7
    rw [read_put256 _ _ _ e3]
    simp only [readAt_t256 _ _ _ e3, readAt_t128 _ _ _ e4, readAt_tRow _ _ _ e5,
      View.readAt_rep_full (s := S512x512), View.readAt_rep_full (s := S512x256), View.readAt_rep_full (s := S512x128), View.readCov_full (s := S512x512), View.readCov_full (s := S512x256), View.readCov_full (s := S512x128), View.writes_nil, View.read_rep]
    rfl
  isplitl [Hk0_part13_8]
  · iexists _; iapply (at_of_read c arg11 _ _ rfl) $$ Hk0_part13_8
  isplitl [Hk0_part13_9]
  · iexists _; iapply (at_of_read c arg12 _ _ rfl) $$ Hk0_part13_9
  isplitl [Hk0_part13_10]
  · iexists _; iapply (at_of_read c arg13 _ _ rfl) $$ Hk0_part13_10
  isplitl [H14]
  · iexists _; iapply (at_of_read c arg14 _ _ rfl) $$ H14
  isplitl [H15]
  · iexists _; iapply (at_of_read c arg15 _ _ rfl) $$ H15
  · iexists _; iapply (at_of_read c arg16 _ _ rfl) $$ H16

end

end Cert.Proof.AttnIdeal

end
-- ==== Proof.RunI.lean ====
/-
  The attention backward kernel's run: what each grid point finds and leaves in its windows, the body at every point, and
  the frame of the whole program.
-/
module

public import proofs.«01_k».proof.Proof.BodyI
public import proofs.«01_k».proof.Proof.BodyLastI
public import proofs.«01_k».proof.Proof.Gen.AttnIdeal.Frame

@[expose] public section

noncomputable section

namespace Cert.Proof.AttnIdeal

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]
local notation "𝕄" => MT nD τ sig Unit (Elt F) ℕ (UU nD τ) ℕ

/-- The gradient tile is written whole, so it does not depend on what the buffer held. -/
theorem outKV_any (x x' : Vec F S512x256 .bf16) (dk : Vec F S512x256 .f32) (dv : Vec F S512x128 .f32) : outKV x dk dv = outKV x' dk dv := by
  funext y
  unfold outKV VecWindow.put
  by_cases h2 : ∀ a, (![0, 128] : Fin 2 → ℕ) a ≤ (y a).val ∧ (y a).val < (![0, 128] : Fin 2 → ℕ) a + S512x128.size a
  · rw [dif_pos h2, dif_pos h2]
  · rw [dif_neg h2, dif_neg h2]
    have h1 : ∀ a, (![0, 0] : Fin 2 → ℕ) a ≤ (y a).val ∧ (y a).val < (![0, 0] : Fin 2 → ℕ) a + S512x128.size a := by
      have b0 : (y 0).val < 512 := (y 0).isLt
      have b1 : (y 1).val < 256 := (y 1).isLt
      intro a
      fin_cases a
      · exact ⟨Nat.zero_le _, by show (y 0).val < 0 + 512; omega⟩
      · refine ⟨Nat.zero_le _, ?_⟩
        show (y 1).val < 0 + 128
        by_contra hc
        refine h2 fun a => ?_
        fin_cases a
        · exact ⟨Nat.zero_le _, by show (y 0).val < 0 + 512; omega⟩
        · exact ⟨by show 128 ≤ (y 1).val; omega, by show (y 1).val < 128 + 128; omega⟩
    rw [dif_pos h1, dif_pos h1]

/-- A buffer holds `x` in either spelling. -/
theorem at_owns (c : Dev nD) {s : Shape} {e : EltTy} (a : Memref sig .tc .vmem s e) (x : Vec F s e) :
    (at_ c a x : sProp 𝕄) ⊢ owns (c : Thread nD τ) a fullShare x := by
  unfold owns
  iintro H
  iexists _
  isplitr
  swap
  · iexact H
  · ipureintro; exact View.read_rep _ _
theorem owns_at (c : Dev nD) {s : Shape} {e : EltTy} (a : Memref sig .tc .vmem s e) (x : Vec F s e) :
    (owns (c : Thread nD τ) a fullShare x : sProp 𝕄) ⊢ at_ c a x := by
  unfold owns
  iintro ⟨%f, %hf, H⟩
  iapply (at_of_read c a f x hf) $$ H

variable (m : (ℓ : Loc nD τ sig) → Buf (Elt F) ℓ) (ρ : Dev nD → PrngReg)

/-- The windows' tiles at grid point `t`, and the point's key tile. -/
abbrev bKV (c : Dev nD) (t : Fin cfg0.N) : Vec F S512x256 .bf16 := iblk m c 0 t
abbrev bPe (c : Dev nD) (t : Fin cfg0.N) : Vec F S512x128 .bf16 := iblk m c 1 t
abbrev bQ (c : Dev nD) (t : Fin cfg0.N) : Vec F S8192x256 .bf16 := iblk m c 2 t
abbrev bDO (c : Dev nD) (t : Fin cfg0.N) : Vec F S8192x128 .bf16 := iblk m c 3 t
abbrev bL (c : Dev nD) (t : Fin cfg0.N) : Vec F S1x16x1x512 .f32 := iblk m c 4 t
abbrev bD (c : Dev nD) (t : Fin cfg0.N) : Vec F S1x16x1x512 .f32 := iblk m c 5 t
abbrev kt (t : Fin cfg0.N) : ℕ := (grid0.coords t 1).val

/-- The key gradient, the value gradient and the query gradients that point `t` makes, the last from those it found. -/
def gK (c : Dev nD) (t : Fin cfg0.N) : Vec F S512x256 .f32 :=
  DK (keys (bKV m c t) (bPe m c t)) (vals (bKV m c t)) (bQ m c t) (bDO m c t) (bL m c t) (bD m c t) (kt t) (15 - kt t)
def gV (c : Dev nD) (t : Fin cfg0.N) : Vec F S512x128 .f32 :=
  DV (keys (bKV m c t) (bPe m c t)) (bQ m c t) (bDO m c t) (bL m c t) (kt t) (15 - kt t)
def gQ (c : Dev nD) (t : Fin cfg0.N) (o : Vec F S8192x256 .f32) : Vec F S8192x256 .f32 :=
  DQ (keys (bKV m c t) (bPe m c t)) (vals (bKV m c t)) (bQ m c t) (bDO m c t) (bL m c t) (bD m c t) (kt t) (start o (kt t)) (15 - kt t)

/-- The query gradients after grid point `n`. -/
def accQ (c : Dev nD) : (n : ℕ) → n < cfg0.N → Vec F S8192x256 .f32
  | 0, h => gQ m c ⟨0, h⟩ k0_pay80
  | n + 1, h => gQ m c ⟨n + 1, h⟩ (accQ c n (Nat.lt_of_succ_lt h))

def afterQ (c : Dev nD) (t : Fin cfg0.N) : Vec F S8192x256 .f32 := accQ m c t.val t.isLt

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outKV (bKV m c t) (gK m c t) (gV m c t)
    | ⟨7, _⟩ => k0_pay19 (gK m c t)
    | ⟨8, _⟩ => afterQ m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem coords1 : ∀ t : Fin cfg0.N, (grid0.coords t 1).val = t.val % 16 := by
  show ∀ t : Fin grid0.N, _
  decide +kernel

theorem defs₀_row (t : Fin cfg0.N) : defs₀ (F := F) .tc cfg0.body (cfg0.bodyArgs t (cfg0.slots t)) = Gen.bodyAt0 t := by
  unfold defs₀; rw [Defs.onTc_tc]

theorem before_in0 (c : Dev nD) (t : Fin cfg0.N) (d) : (dats m 0 c).before 0 t d = bKV m c t :=
  before0_0_of m (dats m 0 c) (A_eq m c 0) (fun _ => rfl) t d
theorem before_in1 (c : Dev nD) (t : Fin cfg0.N) (d) : (dats m 0 c).before 1 t d = bPe m c t :=
  before0_1_of m (dats m 0 c) (A_eq m c 1) (fun _ => rfl) t d
theorem before_in2 (c : Dev nD) (t : Fin cfg0.N) (d) : (dats m 0 c).before 2 t d = bQ m c t :=
  before0_2_of m (dats m 0 c) (A_eq m c 2) (fun _ => rfl) t d
theorem before_in3 (c : Dev nD) (t : Fin cfg0.N) (d) : (dats m 0 c).before 3 t d = bDO m c t :=
  before0_3_of m (dats m 0 c) (A_eq m c 3) (fun _ => rfl) t d
theorem before_in4 (c : Dev nD) (t : Fin cfg0.N) (d) : (dats m 0 c).before 4 t d = bL m c t :=
  before0_4_of m (dats m 0 c) (A_eq m c 4) (fun _ => rfl) t d
theorem before_in5 (c : Dev nD) (t : Fin cfg0.N) (d) : (dats m 0 c).before 5 t d = bD m c t :=
  before0_5_of m (dats m 0 c) (A_eq m c 5) (fun _ => rfl) t d

/-- Every point writes the query gradients: it works on a query tile below its own, or has none below. -/
theorem live8 (i : grid0.Coords) : cfg0.idle 8 i = false := by
  show idle0 8 i = false
  have hb : (i 1).val < 16 := (i 1).isLt
  rcases Nat.lt_or_ge (i 1).val 15 with h | h
  · simp [idle0, (cond3_iff i).mpr h]
  · simp [idle0, (cond2_iff i).mpr (by omega : (i 1).val = 15)]

/-- The query gradients the point starts from are those the point before left, unless it clears them. -/
theorem start_before (c : Dev nD) (t : Fin cfg0.N) (d) : gQ m c t ((dats m 0 c).before 8 t d) = afterQ m c t := by
  rcases Nat.eq_zero_or_pos t.val with h0 | hp
  · obtain ⟨n, hn⟩ := t
    subst h0
    have hz : kt ⟨0, hn⟩ = 0 := (coords1 _).trans rfl
    unfold afterQ
    show gQ m c ⟨0, hn⟩ _ = gQ m c ⟨0, hn⟩ k0_pay80
    unfold gQ start
    rw [if_pos hz, if_pos hz]
  · obtain ⟨n, hn⟩ := t
    obtain ⟨k, rfl⟩ : ∃ k, n = k + 1 := ⟨n - 1, (Nat.succ_pred_eq_of_pos hp).symm⟩
    unfold afterQ
    show gQ m c ⟨k + 1, hn⟩ _ = gQ m c ⟨k + 1, hn⟩ (accQ m c k (Nat.lt_of_succ_lt hn))
    by_cases hz : kt ⟨k + 1, hn⟩ = 0
    · unfold gQ start
      rw [if_pos hz, if_pos hz]
    · have hk : (k + 1) % 16 ≠ 0 := fun e => hz ((coords1 _).trans e)
      rw [(dats m 0 c).before_out_kept 8 rfl ⟨k + 1, hn⟩ (Nat.succ_ne_zero k)
        (by
          rw [← Bool.not_eq_true]
          intro e
          have := (flush0_8 _).mp e
          have e' : (k + 1 - 1) % 16 = 15 := this
          omega) live8 (fun _ _ => rfl)]
      rfl

/-- The body at a point, from the buffers' contents. -/
theorem body_at (c : Dev nD) (t : Fin cfg0.N) (x8 : Vec F S512x256 .bf16) (x9 : Vec F S1x512x128 .f32) (o : Vec F S8192x256 .f32)
    (x11 : Vec F S512x256 .f32) (x12 : Vec F S512x128 .f32) (x13 x14 x15 x16 : Vec F S512x512 .f32) :
    bodyPre c (st0_0 t) (st0_1 t) (st0_2 t) (st0_3 t) (st0_4 t) (st0_5 t) (st0_6 t) (st0_7 t) (st0_8 t) (Memref.whole cc0_scratch0)
        (Memref.whole cc0_scratch1) (Memref.whole cc0_scratch2) (Memref.whole cc0_scratch3) (Memref.whole cc0_scratch4) (Memref.whole cc0_scratch5)
        (bKV m c t) (bPe m c t) (bQ m c t) (bDO m c t) (bL m c t) (bD m c t) x8 x9 o x11 x12 x13 x14 x15 x16
      ⊢ wp frame (wpE (defs₀ (F := F)) 𝒱₀ (c : Thread nD τ) none) Set.univ (bodyAt0 t)
          (fun _ => bodyPost c (st0_0 t) (st0_1 t) (st0_2 t) (st0_3 t) (st0_4 t) (st0_5 t) (st0_6 t) (st0_7 t) (st0_8 t) (Memref.whole cc0_scratch0)
            (Memref.whole cc0_scratch1) (Memref.whole cc0_scratch2) (Memref.whole cc0_scratch3) (Memref.whole cc0_scratch4) (Memref.whole cc0_scratch5)
            (bKV m c t) (bPe m c t) (bQ m c t) (bDO m c t) (bL m c t) (bD m c t) x8 o (kt t)) := by
  rcases Nat.lt_or_ge (grid0.coords t 1).val 15 with h | h
  · exact body_below c (grid0.coords t) _ _ _ _ _ _ _ _ _ _ _ _ _ _ _ _ _ _ _ _ _ _ _ _ _ _ _ _ _ _ _ _ _ _ _ _ _ _ _ _ _ _ _ _ _ h
  · have hb : (grid0.coords t 1).val < 16 := (grid0.coords t 1).isLt
    exact body_last c (grid0.coords t) _ _ _ _ _ _ _ _ _ _ _ _ _ _ _ _ _ _ _ _ _ _ _ _ _ _ _ _ _ _ _ _ _ _ _ _ _ _ _ _ _ _ _ _ _ (by omega)

/-- The same with what rides along, and what it is then turned to. -/
theorem body_step (c : Dev nD) (t : Fin cfg0.N) (R : sProp 𝕄) (Q : PUnit → sProp 𝕄) (x8 : Vec F S512x256 .bf16) (x9 : Vec F S1x512x128 .f32)
    (o : Vec F S8192x256 .f32) (x11 : Vec F S512x256 .f32) (x12 : Vec F S512x128 .f32) (x13 x14 x15 x16 : Vec F S512x512 .f32)
    (hQ : ∀ r, iprop(bodyPost c (st0_0 t) (st0_1 t) (st0_2 t) (st0_3 t) (st0_4 t) (st0_5 t) (st0_6 t) (st0_7 t) (st0_8 t) (Memref.whole cc0_scratch0)
            (Memref.whole cc0_scratch1) (Memref.whole cc0_scratch2) (Memref.whole cc0_scratch3) (Memref.whole cc0_scratch4) (Memref.whole cc0_scratch5)
            (bKV m c t) (bPe m c t) (bQ m c t) (bDO m c t) (bL m c t) (bD m c t) x8 o (kt t) ∗ R) ⊢ Q r) :
    iprop(bodyPre c (st0_0 t) (st0_1 t) (st0_2 t) (st0_3 t) (st0_4 t) (st0_5 t) (st0_6 t) (st0_7 t) (st0_8 t) (Memref.whole cc0_scratch0)
        (Memref.whole cc0_scratch1) (Memref.whole cc0_scratch2) (Memref.whole cc0_scratch3) (Memref.whole cc0_scratch4) (Memref.whole cc0_scratch5)
        (bKV m c t) (bPe m c t) (bQ m c t) (bDO m c t) (bL m c t) (bD m c t) x8 x9 o x11 x12 x13 x14 x15 x16 ∗ R)
      ⊢ wp frame (wpE (defs₀ (F := F)) 𝒱₀ (c : Thread nD τ) none) Set.univ (bodyAt0 t) Q :=
  (sep_mono (body_at m c t x8 x9 o x11 x12 x13 x14 x15 x16) .rfl).trans
    ((wp_frame_r frame (wpE (defs₀ (F := F)) 𝒱₀ (c : Thread nD τ) none) Set.univ).trans
      (wp_mono frame (wpE (defs₀ (F := F)) 𝒱₀ (c : Thread nD τ) none) Set.univ hQ))

/-- A scratch buffer, in the two spellings. -/
theorem scr_in (c : Dev nD) (b : Ref sig .tc) (f : b.ty.Contents (Elt F)) :
    (((c : Thread nD τ).loc b) ↦{fullShare} f : sProp 𝕄) ⊢ owns (c : Thread nD τ) (Memref.whole b) fullShare f :=
  Entails.of_eq (owns_whole (c : Thread nD τ) b fullShare f).symm
theorem scr_out (c : Dev nD) (b : Ref sig .tc) (f : b.ty.Contents (Elt F)) :
    (owns (c : Thread nD τ) (Memref.whole b) fullShare f : sProp 𝕄) ⊢ iprop(∃ f : Buf (Elt F) ((c : Thread nD τ).loc b), ((c : Thread nD τ).loc b) ↦{fullShare} f) := by
  rw [owns_whole]
  iintro H
  iexists _
  iexact H

set_option maxHeartbeats 1600000 in
theorem body_obligation (c : Dev nD) : BodyObligation (dats m 0 c) (defs₀ (F := F)) 𝒱₀ () Set.univ := fun t => by
  rw [bigSep_W0, bigSep_W0, defs₀_row]
  rw [show cfg0.idle 8 (cfg0.grid.coords t) = false from live8 _]
  rw [show (dats m 0 c).Φ t.castSucc = Pipeline.ΦA spec0 c from rfl, show (dats m 0 c).Φ t.succ = Pipeline.ΦA spec0 c from rfl]
  unfold Pipeline.ΦA Dat.owesAt Pipeline.owesWithin; rw [scopedRest0_eq]
  rw [show (dats m 0 c).owed t.castSucc = 0 from rfl, show (dats m 0 c).owed t.succ = 0 from rfl]
  iintro ⟨⟨⟨⟨%f0, S0⟩, ⟨%f1, S1⟩, ⟨%f2, S2⟩, ⟨%f3, S3⟩, ⟨%f4, S4⟩, ⟨%f5, S5⟩⟩, HP⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before_in0, before_in1, before_in2, before_in3, before_in4, before_in5]
  iapply (body_step m c t iprop((∃ r, prngReg c r) ∗ owes (c : Thread nD τ) 0 W) _ ((dats m 0 c).before 6 t d6) ((dats m 0 c).before 7 t d7)
    ((dats m 0 c).before 8 t d8) f0 f1 f2 f3 f4 f5 ?_)
  · intro _
    unfold bodyPost
    iintro ⟨⟨G0, G1, G2, G3, G4, G5, G6, G7, G8, ⟨%x0, S0⟩, ⟨%x1, S1⟩, ⟨%x2, S2⟩, ⟨%x3, S3⟩, ⟨%x4, S4⟩, ⟨%x5, S5⟩⟩, HP, HO⟩
    isplitl [S0 S1 S2 S3 S4 S5 HP]
    · isplitr [HP]
      · isplitl [S0]; · iapply (scr_out c cc0_scratch0 _); iapply (at_owns c _ _) $$ S0
        isplitl [S1]; · iapply (scr_out c cc0_scratch1 _); iapply (at_owns c _ _) $$ S1
        isplitl [S2]; · iapply (scr_out c cc0_scratch2 _); iapply (at_owns c _ _) $$ S2
        isplitl [S3]; · iapply (scr_out c cc0_scratch3 _); iapply (at_owns c _ _) $$ S3
        isplitl [S4]; · iapply (scr_out c cc0_scratch4 _); iapply (at_owns c _ _) $$ S4
        iapply (scr_out c cc0_scratch5 _); iapply (at_owns c _ _) $$ S5
      · iexact HP
    isplitl [HO]
    · iexists W; isplitr; · ipureintro; exact hW
      iexact HO
    isplitl [G0]; · iapply (at_owns c (st0_0 t) (bKV m c t)) $$ G0
    isplitl [G1]; · iapply (at_owns c (st0_1 t) (bPe m c t)) $$ G1
    isplitl [G2]; · iapply (at_owns c (st0_2 t) (bQ m c t)) $$ G2
    isplitl [G3]; · iapply (at_owns c (st0_3 t) (bDO m c t)) $$ G3
    isplitl [G4]; · iapply (at_owns c (st0_4 t) (bL m c t)) $$ G4
    isplitl [G5]; · iapply (at_owns c (st0_5 t) (bD m c t)) $$ G5
    isplitl [G6]
    · ihave G := (at_owns c (st0_6 t) _) $$ G6
      rw [outKV_any _ (bKV m c t)]
      iexact G
    isplitl [G7]
    · ihave G := (at_owns c (st0_7 t) _) $$ G7
      iexact G
    · ihave G := (at_owns c (st0_8 t) _) $$ G8
      rw [show (dats m 0 c).after 8 t = gQ m c t ((dats m 0 c).before 8 t d8) from (start_before m c t d8).symm]
      iexact G
  · unfold bodyPre
    isplitr [HP HO]
    · isplitl [H0]; · iapply (owns_at c (st0_0 t) _) $$ H0
      isplitl [H1]; · iapply (owns_at c (st0_1 t) _) $$ H1
      isplitl [H2]; · iapply (owns_at c (st0_2 t) _) $$ H2
      isplitl [H3]; · iapply (owns_at c (st0_3 t) _) $$ H3
      isplitl [H4]; · iapply (owns_at c (st0_4 t) _) $$ H4
      isplitl [H5]; · iapply (owns_at c (st0_5 t) _) $$ H5
      isplitl [H6]; · iapply (owns_at c (st0_6 t) _) $$ H6
      isplitl [H7]; · iapply (owns_at c (st0_7 t) _) $$ H7
      isplitl [H8]; · iapply (owns_at c (st0_8 t) _) $$ H8
      isplitl [S0]; · iapply (owns_at c (Memref.whole cc0_scratch0) f0); iapply (scr_in c cc0_scratch0 f0) $$ S0
      isplitl [S1]; · iapply (owns_at c (Memref.whole cc0_scratch1) f1); iapply (scr_in c cc0_scratch1 f1) $$ S1
      isplitl [S2]; · iapply (owns_at c (Memref.whole cc0_scratch2) f2); iapply (scr_in c cc0_scratch2 f2) $$ S2
      isplitl [S3]; · iapply (owns_at c (Memref.whole cc0_scratch3) f3); iapply (scr_in c cc0_scratch3 f3) $$ S3
      isplitl [S4]; · iapply (owns_at c (Memref.whole cc0_scratch4) f4); iapply (scr_in c cc0_scratch4 f4) $$ S4
      iapply (owns_at c (Memref.whole cc0_scratch5) f5); iapply (scr_in c cc0_scratch5 f5) $$ S5
    · isplitl [HP]; · iexact HP
      iexact HO

/-- The whole program's run: the window arrays at what the points' tiles make of them, the lines after the kernel run on
    that, and every semaphore counter at zero. -/
theorem run_main : θ_run defs (onTc (τ := τ) (main (F := F))) ⟨m, fun _ => 0, ρ⟩
    (fun r => Pipeline.FramePost cfgs (dats m) 0 (Pipeline.afterTail₀ cfgs (dats m) 0 (V0 m) [hostOps1]) r ∧ r.2.sem = fun _ => 0) :=
  Pipeline.θ_run_frame_around cfgs (dats m) 0 Gen.launch0 defs₀ 𝒱₀ m ρ main (fun c => (body_obligation m c).loose)
    (fun c => (dats m 0 c).share_full fun _ => rfl) (fun _ _ => rfl) (V0 m) [hostOps1] Gen.sfx_sub Gen.sfx_fresh Gen.sfx_keeps (Gen.hmain m 𝒱₀)
    (A_eq m) (fun _ _ => rfl) _ (fun _ h => h)

/-- The frame: the program ends, its arguments unchanged and every semaphore counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  θ_run_with_sems (Gen.frame_of m ρ (dats m) (A_eq m)) (run_main m ρ)

end Cert.Proof.AttnIdeal

end
-- ==== Proof.Reals.lean ====
/-
  Real entries among the extended reals: what a precondition that bounds every absolute value below infinity says of an
  entry, the sums and products of real entries, and the two identities of the SwiGLU's derivative that ask for them.
-/
module

public import Idealize.ShloMosaic.Lib.ReduceAll
public import Idealize.ShloMosaic.Lib.WordCmp
public import Idealize.ShloMosaic.PureOps.Ideal
public import Idealize.ShloMosaic.Lib.Pointwise
public import Mathlib.Data.Finset.Fold

@[expose] public section

noncomputable section

namespace Cert.Proof.Reals

open Idealize.ShloMosaic

/-- The extended real is a real number. -/
def IsReal (x : EReal) : Prop := ∃ r : ℝ, x = r

theorem IsReal.of_lt_top {x : EReal} (h : max x (-x) < ⊤) : IsReal x := by
  induction x with
  | bot => simp at h
  | top => simp at h
  | coe r => exact ⟨r, rfl⟩

theorem IsReal.mul {x y : EReal} : IsReal x → IsReal y → IsReal (x * y) := by
  rintro ⟨a, rfl⟩ ⟨b, rfl⟩
  exact ⟨a * b, (EReal.coe_mul a b).symm⟩

theorem IsReal.add {x y : EReal} : IsReal x → IsReal y → IsReal (x + y) := by
  rintro ⟨a, rfl⟩ ⟨b, rfl⟩
  exact ⟨a + b, (EReal.coe_add a b).symm⟩

theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

/-- An entry whose absolute value compares below infinity is a real number. -/
theorem of_cmp {x y : EReal} (hy : y = ⊤) (h : Ideal.cmp .olt (max x (-x)) y = 1#1) : IsReal x := by
  subst hy
  refine IsReal.of_lt_top (Classical.byContradiction fun hn => ?_)
  simp [Ideal.cmp, hn] at h

/-- The pattern of infinity. -/
theorem top_bf16 : Ideal.ofBits .bf16 0x7F80#16 = ⊤ := by simp [Ideal.ofBits, Ideal.ieee]
theorem top_f32 : Ideal.ofBits .f32 0x7F800000#32 = ⊤ := by simp [Ideal.ofBits, Ideal.ieee]

/-- The sum of real numbers among the extended reals. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- Whether one small number is at most another, as words. -/
theorem sle_ofNat (a b : ℕ) (ha : a < 2 ^ 31) (hb : b < 2 ^ 31) :
    IntOp.cmpi .sle (BitVec.ofNat 32 a) (BitVec.ofNat 32 b) = if a ≤ b then 1#1 else 0#1 := by
  have ea : (BitVec.ofNat 32 a).toNat = a := by rw [BitVec.toNat_ofNat]; omega
  have eb : (BitVec.ofNat 32 b).toNat = b := by rw [BitVec.toNat_ofNat]; omega
  rw [WordCmp.cmpi_sle_of_lt (by rw [ea]; exact ha) (by rw [eb]; exact hb), ea, eb]
  by_cases h : a ≤ b
  · rw [if_pos h, decide_eq_true h]; rfl
  · rw [if_neg h, decide_eq_false h]; rfl

/-- The largest of entries that are real or −∞ is real, when one of them is. -/
theorem fold_max_real {ι : Type} (s : Finset ι) (f : ι → EReal) (hf : ∀ i, f i = ⊥ ∨ IsReal (f i)) (i : ι) (hi : i ∈ s)
    (hr : IsReal (f i)) : IsReal (s.fold max ⊥ f) := by
  have ht : s.fold max ⊥ f < ⊤ := (Finset.fold_max_lt _).mpr ⟨bot_lt_top, fun x _ => by
    rcases hf x with h | ⟨r, h⟩
    · rw [h]; exact bot_lt_top
    · rw [h]; exact EReal.coe_lt_top r⟩
  have hb : f i ≤ s.fold max ⊥ f := (Finset.le_fold_max _).mpr (Or.inr ⟨i, hi, le_rfl⟩)
  obtain ⟨r, hr⟩ := hr
  rw [hr] at hb
  exact ⟨_, (EReal.coe_toReal ht.ne (ne_of_gt (lt_of_lt_of_le (EReal.bot_lt_coe r) hb))).symm⟩

/-- The reduction of the last of three axes by the maximum, from −∞: real where the row has a real entry. -/
theorem reduce_max_real {n0 n1 n2 : ℕ} {u : Shape} (x : FVec Ideal ⟨3, ![n0, n1, n2]⟩ .f32) (init : FVec Ideal u .f32)
    (h : (⟨3, ![n0, n1, n2]⟩ : Shape).ReducesTo [2] ⟨2, ![n0, n1]⟩) (hu : 0 < u.numel) (a : Fin n0) (b : Fin n1)
    (hi : ∀ i, init i = (⊥ : EReal)) (hx : ∀ k, x (ix3 a b k) = (⊥ : EReal) ∨ IsReal (x (ix3 a b k))) (k : Fin n2)
    (hr : IsReal (x (ix3 a b k))) : IsReal (Host.reduce (FloatOps.maximumf : Ideal .f32 → Ideal .f32 → Ideal .f32) x init h hu (ix2 a b)) := by
  have e : Host.reduce (max : EReal → EReal → EReal) x init h hu (ix2 a b) = Finset.univ.fold max ⊥ fun k => x (ix3 a b k) := by
    rw [Host.reduce_eq_fold, Shape.ReducesTo.fold_fiber_r3_a2, hi]
    rfl
  show IsReal (Host.reduce (max : EReal → EReal → EReal) x init h hu (ix2 a b))
  rw [e]
  exact fold_max_real _ _ hx k (Finset.mem_univ k) hr

theorem IsReal.coe_toReal {x : EReal} (h : IsReal x) : ((x.toReal : ℝ) : EReal) = x := by
  obtain ⟨r, rfl⟩ := h
  rfl

/-- The constants of the attention: −∞, two, and the scale of the scores, which is a real number. -/
theorem bot_f32 : Ideal.ofBits .f32 0xFF800000#32 = ⊥ := by simp [Ideal.ofBits, Ideal.ieee]
theorem two_f32 : Ideal.ofBits .f32 0x40000000#32 = ((2 : ℝ) : EReal) := by
  simp [Ideal.ofBits, Ideal.ieee]
  rw [← EReal.coe_mul]
  norm_num
theorem scale_f32 : IsReal (Ideal.ofBits .f32 0x3D93CD3A#32) := by
  simp only [Ideal.ofBits, Ideal.ieee]
  split_ifs <;> first | exact ⟨_, rfl⟩ | simp_all

/-- The derivative of `g · σ(g) · u` by `g`, as the forward call saves it. -/
def dsilu (g u : EReal) : EReal := u * (Ideal.logistic g * (1 + g * (1 - Ideal.logistic g)))

/-- The same derivative with the factor `u` carried through both terms, as differentiation leaves it. -/
def pulled (g u : EReal) : EReal := u * Ideal.logistic g + g * u * (Ideal.logistic g * (1 - Ideal.logistic g))

/-- The two spellings agree at every real `u`. -/
theorem dsilu_eq_pulled (g : EReal) {u : EReal} (hu : IsReal u) : dsilu g u = pulled g u := by
  obtain ⟨u, rfl⟩ := hu
  unfold dsilu pulled
  have h11 : (1 : EReal) - 1 = 0 := by rw [← EReal.coe_one, ← EReal.coe_sub, sub_self, EReal.coe_zero]
  induction g with
  | bot => simp
  | top => simp [h11]
  | coe r =>
    rw [Ideal.logistic_coe]
    generalize (1 + Real.exp (-r))⁻¹ = s
    rw [← EReal.coe_one]
    norm_cast
    ring

/-- A real factor may be multiplied into the derivative before or after. -/
theorem mul_pulled (g : EReal) {d u : EReal} (hd : IsReal d) (hu : IsReal u) : d * pulled g u = pulled g (d * u) := by
  obtain ⟨u, rfl⟩ := hu
  obtain ⟨d, rfl⟩ := hd
  unfold pulled
  have h11 : (1 : EReal) - 1 = 0 := by rw [← EReal.coe_one, ← EReal.coe_sub, sub_self, EReal.coe_zero]
  induction g with
  | bot => simp
  | top => simp [h11]
  | coe r =>
    rw [Ideal.logistic_coe]
    generalize (1 + Real.exp (-r))⁻¹ = s
    rw [← EReal.coe_one]
    norm_cast
    ring

end Cert.Proof.Reals
end
-- ==== Proof.AttnReal.lean ====
/-
  The backward pass of causal softmax attention in real numbers: sixteen heads of 256 columns, of which the first 128 of a
  head's keys are its own and the rest are the shared rotary key.
-/
module

public import proofs.«01_k».proof.Proof.Reals
public import Mathlib.Analysis.SpecialFunctions.Pow.Real

@[expose] public section

noncomputable section

namespace Cert.Proof.AttnReal

/-- Column `d` of head `h` among the queries' and the keys' and values' columns, and among the outputs'. -/
def hc (h : Fin 16) (d : Fin 256) : Fin 4096 := ⟨h.val * 256 + d.val, by omega⟩
def oc (h : Fin 16) (d : Fin 128) : Fin 2048 := ⟨h.val * 128 + d.val, by omega⟩
/-- The first and the last 128 of a head's columns. -/
def lo (d : Fin 128) : Fin 256 := ⟨d.val, by omega⟩
def hi (d : Fin 128) : Fin 256 := ⟨128 + d.val, by omega⟩

theorem sum_lo_hi (f : Fin 256 → ℝ) : ∑ j, f j = ∑ d : Fin 128, f (lo d) + ∑ d : Fin 128, f (hi d) :=
  (Fin.sum_univ_add (a := 128) (b := 128) f).trans rfl

variable (q kv : Fin 8192 → Fin 4096 → ℝ) (pe : Fin 8192 → Fin 128 → ℝ) (o : Fin 8192 → Fin 2048 → ℝ) (s : ℝ)

/-- A head's keys. -/
def key (h : Fin 16) (k : Fin 8192) (j : Fin 256) : ℝ := if hj : j.val < 128 then kv k (hc h j) else pe k ⟨j.val - 128, by omega⟩

theorem key_lo (h : Fin 16) (k : Fin 8192) (d : Fin 128) : key kv pe h k (lo d) = kv k (hc h (lo d)) := dif_pos d.isLt
theorem key_hi (h : Fin 16) (k : Fin 8192) (d : Fin 128) : key kv pe h k (hi d) = pe k d := by
  unfold key
  rw [dif_neg (by show ¬ (128 + d.val < 128); omega)]
  exact congrArg (pe k) (Fin.ext (by show 128 + d.val - 128 = d.val; omega))

/-- The scaled score, the probability, the derivative by the probability, its mean, and the derivative by the score. -/
def score (h : Fin 16) (t k : Fin 8192) : ℝ :=
  (∑ d : Fin 128, q t (hc h (lo d)) * kv k (hc h (lo d)) + ∑ d : Fin 128, q t (hc h (hi d)) * pe k d) * s
def P (h : Fin 16) (t k : Fin 8192) : ℝ :=
  (if k ≤ t then Real.exp (score q kv pe s h t k) else 0) / ∑ j, if j ≤ t then Real.exp (score q kv pe s h t j) else 0
def dP (h : Fin 16) (t k : Fin 8192) : ℝ := ∑ d : Fin 128, o t (oc h d) * kv k (hc h (hi d))
def delta (h : Fin 16) (t : Fin 8192) : ℝ := ∑ k, dP kv o h t k * P q kv pe s h t k
def dS (h : Fin 16) (t k : Fin 8192) : ℝ := P q kv pe s h t k * (dP kv o h t k - delta q kv pe o s h t)

/-- The gradients: of the values, of the keys, and of the queries. -/
def gV (h : Fin 16) (k : Fin 8192) (d : Fin 128) : ℝ := ∑ t, P q kv pe s h t k * o t (oc h d)
def gK (h : Fin 16) (k : Fin 8192) (j : Fin 256) : ℝ := ∑ t, dS q kv pe o s h t k * s * q t (hc h j)
def gQ (h : Fin 16) (t : Fin 8192) (j : Fin 256) : ℝ := ∑ k, dS q kv pe o s h t k * s * key kv pe h k j

/-- The exponentials below the diagonal, less any number `M` in the exponent, and their sum. -/
def ex (M : ℝ) (h : Fin 16) (t k : Fin 8192) : ℝ := if k ≤ t then Real.exp (score q kv pe s h t k - M) else 0
def exSum (M : ℝ) (h : Fin 16) (t : Fin 8192) : ℝ := ∑ k, ex q kv pe s M h t k

theorem exSum_pos (M : ℝ) (h : Fin 16) (t : Fin 8192) : 0 < exSum q kv pe s M h t := by
  refine Finset.sum_pos' (fun k _ => ?_) ⟨t, Finset.mem_univ t, ?_⟩
  · unfold ex; split_ifs
    · exact (Real.exp_pos _).le
    · exact le_rfl
  · unfold ex; rw [if_pos le_rfl]; exact Real.exp_pos _

theorem ex_eq (M : ℝ) (h : Fin 16) (t k : Fin 8192) :
    ex q kv pe s M h t k = Real.exp (-M) * (if k ≤ t then Real.exp (score q kv pe s h t k) else 0) := by
  unfold ex
  split_ifs
  · rw [← Real.exp_add]; congr 1; ring
  · rw [mul_zero]

/-- The number in the exponent cancels. -/
theorem ex_div (M : ℝ) (h : Fin 16) (t k : Fin 8192) : ex q kv pe s M h t k / exSum q kv pe s M h t = P q kv pe s h t k := by
  unfold exSum P
  simp only [ex_eq]
  rw [← Finset.mul_sum, mul_div_mul_left _ _ (Real.exp_pos _).ne']

/-- The probability from the logarithm of the sum, in powers of two. -/
theorem exp2_eq (M : ℝ) (h : Fin 16) (t k : Fin 8192) (hk : k ≤ t) :
    Real.rpow 2 (score q kv pe s h t k * (1 / Real.log 2) - (M + Real.log (exSum q kv pe s M h t)) * (1 / Real.log 2)) = P q kv pe s h t k := by
  have h2 : Real.log 2 ≠ 0 := (Real.log_pos (by norm_num)).ne'
  have e : Real.log 2 * (score q kv pe s h t k * (1 / Real.log 2) - (M + Real.log (exSum q kv pe s M h t)) * (1 / Real.log 2))
      = (score q kv pe s h t k - M) - Real.log (exSum q kv pe s M h t) := by field_simp; ring
  change (2 : ℝ) ^ (_ : ℝ) = _
  rw [Real.rpow_def_of_pos (by norm_num), e, Real.exp_sub, Real.exp_log (exSum_pos q kv pe s M h t), ← ex_div q kv pe s M, ex, if_pos hk]

theorem P_zero (h : Fin 16) {t k : Fin 8192} (hk : ¬ k ≤ t) : P q kv pe s h t k = 0 := by
  unfold P; rw [if_neg hk, zero_div]

/-- The score as one sum over a head's columns. -/
theorem score_key (r : ℝ) (h : Fin 16) (t k : Fin 8192) : ∑ j, key kv pe h k j * (q t (hc h j) * s * r) = score q kv pe s h t k * r := by
  rw [sum_lo_hi]
  simp only [key_lo, key_hi]
  unfold score
  rw [add_mul, add_mul, Finset.sum_mul, Finset.sum_mul, Finset.sum_mul, Finset.sum_mul]
  exact congrArg₂ _ (Finset.sum_congr rfl fun d _ => by ring) (Finset.sum_congr rfl fun d _ => by ring)

/-- The mean, as the product of the output with its gradient. -/
theorem delta_eq (h : Fin 16) (t : Fin 8192) :
    ∑ d : Fin 128, (∑ k, kv k (hc h (hi d)) * P q kv pe s h t k) * o t (oc h d) = delta q kv pe o s h t := by
  unfold delta dP
  simp only [Finset.sum_mul]
  rw [Finset.sum_comm]
  exact Finset.sum_congr rfl fun k _ => Finset.sum_congr rfl fun d _ => by ring

/-- The derivative by the score as differentiation of the quotient leaves it. -/
theorem dS_eq (M : ℝ) (h : Fin 16) (t k : Fin 8192) :
    (dP kv o h t k * (1 / exSum q kv pe s M h t)
        + -(∑ j, dP kv o h t j * (1 / (exSum q kv pe s M h t * exSum q kv pe s M h t)) * ex q kv pe s M h t j)) * ex q kv pe s M h t k
      = dS q kv pe o s h t k := by
  have hL : exSum q kv pe s M h t ≠ 0 := (exSum_pos q kv pe s M h t).ne'
  have e : ∀ j, ex q kv pe s M h t j = P q kv pe s h t j * exSum q kv pe s M h t := fun j => by
    rw [← ex_div q kv pe s M, div_mul_cancel₀ _ hL]
  have hs : ∑ j, dP kv o h t j * (1 / (exSum q kv pe s M h t * exSum q kv pe s M h t)) * ex q kv pe s M h t j
      = delta q kv pe o s h t * (1 / exSum q kv pe s M h t) := by
    unfold delta
    rw [Finset.sum_mul]
    exact Finset.sum_congr rfl fun j _ => by rw [e j]; field_simp
  rw [hs, e k]
  unfold dS
  field_simp
  ring

theorem dS_zero (h : Fin 16) {t k : Fin 8192} (hk : ¬ k ≤ t) : dS q kv pe o s h t k = 0 := by
  unfold dS; rw [P_zero q kv pe s h hk, zero_mul]

end Cert.Proof.AttnReal

end
-- ==== Proof.AttnRef.lean ====
/-
  The reference's gradients of the softmax attention, at real arguments: the entries of its three results are the real
  gradients.
-/
module

public import proofs.«01_k».proof.Proof.Gen.AttnRefIdeal
public import proofs.«01_k».proof.Proof.Gen.AttnRefIdeal.Run
public import proofs.«01_k».proof.Proof.AttnReal
public import Idealize.ShloMosaic.Lib.Pointwise
public import Idealize.ShloMosaic.Lib.Tactic

@[expose] public section

set_option maxRecDepth 16384

noncomputable section

namespace Cert.Proof.AttnRef

open Cert.AttnRefIdeal Cert.AttnRefIdeal.Gen Cert.AttnRefIdeal.Value
open Idealize.ShloMosaic Idealize.ShloMosaic.TcCoe
open Cert.Proof.Reals Cert.Proof.AttnReal

/-- The scale of the scores. -/
def sc : ℝ := (Ideal.ofBits .f32 0x3D93CD3A#32).toReal
theorem sc_eq : Ideal.ofBits .f32 0x3D93CD3A#32 = (sc : EReal) := scale_f32.coe_toReal.symm

variable (A0 A1 : FVec Ideal S8192x4096 .f32) (A2 : FVec Ideal S8192x128 .f32) (A3 : FVec Ideal S8192x2048 .f32)

/-! The reference's stages, as it writes them. -/

def qLo : FVec Ideal S8192x16x128 .f32 := extractStridedSlice S8192x16x128 ![0, 0, 0] (shapeCast _ A0 shapeCasts_S8192x4096_S8192x16x256) slices_S8192x16x256_S8192x16x128_0_0_0
def qHi : FVec Ideal S8192x16x128 .f32 := extractStridedSlice S8192x16x128 ![0, 0, 128] (shapeCast _ A0 shapeCasts_S8192x4096_S8192x16x256) slices_S8192x16x256_S8192x16x128_0_0_128
def peB : FVec Ideal S16x8192x128 .f32 := broadcastInDim S16x8192x128 ![1, 2] bcast_S8192x128_S16x8192x128_1_2 A2
def mask : IVec S16x8192x8192 1 := broadcastInDim S16x8192x8192 ![1, 2] bcast_S8192x8192_S16x8192x8192_1_2 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))
def scores : FVec Ideal S16x8192x8192 .f32 := mulf (addf (Host.dotGeneral dot_S8192x16x128_S8192x16x128_S16x8192x8192_2_2_0_0_1_1 none (qLo A0) (qLo A1)) (Host.dotGeneral dot_S8192x16x128_S16x8192x128_S16x8192x8192_2_2_0_1_1_0 none (qHi A0) (peB A2))) (broadcastInDim S16x8192x8192 ![] bcast_S_S16x8192x8192 (constant S_ .f32 0x3D93CD3A#32))
def masked : FVec Ideal S16x8192x8192 .f32 := select mask (scores A0 A1 A2) (broadcastInDim S16x8192x8192 ![] bcast_S_S16x8192x8192 (id (constant S_ .f32 0xFF800000#32)))
def rowRed : FVec Ideal S16x8192 .f32 := Host.reduce FloatOps.maximumf (masked A0 A1 A2) (constant S_ .f32 0xFF800000#32) reducesTo_S16x8192x8192_S16x8192_d2 h_S_
def rowMax : FVec Ideal S16x8192 .f32 := maximumf (broadcastInDim S16x8192 ![] bcast_S_S16x8192 (constant S_ .f32 0xFF800000#32)) (rowRed A0 A1 A2)
def exps : FVec Ideal S16x8192x8192 .f32 := Host.exp (subf (masked A0 A1 A2) (broadcastInDim S16x8192x8192 ![0, 1, 2] bcast_S16x8192x1_S16x8192x8192_0_1_2 (broadcastInDim S16x8192x1 ![0, 1] bcast_S16x8192_S16x8192x1_0_1 (rowMax A0 A1 A2))))
def sums : FVec Ideal S16x8192x1 .f32 := broadcastInDim S16x8192x1 ![0, 1] bcast_S16x8192_S16x8192x1_0_1 (Host.reduceAdd (exps A0 A1 A2) (constant S_ .f32 0x00000000#32) reducesTo_S16x8192x8192_S16x8192_d2 h_S_)
def probs : FVec Ideal S16x8192x8192 .f32 := Host.divf (exps A0 A1 A2) (broadcastInDim S16x8192x8192 ![0, 1, 2] bcast_S16x8192x1_S16x8192x8192_0_1_2 (sums A0 A1 A2))
def doT : FVec Ideal S16x128x8192 .f32 := transpose S16x128x8192 [1, 2, 0] (shapeCast _ A3 shapeCasts_S8192x2048_S8192x16x128) transposes_S8192x16x128_S16x128x8192_1_2_0
def dProb : FVec Ideal S16x8192x8192 .f32 := Host.dotGeneral dot_S16x128x8192_S8192x16x128_S16x8192x8192_1_2_2_0_0_1 none (doT A3) (qHi A1)
def means : FVec Ideal S16x8192 .f32 := Host.reduceAdd (mulf (mulf (dProb A1 A3) (broadcastInDim S16x8192x8192 ![0, 1, 2] bcast_S16x8192x1_S16x8192x8192_0_1_2 (Host.divf (broadcastInDim S16x8192x1 ![] bcast_S_S16x8192x1 (constant S_ .f32 0x3F800000#32)) (mulf (sums A0 A1 A2) (sums A0 A1 A2))))) (exps A0 A1 A2)) (constant S_ .f32 0x00000000#32) reducesTo_S16x8192x8192_S16x8192_d2 h_S_
def dScore : FVec Ideal S16x8192x8192 .f32 := mulf (select mask (mulf (addf (Host.divf (dProb A1 A3) (broadcastInDim S16x8192x8192 ![0, 1, 2] bcast_S16x8192x1_S16x8192x8192_0_1_2 (sums A0 A1 A2))) (broadcastInDim S16x8192x8192 ![0, 1] bcast_S16x8192_S16x8192x8192_0_1 (Host.reduceAdd (Host.negf (shapeCast _ (means A0 A1 A2 A3) shapeCasts_S16x8192_S16x8192x1)) (constant S_ .f32 0x00000000#32) reducesTo_S16x8192x1_S16x8192_d2 h_S_))) (exps A0 A1 A2)) (broadcastInDim S16x8192x8192 ![] bcast_S_S16x8192x8192 (constant S_ .f32 0x00000000#32))) (broadcastInDim S16x8192x8192 ![] bcast_S_S16x8192x8192 (constant S_ .f32 0x3D93CD3A#32))
def dPe : FVec Ideal S16x8192x128 .f32 := Host.dotGeneral dot_S16x8192x8192_S8192x16x128_S16x8192x128_1_0_2_2_0_1 none (dScore A0 A1 A2 A3) (qHi A0)
def dq : FVec Ideal S8192x4096 .f32 := shapeCast _ (addf (pad S8192x16x256 ![0, 0, 128] ![0, 0, 0] ![0, 0, 0] (transpose S8192x16x128 [1, 0, 2] (Host.dotGeneral dot_S16x8192x8192_S16x8192x128_S16x8192x128_2_1_1_2_0_0 none (dScore A0 A1 A2 A3) (peB A2)) transposes_S16x8192x128_S8192x16x128_1_0_2) (constant S_ .f32 0x00000000#32) pads_S8192x16x128_S8192x16x256_000_000_12800 h_S_) (pad S8192x16x256 ![0, 0, 0] ![0, 0, 128] ![0, 0, 0] (transpose S8192x16x128 [1, 0, 2] (Host.dotGeneral dot_S16x8192x8192_S8192x16x128_S16x8192x128_2_0_1_2_0_1 none (dScore A0 A1 A2 A3) (qLo A1)) transposes_S16x8192x128_S8192x16x128_1_0_2) (constant S_ .f32 0x00000000#32) pads_S8192x16x128_S8192x16x256_000_000_01280 h_S_)) shapeCasts_S8192x16x256_S8192x4096
def dkv : FVec Ideal S8192x4096 .bf16 := truncf .bf16 (shapeCast _ (addf (pad S8192x16x256 ![0, 0, 128] ![0, 0, 0] ![0, 0, 0] (transpose S8192x16x128 [2, 0, 1] (Host.dotGeneral dot_S16x128x8192_S16x8192x8192_S16x128x8192_2_1_1_2_0_0 none (doT A3) (probs A0 A1 A2)) transposes_S16x128x8192_S8192x16x128_2_0_1) (constant S_ .f32 0x00000000#32) pads_S8192x16x128_S8192x16x256_000_000_12800 h_S_) (pad S8192x16x256 ![0, 0, 0] ![0, 0, 128] ![0, 0, 0] (transpose S8192x16x128 [1, 0, 2] (Host.dotGeneral dot_S16x8192x8192_S8192x16x128_S16x8192x128_1_0_2_2_0_1 none (dScore A0 A1 A2 A3) (qLo A0)) transposes_S16x8192x128_S8192x16x128_1_0_2) (constant S_ .f32 0x00000000#32) pads_S8192x16x128_S8192x16x256_000_000_01280 h_S_)) shapeCasts_S8192x16x256_S8192x4096) bitsLt_bf16_f32

variable (m : (ℓ : Loc nD τ sig) → Buf (Elt Ideal) ℓ) (c : Dev nD)

theorem out1_eq : res_main_v72 m c = dPe (m ((c.tc : Thread nD τ).loc main_arg0)) (m ((c.tc : Thread nD τ).loc main_arg1)) (m ((c.tc : Thread nD τ).loc main_arg2)) (m ((c.tc : Thread nD τ).loc main_arg3)) := rfl
theorem out2_eq : res_main_v85 m c = dq (m ((c.tc : Thread nD τ).loc main_arg0)) (m ((c.tc : Thread nD τ).loc main_arg1)) (m ((c.tc : Thread nD τ).loc main_arg2)) (m ((c.tc : Thread nD τ).loc main_arg3)) := rfl
theorem out0_eq : res_main_v86 m c = dkv (m ((c.tc : Thread nD τ).loc main_arg0)) (m ((c.tc : Thread nD τ).loc main_arg1)) (m ((c.tc : Thread nD τ).loc main_arg2)) (m ((c.tc : Thread nD τ).loc main_arg3)) := rfl

variable {A0 A1 A2 A3}
variable {q kv : Fin 8192 → Fin 4096 → ℝ} {pe : Fin 8192 → Fin 128 → ℝ} {o : Fin 8192 → Fin 2048 → ℝ}
variable (hq : ∀ t j, A0 (ix2 t j) = (q t j : EReal)) (hkv : ∀ t j, A1 (ix2 t j) = (kv t j : EReal))
variable (hpe : ∀ t j, A2 (ix2 t j) = (pe t j : EReal)) (ho : ∀ t j, A3 (ix2 t j) = (o t j : EReal))

include hq in
theorem qLo_real (t : Fin 8192) (h : Fin 16) (d : Fin 128) : qLo A0 (ix3 t h d) = (q t (hc h (lo d)) : EReal) := by
  unfold qLo
  pointwise
  exact hq _ _
include hq in
theorem qHi_real (t : Fin 8192) (h : Fin 16) (d : Fin 128) : qHi A0 (ix3 t h d) = (q t (hc h (hi d)) : EReal) := by
  unfold qHi
  pointwise
  exact hq _ _
include hpe in
theorem peB_real (h : Fin 16) (k : Fin 8192) (d : Fin 128) : peB A2 (ix3 h k d) = (pe k d : EReal) := by
  unfold peB
  pointwise
  exact hpe _ _
include ho in
theorem doT_real (h : Fin 16) (d : Fin 128) (t : Fin 8192) : doT A3 (ix3 h d t) = (o t (oc h d) : EReal) := by
  unfold doT
  pointwise
  exact ho _ _
theorem mask_apply (h : Fin 16) (t k : Fin 8192) : mask (ix3 h t k) = if k ≤ t then 1#1 else 0#1 := by
  unfold mask
  pointwise
  exact sle_ofNat k.val t.val (by omega) (by omega)
include hq hkv hpe in
theorem scores_real (h : Fin 16) (t k : Fin 8192) : scores A0 A1 A2 (ix3 h t k) = (score q kv pe sc h t k : EReal) := by
  unfold scores
  pointwise
  simp only [qLo_real hq, qLo_real hkv, qHi_real hq, peB_real hpe, sc_eq, ← EReal.coe_mul, coe_sum, ← EReal.coe_add]
  rfl
include hq hkv hpe in
theorem masked_real (h : Fin 16) (t k : Fin 8192) :
    masked A0 A1 A2 (ix3 h t k) = if k ≤ t then (score q kv pe sc h t k : EReal) else ⊥ := by
  unfold masked
  pointwise
  rw [mask_apply, scores_real hq hkv hpe]
  by_cases hk : k ≤ t
  · rw [if_pos hk, if_pos hk]; rfl
  · rw [if_neg hk, if_neg hk]; exact bot_f32

include hq hkv hpe in
theorem rowRed_real (h : Fin 16) (t : Fin 8192) : IsReal (rowRed A0 A1 A2 (ix2 h t)) := by
  unfold rowRed
  refine reduce_max_real (masked A0 A1 A2) (constant S_ .f32 0xFF800000#32) reducesTo_S16x8192x8192_S16x8192_d2 h_S_ h t
    (fun _ => bot_f32) (fun k => ?_) t ?_
  · rw [masked_real hq hkv hpe]
    by_cases hk : k ≤ t
    · rw [if_pos hk]; exact Or.inr ⟨_, rfl⟩
    · rw [if_neg hk]; exact Or.inl rfl
  · rw [masked_real hq hkv hpe, if_pos le_rfl]; exact ⟨_, rfl⟩
/-- A maximum with −∞. -/
theorem max_bot_apply (x : FVec Ideal S16x8192 .f32) (i : S16x8192.Idx) :
    maximumf (broadcastInDim S16x8192 ![] bcast_S_S16x8192 (constant S_ .f32 0xFF800000#32)) x i = x i := by
  show max (Ideal.ofBits .f32 0xFF800000#32) (x i : EReal) = x i
  rw [bot_f32, max_bot_left]
include hq hkv hpe in
theorem rowMax_real (h : Fin 16) (t : Fin 8192) : IsReal (rowMax A0 A1 A2 (ix2 h t)) := by
  unfold rowMax
  rw [max_bot_apply]
  exact rowRed_real hq hkv hpe h t

/-- The row's maximum as a real number. -/
def mx (A0 A1 : FVec Ideal S8192x4096 .f32) (A2 : FVec Ideal S8192x128 .f32) (h : Fin 16) (t : Fin 8192) : ℝ :=
  EReal.toReal (rowMax A0 A1 A2 (ix2 h t))

include hq hkv hpe in
theorem exps_real (h : Fin 16) (t k : Fin 8192) :
    exps A0 A1 A2 (ix3 h t k) = (ex q kv pe sc (mx A0 A1 A2 h t) h t k : EReal) := by
  unfold exps
  pointwise
  rw [masked_real hq hkv hpe, ← (rowMax_real hq hkv hpe h t).coe_toReal]
  show Ideal.exp ((if k ≤ t then (score q kv pe sc h t k : EReal) else ⊥) - (mx A0 A1 A2 h t : EReal)) = _
  unfold ex
  by_cases hk : k ≤ t
  · rw [if_pos hk, if_pos hk, ← EReal.coe_sub, Ideal.exp_coe]
  · rw [if_neg hk, if_neg hk, EReal.bot_sub, EReal.coe_zero]
    rfl
include hq hkv hpe in
theorem sums_real (h : Fin 16) (t : Fin 8192) :
    sums A0 A1 A2 (ix3 h t 0) = (exSum q kv pe sc (mx A0 A1 A2 h t) h t : EReal) := by
  unfold sums
  pointwise
  simp only [exps_real hq hkv hpe, coe_sum, zero_add]
  rfl

/-- Division by a positive number. -/
theorem div_pos {x y : ℝ} (hy : 0 < y) : Ideal.div (x : EReal) (y : EReal) = ((x * (1 / y) : ℝ) : EReal) := by
  rw [Ideal.div_coe hy.ne', EReal.coe_mul]

theorem one_div_pos {y : ℝ} (hy : 0 < y) : Ideal.div 1 (y : EReal) = ((1 / y : ℝ) : EReal) := by
  rw [Ideal.div_coe hy.ne', one_mul]

include hq hkv hpe in
theorem probs_real (h : Fin 16) (t k : Fin 8192) : probs A0 A1 A2 (ix3 h t k) = (P q kv pe sc h t k : EReal) := by
  unfold probs
  pointwise
  rw [exps_real hq hkv hpe, sums_real hq hkv hpe]
  refine (div_pos (exSum_pos q kv pe sc _ h t)).trans ?_
  rw [mul_one_div, ex_div]
include hkv ho in
theorem dProb_real (h : Fin 16) (t k : Fin 8192) : dProb A1 A3 (ix3 h t k) = (dP kv o h t k : EReal) := by
  unfold dProb
  pointwise
  simp only [doT_real ho, qHi_real hkv, ← EReal.coe_mul, coe_sum]
  rfl
include hq hkv hpe ho in
theorem means_real (h : Fin 16) (t : Fin 8192) : means A0 A1 A2 A3 (ix2 h t)
    = ((∑ j, dP kv o h t j * (1 / (exSum q kv pe sc (mx A0 A1 A2 h t) h t * exSum q kv pe sc (mx A0 A1 A2 h t) h t))
        * ex q kv pe sc (mx A0 A1 A2 h t) h t j : ℝ) : EReal) := by
  unfold means
  pointwise
  have hL := exSum_pos q kv pe sc (mx A0 A1 A2 h t) h t
  rw [sums_real hq hkv hpe, ← EReal.coe_mul, one_div_pos (mul_pos hL hL), ← coe_sum]
  refine Finset.sum_congr rfl fun j _ => ?_
  rw [dProb_real hkv ho, exps_real hq hkv hpe, EReal.coe_mul, EReal.coe_mul]
include hq hkv hpe ho in
theorem dScore_real (h : Fin 16) (t k : Fin 8192) :
    dScore A0 A1 A2 A3 (ix3 h t k) = ((dS q kv pe o sc h t k * sc : ℝ) : EReal) := by
  unfold dScore
  pointwise
  rw [mask_apply]
  by_cases hk : k ≤ t
  · rw [if_pos hk, Fin.sum_univ_one, dProb_real hkv ho, sums_real hq hkv hpe, means_real hq hkv hpe ho, exps_real hq hkv hpe, sc_eq,
      div_pos (exSum_pos q kv pe sc _ h t), ← EReal.coe_neg, ← EReal.coe_add, ← EReal.coe_mul, ← EReal.coe_mul, dS_eq]
    rfl
  · rw [if_neg hk, dS_zero q kv pe o sc h hk, zero_mul, EReal.coe_zero]
    rfl
include hq hkv hpe ho in
theorem dPe_real (h : Fin 16) (k : Fin 8192) (d : Fin 128) :
    dPe A0 A1 A2 A3 (ix3 h k d) = (gK q kv pe o sc h k (hi d) : EReal) := by
  unfold dPe
  pointwise
  simp only [dScore_real hq hkv hpe ho, qHi_real hq, ← EReal.coe_mul, coe_sum]
  rfl
/-- The two halves of a head's columns, put side by side by padding with zeros and adding. -/
theorem halves_lo (h : Fin 16) (d : Fin 128) (x : h.val < 16 ∧ 128 ≤ (lo d).val ∧ (lo d).val - 128 < 128 → EReal) (y : EReal) :
    (if e : h.val < 16 ∧ 128 ≤ (lo d).val ∧ (lo d).val - 128 < 128 then x e else 0)
      + (if _ : h.val < 16 ∧ (lo d).val < 128 then y else 0) = y := by
  have n1 : ¬ (h.val < 16 ∧ 128 ≤ (lo d).val ∧ (lo d).val - 128 < 128) := by
    have : (lo d).val = d.val := rfl
    omega
  rw [dif_neg n1, dif_pos ⟨h.isLt, d.isLt⟩, zero_add]
theorem halves_hi (h : Fin 16) (d : Fin 128) (x : EReal) (y : h.val < 16 ∧ (hi d).val < 128 → EReal) :
    (if _ : h.val < 16 ∧ 128 ≤ (hi d).val ∧ (hi d).val - 128 < 128 then x else 0)
      + (if e : h.val < 16 ∧ (hi d).val < 128 then y e else 0) = x := by
  have e : (hi d).val = 128 + d.val := rfl
  have n1 : ¬ (h.val < 16 ∧ (hi d).val < 128) := by omega
  have n2 : h.val < 16 ∧ 128 ≤ (hi d).val ∧ (hi d).val - 128 < 128 := by omega
  rw [dif_pos n2, dif_neg n1, add_zero]

theorem hc_div (h : Fin 16) (j : Fin 256) : (hc h j).val / 256 = h.val := by show (h.val * 256 + j.val) / 256 = h.val; omega
theorem hc_mod (h : Fin 16) (j : Fin 256) : (hc h j).val % 256 = j.val := by show (h.val * 256 + j.val) % 256 = j.val; omega
theorem hi_sub (d : Fin 128) (p : (hi d).val - 128 < 128) : (⟨(hi d).val - 128, p⟩ : Fin 128) = d :=
  Fin.ext (by show 128 + d.val - 128 = d.val; omega)
theorem lo_self (d : Fin 128) (p : (lo d).val < 128) : (⟨(lo d).val, p⟩ : Fin 128) = d := rfl

include hq hkv hpe ho in
theorem dq_lo (t : Fin 8192) (h : Fin 16) (d : Fin 128) :
    dq A0 A1 A2 A3 (ix2 t (hc h (lo d))) = (gQ q kv pe o sc h t (lo d) : EReal) := by
  unfold dq
  pointwise
  simp only [hc_div, hc_mod, Fin.eta, lo_self]
  refine (halves_lo h d _ _).trans ?_
  unfold gQ
  rw [← coe_sum]
  exact Finset.sum_congr rfl fun k _ => by
    rw [dScore_real hq hkv hpe ho, qLo_real hkv, ← EReal.coe_mul, key_lo]
include hq hkv hpe ho in
theorem dq_hi (t : Fin 8192) (h : Fin 16) (d : Fin 128) :
    dq A0 A1 A2 A3 (ix2 t (hc h (hi d))) = (gQ q kv pe o sc h t (hi d) : EReal) := by
  unfold dq
  pointwise
  simp only [hc_div, hc_mod, Fin.eta, hi_sub]
  refine (halves_hi h d _ _).trans ?_
  unfold gQ
  rw [← coe_sum]
  exact Finset.sum_congr rfl fun k _ => by
    rw [dScore_real hq hkv hpe ho, peB_real hpe, ← EReal.coe_mul, key_hi]
include hq hkv hpe ho in
theorem dkv_lo (k : Fin 8192) (h : Fin 16) (d : Fin 128) :
    dkv A0 A1 A2 A3 (ix2 k (hc h (lo d))) = (gK q kv pe o sc h k (lo d) : EReal) := by
  unfold dkv
  pointwise
  simp only [hc_div, hc_mod, Fin.eta, lo_self]
  refine (halves_lo h d _ _).trans ?_
  unfold gK
  rw [← coe_sum]
  exact Finset.sum_congr rfl fun t _ => by
    rw [dScore_real hq hkv hpe ho, qLo_real hq, ← EReal.coe_mul]
include hq hkv hpe ho in
theorem dkv_hi (k : Fin 8192) (h : Fin 16) (d : Fin 128) :
    dkv A0 A1 A2 A3 (ix2 k (hc h (hi d))) = (gV q kv pe o sc h k d : EReal) := by
  unfold dkv
  pointwise
  simp only [hc_div, hc_mod, Fin.eta, hi_sub]
  refine (halves_hi h d _ _).trans ?_
  unfold gV
  rw [← coe_sum]
  exact Finset.sum_congr rfl fun t _ => by
    rw [doT_real ho, probs_real hq hkv hpe, ← EReal.coe_mul, mul_comm]

end Cert.Proof.AttnRef

end
-- ==== Proof.TilesI.lean ====
/-
  The tiles of one head's backward pass in real numbers: when the keys, values, queries, output gradients, log-sum-exps and
  deltas are real, so are the gradients, and each is the sum over all rows that the tiles' sums add up to.
-/
module

public import proofs.«01_k».proof.Proof.ModelI
public import proofs.«01_k».proof.Proof.Reals
public import Idealize.ShloMosaic.Lib.Pointwise
public import Idealize.ShloMosaic.Lib.Tactic
public import Idealize.ShloMosaic.PureOps.Ideal

@[expose] public section

noncomputable section

namespace Cert.Proof.AttnIdeal

open Cert.AttnIdeal Cert.AttnIdeal.Gen
open Idealize.ShloMosaic Cert.Proof.Reals

/-- Row `c` of tile `n`. -/
def row (n : ℕ) (c : Fin 512) : Fin 8192 := ⟨512 * (n % 16) + c.val, by omega⟩

/-- The sixteen tiles' rows are all rows. -/
theorem sum_rows (f : Fin 8192 → ℝ) : ∑ n ∈ Finset.range 16, ∑ c : Fin 512, f (row n c) = ∑ t, f t := by
  rw [Finset.sum_range, ← Fintype.sum_prod_type']
  refine Fintype.sum_equiv (finProdFinEquiv : Fin 16 × Fin 512 ≃ Fin (16 * 512)) _ (fun t : Fin 8192 => f t) fun x => congrArg f (Fin.ext ?_)
  show 512 * (x.1.val % 16) + x.2.val = x.2.val + 512 * x.1.val
  have := x.1.isLt
  omega

/-- The tiles from `b` on are enough where the earlier ones add nothing. -/
theorem sum_rows_from (f : Fin 8192 → ℝ) (b : ℕ) (hb : b < 16) (h0 : ∀ n < b, ∀ c, f (row n c) = 0) :
    ∑ i ∈ Finset.range (15 - b + 1), ∑ c : Fin 512, f (row (b + i) c) = ∑ t, f t := by
  rw [← sum_rows, show 16 = b + (15 - b + 1) by omega, Finset.sum_range_add _ b (15 - b + 1),
    Finset.sum_eq_zero (s := Finset.range b) fun n hn => Finset.sum_eq_zero fun c _ => h0 n (Finset.mem_range.mp hn) c, zero_add]

theorem t256_apply {e : EltTy} (x : Vec Ideal S8192x256 e) (n : ℕ) (c : Fin 512) (d : Fin 256) :
    t256 x n (ix2 c d) = x (ix2 (row n c) d) := by
  refine congrArg x (funext fun a => ?_)
  fin_cases a
  · exact Fin.ext (by show 512 * (n % 16) + 1 * c.val = 512 * (n % 16) + c.val; omega)
  · exact Fin.ext (by show 0 + 1 * d.val = d.val; omega)

theorem t128_apply {e : EltTy} (x : Vec Ideal S8192x128 e) (n : ℕ) (c : Fin 512) (d : Fin 128) :
    t128 x n (ix2 c d) = x (ix2 (row n c) d) := by
  refine congrArg x (funext fun a => ?_)
  fin_cases a
  · exact Fin.ext (by show 512 * (n % 16) + 1 * c.val = 512 * (n % 16) + c.val; omega)
  · exact Fin.ext (by show 0 + 1 * d.val = d.val; omega)

theorem tRow_apply {e : EltTy} (x : Vec Ideal S1x16x1x512 e) (n : ℕ) (c : Fin 512) :
    tRow x n (ix4 0 0 0 c) = x (ix4 0 ⟨n % 16, by omega⟩ 0 c) := by
  refine congrArg x (funext fun a => ?_)
  fin_cases a
  · exact Fin.ext rfl
  · exact Fin.ext (by show n % 16 + 1 * 0 = n % 16; omega)
  · exact Fin.ext rfl
  · exact Fin.ext (by show 0 + 1 * c.val = c.val; omega)

theorem put256_apply {e : EltTy} (x : Vec Ideal S8192x256 e) (n : ℕ) (w : Vec Ideal S512x256 e) (t : Fin 8192) (d : Fin 256) :
    put256 x n w (ix2 t d) = if t.val / 512 = n % 16 then w (ix2 ⟨t.val % 512, by omega⟩ d) else x (ix2 t d) := by
  unfold put256 VecWindow.put
  by_cases h : t.val / 512 = n % 16
  · have hin : ∀ a, tileOff n a ≤ ((ix2 t d : S8192x256.Idx) a).val ∧ ((ix2 t d : S8192x256.Idx) a).val < tileOff n a + S512x256.size a := by
      intro a
      fin_cases a
      · show 512 * (n % 16) ≤ t.val ∧ t.val < 512 * (n % 16) + 512; omega
      · show 0 ≤ d.val ∧ d.val < 0 + 256; omega
    rw [dif_pos hin, if_pos h]
    refine congrArg w (funext fun a => ?_)
    fin_cases a
    · exact Fin.ext (by show t.val - 512 * (n % 16) = t.val % 512; omega)
    · exact Fin.ext (by show d.val - 0 = d.val; omega)
  · rw [dif_neg, if_neg h]
    intro hin
    have h0 : 512 * (n % 16) ≤ t.val ∧ t.val < 512 * (n % 16) + 512 := hin 0
    omega

/-! The real numbers. -/

section real

variable (kk qq : Fin 8192 → Fin 256 → ℝ) (vv dd : Fin 8192 → Fin 128 → ℝ) (ll de : Fin 8192 → ℝ)

/-- The score of key `k` and query `t`, its probability, and the derivative by the score. -/
def scoreR (k t : Fin 8192) : ℝ := ∑ j, kk k j * qq t j
def probR (k t : Fin 8192) : ℝ := if k ≤ t then Real.rpow 2 (scoreR kk qq k t - ll t) else 0
def dsR (k t : Fin 8192) : ℝ := probR kk qq ll k t * (∑ j, vv k j * dd t j - de t)

theorem probR_zero {k t : Fin 8192} (h : t < k) : probR kk qq ll k t = 0 := if_neg (not_le.mpr h)
theorem dsR_zero {k t : Fin 8192} (h : t < k) : dsR kk qq vv dd ll de k t = 0 := by
  unfold dsR; rw [probR_zero kk qq ll h, zero_mul]

theorem row_lt {n b : ℕ} (h : n < b) (hb : b < 16) (c r : Fin 512) : row n c < row b r := by
  show 512 * (n % 16) + c.val < 512 * (b % 16) + r.val
  omega
theorem row_le_diag (n : ℕ) (c r : Fin 512) : row n r ≤ row n c ↔ r ≤ c := by
  show 512 * (n % 16) + r.val ≤ 512 * (n % 16) + c.val ↔ r.val ≤ c.val
  omega

/-- The vectors of a head at key tile `b` hold these real numbers. -/
structure Holds (b : ℕ) (K : FVec Ideal S512x256 .bf16) (V : FVec Ideal S512x128 .bf16) (q : Vec Ideal S8192x256 .bf16)
    (d : Vec Ideal S8192x128 .bf16) (l δ : Vec Ideal S1x16x1x512 .f32) : Prop where
  hK : ∀ r j, K (ix2 r j) = (kk (row b r) j : EReal)
  hV : ∀ r j, V (ix2 r j) = (vv (row b r) j : EReal)
  hq : ∀ t j, q (ix2 t j) = (qq t j : EReal)
  hd : ∀ t j, d (ix2 t j) = (dd t j : EReal)
  hl : ∀ (n : Fin 16) c, l (ix4 0 n 0 c) = (ll (row n c) : EReal)
  hδ : ∀ (n : Fin 16) c, δ (ix4 0 n 0 c) = (de (row n c) : EReal)

variable {kk qq vv dd ll de} {b : ℕ} {K : FVec Ideal S512x256 .bf16} {V : FVec Ideal S512x128 .bf16}
variable {q : Vec Ideal S8192x256 .bf16} {d : Vec Ideal S8192x128 .bf16} {l δ : Vec Ideal S1x16x1x512 .f32}
variable (H : Holds kk qq vv dd ll de b K V q d l δ)

include H

theorem tRow_l (n : ℕ) (c : Fin 512) : tRow l n (ix4 0 0 0 c) = (ll (row n c) : EReal) := by
  rw [tRow_apply, H.hl]
  exact congrArg (fun t => (ll t : EReal)) (Fin.ext (by show 512 * (n % 16 % 16) + c.val = 512 * (n % 16) + c.val; omega))
theorem tRow_δ (n : ℕ) (c : Fin 512) : tRow δ n (ix4 0 0 0 c) = (de (row n c) : EReal) := by
  rw [tRow_apply, H.hδ]
  exact congrArg (fun t => (de t : EReal)) (Fin.ext (by show 512 * (n % 16 % 16) + c.val = 512 * (n % 16) + c.val; omega))

theorem sT_real (n : ℕ) (r c : Fin 512) : sT K q n (ix2 r c) = (scoreR kk qq (row b r) (row n c) : EReal) := by
  unfold sT scoreR
  unfold_payloads
  pointwise
  rw [← coe_sum]
  exact Finset.sum_congr rfl fun j _ => by rw [t256_apply, H.hK, H.hq, EReal.coe_mul]

theorem pT_real (n : ℕ) (r c : Fin 512) : pT V d n (ix2 r c) = ((∑ j, vv (row b r) j * dd (row n c) j : ℝ) : EReal) := by
  unfold pT
  unfold_payloads
  pointwise
  rw [← coe_sum]
  exact Finset.sum_congr rfl fun j _ => by rw [t128_apply, H.hV, H.hd, EReal.coe_mul]

theorem prob_real (n : ℕ) (hb : b < n) (hn : n < 16) (r c : Fin 512) :
    prob K q l n (ix2 r c) = (probR kk qq ll (row b r) (row n c) : EReal) := by
  unfold prob
  unfold_payloads
  pointwise
  show Ideal.exp2 _ = _
  rw [sT_real H, tRow_l H, ← EReal.coe_sub, Ideal.exp2_coe, probR, if_pos (row_lt hb hn r c).le]

theorem probM_real (r c : Fin 512) :
    probM K q l b (ix2 r c) = (probR kk qq ll (row b r) (row b c) : EReal) := by
  unfold probM
  unfold_payloads
  pointwise
  show Ideal.exp2 _ = _
  rw [sT_real H, tRow_l H, probR]
  have hs : IntOp.cmpi .sle (BitVec.ofNat 32 r.val) (BitVec.ofNat 32 c.val) = if r ≤ c then 1#1 else 0#1 :=
    sle_ofNat r.val c.val (by omega) (by omega)
  have hm : (Named.named κ "mask" 0xF149F2CA#32 : Ideal .f32) = (⊥ : EReal) := rfl
  rw [hs, hm]
  by_cases h : r ≤ c
  · rw [if_pos h, if_pos ((row_le_diag b c r).mpr h)]
    show Ideal.exp2 ((scoreR kk qq (row b r) (row b c) : EReal) - _) = _
    rw [← EReal.coe_sub, Ideal.exp2_coe]
  · rw [if_neg h, if_neg (fun e => h ((row_le_diag b c r).mp e))]
    show Ideal.exp2 ((⊥ : EReal) - _) = _
    rw [EReal.bot_sub, Ideal.exp2_bot, EReal.coe_zero]

/-- What a query tile adds to the value gradient, the key gradient and its own query gradient. -/
theorem dvUp_real (n : ℕ) (hb : b < n) (hn : n < 16) (x : Vec Ideal S512x128 .f32) (r : Fin 512) (j : Fin 128) :
    dvUp K q d l n x (ix2 r j) = x (ix2 r j) + ((∑ c, probR kk qq ll (row b r) (row n c) * dd (row n c) j : ℝ) : EReal) := by
  unfold dvUp
  unfold_payloads
  pointwise
  rw [← coe_sum]
  exact congrArg _ (Finset.sum_congr rfl fun c _ => by rw [prob_real H n hb hn, t128_apply, H.hd, EReal.coe_mul])
theorem dvUpM_real (x : Vec Ideal S512x128 .f32) (r : Fin 512) (j : Fin 128) :
    dvUpM K q d l b x (ix2 r j) = x (ix2 r j) + ((∑ c, probR kk qq ll (row b r) (row b c) * dd (row b c) j : ℝ) : EReal) := by
  unfold dvUpM
  unfold_payloads
  pointwise
  rw [← coe_sum]
  exact congrArg _ (Finset.sum_congr rfl fun c _ => by rw [probM_real H, t128_apply, H.hd, EReal.coe_mul])
theorem dkUp_real (n : ℕ) (hb : b < n) (hn : n < 16) (x : Vec Ideal S512x256 .f32) (r : Fin 512) (j : Fin 256) :
    dkUp K V q d l δ n x (ix2 r j)
      = x (ix2 r j) + ((∑ c, dsR kk qq vv dd ll de (row b r) (row n c) * qq (row n c) j : ℝ) : EReal) := by
  unfold dkUp
  unfold_payloads
  pointwise
  rw [← coe_sum]
  exact congrArg _ (Finset.sum_congr rfl fun c _ => by
    rw [prob_real H n hb hn, pT_real H, tRow_δ H, t256_apply, H.hq, dsR, EReal.coe_mul, EReal.coe_mul, EReal.coe_sub])
theorem dkUpM_real (x : Vec Ideal S512x256 .f32) (r : Fin 512) (j : Fin 256) :
    dkUpM K V q d l δ b x (ix2 r j)
      = x (ix2 r j) + ((∑ c, dsR kk qq vv dd ll de (row b r) (row b c) * qq (row b c) j : ℝ) : EReal) := by
  unfold dkUpM
  unfold_payloads
  pointwise
  rw [← coe_sum]
  exact congrArg _ (Finset.sum_congr rfl fun c _ => by
    rw [probM_real H, pT_real H, tRow_δ H, t256_apply, H.hq, dsR, EReal.coe_mul, EReal.coe_mul, EReal.coe_sub])
theorem dqUp_real (n : ℕ) (hb : b < n) (hn : n < 16) (x : Vec Ideal S512x256 .f32) (c : Fin 512) (j : Fin 256) :
    dqUp K V q d l δ n x (ix2 c j)
      = x (ix2 c j) + ((∑ r, dsR kk qq vv dd ll de (row b r) (row n c) * kk (row b r) j : ℝ) : EReal) := by
  unfold dqUp
  unfold_payloads
  pointwise
  rw [← coe_sum]
  exact congrArg _ (Finset.sum_congr rfl fun r _ => by
    rw [prob_real H n hb hn, pT_real H, tRow_δ H, H.hK, dsR, EReal.coe_mul, EReal.coe_mul, EReal.coe_sub])
theorem dqUpM_real (x : Vec Ideal S512x256 .f32) (c : Fin 512) (j : Fin 256) :
    dqUpM K V q d l δ b x (ix2 c j)
      = x (ix2 c j) + ((∑ r, dsR kk qq vv dd ll de (row b r) (row b c) * kk (row b r) j : ℝ) : EReal) := by
  unfold dqUpM
  unfold_payloads
  pointwise
  rw [← coe_sum]
  exact congrArg _ (Finset.sum_congr rfl fun r _ => by
    rw [probM_real H, pT_real H, tRow_δ H, H.hK, dsR, EReal.coe_mul, EReal.coe_mul, EReal.coe_sub])

theorem DV_upto (r : Fin 512) (j : Fin 128) (t : ℕ) (ht : b + t < 16) : DV K q d l b t (ix2 r j)
    = ((∑ i ∈ Finset.range (t + 1), ∑ c, probR kk qq ll (row b r) (row (b + i) c) * dd (row (b + i) c) j : ℝ) : EReal) := by
  induction t with
  | zero =>
    rw [DV, dvUpM_real H, Finset.sum_range_one]
    have hz : (k0_pay84 : FVec Ideal S512x128 .f32) (ix2 r j) = (0 : EReal) := by unfold_payloads; pointwise
    rw [hz, zero_add]
    rfl
  | succ t ih =>
    rw [DV, dvUp_real H _ (by omega) (by omega), ih (by omega), Finset.sum_range_succ _ (t + 1), EReal.coe_add,
      show b + 1 + t = b + (t + 1) by omega]

theorem DK_upto (r : Fin 512) (j : Fin 256) (t : ℕ) (ht : b + t < 16) : DK K V q d l δ b t (ix2 r j)
    = ((∑ i ∈ Finset.range (t + 1), ∑ c, dsR kk qq vv dd ll de (row b r) (row (b + i) c) * qq (row (b + i) c) j : ℝ) : EReal) := by
  induction t with
  | zero =>
    rw [DK, dkUpM_real H, Finset.sum_range_one]
    have hz : (k0_pay83 : FVec Ideal S512x256 .f32) (ix2 r j) = (0 : EReal) := by unfold_payloads; pointwise
    rw [hz, zero_add]
    rfl
  | succ t ih =>
    rw [DK, dkUp_real H _ (by omega) (by omega), ih (by omega), Finset.sum_range_succ _ (t + 1), EReal.coe_add,
      show b + 1 + t = b + (t + 1) by omega]

/-- The value gradient of key tile `b`, over all queries. -/
theorem DV_real (hb : b < 16) (r : Fin 512) (j : Fin 128) :
    DV K q d l b (15 - b) (ix2 r j) = ((∑ t, probR kk qq ll (row b r) t * dd t j : ℝ) : EReal) := by
  rw [DV_upto H r j (15 - b) (by omega)]
  exact congrArg _ (sum_rows_from (fun t => probR kk qq ll (row b r) t * dd t j) b hb fun n hn c => by
    rw [probR_zero kk qq ll (row_lt hn hb c r), zero_mul])

/-- The key gradient of key tile `b`, over all queries. -/
theorem DK_real (hb : b < 16) (r : Fin 512) (j : Fin 256) :
    DK K V q d l δ b (15 - b) (ix2 r j) = ((∑ t, dsR kk qq vv dd ll de (row b r) t * qq t j : ℝ) : EReal) := by
  rw [DK_upto H r j (15 - b) (by omega)]
  exact congrArg _ (sum_rows_from (fun t => dsR kk qq vv dd ll de (row b r) t * qq t j) b hb fun n hn c => by
    rw [dsR_zero kk qq vv dd ll de (row_lt hn hb c r), zero_mul])

theorem row_self (n : ℕ) (t : Fin 8192) (h : t.val / 512 = n % 16) : row n ⟨t.val % 512, by omega⟩ = t :=
  Fin.ext (by show 512 * (n % 16) + t.val % 512 = t.val; omega)

theorem DQ_upto (o : Vec Ideal S8192x256 .f32) (t : Fin 8192) (j : Fin 256) (T : ℕ) (hT : b + T < 16) :
    DQ K V q d l δ b o T (ix2 t j) = if b ≤ t.val / 512 ∧ t.val / 512 ≤ b + T
      then o (ix2 t j) + ((∑ r, dsR kk qq vv dd ll de (row b r) t * kk (row b r) j : ℝ) : EReal) else o (ix2 t j) := by
  induction T with
  | zero =>
    rw [DQ, put256_apply]
    by_cases h : t.val / 512 = b % 16
    · rw [if_pos h, if_pos (by omega), dqUpM_real H, t256_apply, row_self H b t h]
    · rw [if_neg h, if_neg (by omega)]
  | succ T ih =>
    rw [DQ, put256_apply]
    by_cases h : t.val / 512 = (b + 1 + T) % 16
    · rw [if_pos h, if_pos (by omega), dqUp_real H _ (by omega) (by omega), t256_apply, row_self H _ t h, ih (by omega), if_neg (by omega)]
    · rw [if_neg h, ih (by omega)]
      exact if_congr (by omega) rfl rfl

/-- The query gradients after key tile `b`. -/
theorem DQ_real (hb : b < 16) (o : Vec Ideal S8192x256 .f32) (t : Fin 8192) (j : Fin 256) :
    DQ K V q d l δ b o (15 - b) (ix2 t j)
      = o (ix2 t j) + ((∑ r, dsR kk qq vv dd ll de (row b r) t * kk (row b r) j : ℝ) : EReal) := by
  rw [DQ_upto H o t j (15 - b) (by omega)]
  by_cases h : b ≤ t.val / 512
  · rw [if_pos (by omega)]
  · rw [if_neg (by omega), Finset.sum_eq_zero, EReal.coe_zero, add_zero]
    intro r _
    rw [dsR_zero, zero_mul]
    show t.val < 512 * (b % 16) + r.val
    omega

end real

end Cert.Proof.AttnIdeal

end
-- ==== Proof.AttnHost.lean ====
/-
  What the attention backward kernel is given, at real arguments: the scaled queries, and the log-sum-exp and the delta of
  every row, as the lines before the kernel form them.
-/
module

public import proofs.«01_k».proof.Proof.Gen.AttnIdeal.Frame
public import proofs.«01_k».proof.Proof.AttnRef
public import proofs.«01_k».proof.Proof.TilesI
public import Idealize.ShloMosaic.Lib.Pointwise
public import Idealize.ShloMosaic.Lib.Tactic

@[expose] public section

set_option maxRecDepth 16384

noncomputable section

namespace Cert.Proof.AttnHost

open Cert.AttnIdeal Cert.AttnIdeal.Gen
open Idealize.ShloMosaic Idealize.ShloMosaic.TcCoe Idealize.ShloMosaic.Tactic
open Cert.Proof.Reals Cert.Proof.AttnReal
open Cert.Proof.AttnRef (sc sc_eq)
open Cert.Proof.AttnIdeal (row)

variable (A0 A1 : FVec Ideal S8192x4096 .f32) (A2 : FVec Ideal S8192x128 .f32) (A3 : FVec Ideal S8192x2048 .f32)

/-! The stages, as the program writes them. -/

def qLo : FVec Ideal S8192x16x128 .f32 := extractStridedSlice S8192x16x128 ![0, 0, 0] (shapeCast _ A0 shapeCasts_S8192x4096_S8192x16x256) slices_S8192x16x256_S8192x16x128_0_0_0
def qHi : FVec Ideal S8192x16x128 .f32 := extractStridedSlice S8192x16x128 ![0, 0, 128] (shapeCast _ A0 shapeCasts_S8192x4096_S8192x16x256) slices_S8192x16x256_S8192x16x128_0_0_128
def peScores : FVec Ideal S16x8192x8192 .f32 := transpose S16x8192x8192 [2, 1, 0] (Host.dotGeneral dot_S8192x128_S8192x16x128_S8192x8192x16_1_2_0_01_n_n none A2 (qHi A0)) transposes_S8192x8192x16_S16x8192x8192_2_1_0
def scores : FVec Ideal S16x8192x8192 .f32 := mulf (addf (Host.dotGeneral dot_S8192x16x128_S8192x16x128_S16x8192x8192_2_2_0_0_1_1 none (qLo A0) (qLo A1)) (peScores A0 A2)) (broadcastInDim S16x8192x8192 ![] bcast_S_S16x8192x8192 (constant S_ .f32 0x3D93CD3A#32))
def mask : IVec S16x8192x8192 1 := broadcastInDim S16x8192x8192 ![1, 2] bcast_S8192x8192_S16x8192x8192_1_2 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))
def masked : FVec Ideal S16x8192x8192 .f32 := select mask (scores A0 A1 A2) (broadcastInDim S16x8192x8192 ![] bcast_S_S16x8192x8192 (id (constant S_ .f32 0xFF800000#32)))
def rowRed : FVec Ideal S16x8192 .f32 := Host.reduce FloatOps.maximumf (masked A0 A1 A2) (constant S_ .f32 0xFF800000#32) reducesTo_S16x8192x8192_S16x8192_d2 h_S_
def exps : FVec Ideal S16x8192x8192 .f32 := Host.exp (subf (masked A0 A1 A2) (broadcastInDim S16x8192x8192 ![0, 1, 2] bcast_S16x8192x1_S16x8192x8192_0_1_2 (broadcastInDim S16x8192x1 ![0, 1] bcast_S16x8192_S16x8192x1_0_1 (rowRed A0 A1 A2))))
def sums : FVec Ideal S16x8192 .f32 := Host.reduceAdd (exps A0 A1 A2) (constant S_ .f32 0x00000000#32) reducesTo_S16x8192x8192_S16x8192_d2 h_S_
def ln2 : FVec Ideal S_ .f32 := Host.log (constant S_ .f32 0x40000000#32)
def lse : FVec Ideal S16x8192 .f32 := Host.divf (addf (rowRed A0 A1 A2) (Host.log (sums A0 A1 A2))) (broadcastInDim S16x8192 ![] bcast_S_S16x8192 ln2)
def lseRows : FVec Ideal S16x16x1x512 .f32 := shapeCast _ (lse A0 A1 A2) shapeCasts_S16x8192_S16x16x1x512
def probs : FVec Ideal S16x8192x8192 .f32 := Host.divf (exps A0 A1 A2) (broadcastInDim S16x8192x8192 ![0, 1, 2] bcast_S16x8192x1_S16x8192x8192_0_1_2 (broadcastInDim S16x8192x1 ![0, 1] bcast_S16x8192_S16x8192x1_0_1 (sums A0 A1 A2)))
def outs : FVec Ideal S8192x16x128 .f32 := transpose S8192x16x128 [2, 0, 1] (Host.dotGeneral dot_S8192x16x128_S16x8192x8192_S16x128x8192_0_2_2_1_1_0 none (qHi A1) (probs A0 A1 A2)) transposes_S16x128x8192_S8192x16x128_2_0_1
def deltas : FVec Ideal S16x8192 .f32 := transpose S16x8192 [1, 0] (Host.reduceAdd (mulf (outs A0 A1 A2) (shapeCast _ A3 shapeCasts_S8192x2048_S8192x16x128)) (constant S_ .f32 0x00000000#32) reducesTo_S8192x16x128_S8192x16_d2 h_S_) transposes_S8192x16_S16x8192_1_0
def deltaRows : FVec Ideal S16x16x1x512 .f32 := shapeCast _ (deltas A0 A1 A2 A3) shapeCasts_S16x8192_S16x16x1x512
def qs : FVec Ideal S8192x4096 .bf16 := truncf .bf16 (Host.divf (mulf A0 (broadcastInDim S8192x4096 ![] bcast_S_S8192x4096 (constant S_ .f32 0x3D93CD3A#32))) (broadcastInDim S8192x4096 ![] bcast_S_S8192x4096 ln2)) bitsLt_bf16_f32

variable {A0 A1 A2 A3}
variable {q kv : Fin 8192 → Fin 4096 → ℝ} {pe : Fin 8192 → Fin 128 → ℝ} {o : Fin 8192 → Fin 2048 → ℝ}
variable (hq : ∀ t j, A0 (ix2 t j) = (q t j : EReal)) (hkv : ∀ t j, A1 (ix2 t j) = (kv t j : EReal))
variable (hpe : ∀ t j, A2 (ix2 t j) = (pe t j : EReal)) (ho : ∀ t j, A3 (ix2 t j) = (o t j : EReal))

include hq in
theorem qLo_real (t : Fin 8192) (h : Fin 16) (d : Fin 128) : qLo A0 (ix3 t h d) = (q t (hc h (lo d)) : EReal) := by
  unfold qLo
  pointwise
  exact hq _ _
include hq in
theorem qHi_real (t : Fin 8192) (h : Fin 16) (d : Fin 128) : qHi A0 (ix3 t h d) = (q t (hc h (hi d)) : EReal) := by
  unfold qHi
  pointwise
  exact hq _ _
include hq hpe in
theorem peScores_real (h : Fin 16) (t k : Fin 8192) :
    peScores A0 A2 (ix3 h t k) = ((∑ d : Fin 128, q t (hc h (hi d)) * pe k d : ℝ) : EReal) := by
  unfold peScores
  pointwise
  rw [← coe_sum]
  exact Finset.sum_congr rfl fun d _ => by rw [hpe, qHi_real hq, ← EReal.coe_mul, mul_comm]
include hq hkv hpe in
theorem scores_real (h : Fin 16) (t k : Fin 8192) : scores A0 A1 A2 (ix3 h t k) = (score q kv pe sc h t k : EReal) := by
  unfold scores
  pointwise
  simp only [qLo_real hq, qLo_real hkv, peScores_real hq hpe, sc_eq, ← EReal.coe_mul, coe_sum, ← EReal.coe_add]
  rfl
theorem mask_apply (h : Fin 16) (t k : Fin 8192) : mask (ix3 h t k) = if k ≤ t then 1#1 else 0#1 := by
  unfold mask
  pointwise
  exact sle_ofNat k.val t.val (by omega) (by omega)
include hq hkv hpe in
theorem masked_real (h : Fin 16) (t k : Fin 8192) :
    masked A0 A1 A2 (ix3 h t k) = if k ≤ t then (score q kv pe sc h t k : EReal) else ⊥ := by
  unfold masked
  pointwise
  rw [mask_apply, scores_real hq hkv hpe]
  by_cases hk : k ≤ t
  · rw [if_pos hk, if_pos hk]; rfl
  · rw [if_neg hk, if_neg hk]; exact bot_f32
include hq hkv hpe in
theorem rowRed_real (h : Fin 16) (t : Fin 8192) : IsReal (rowRed A0 A1 A2 (ix2 h t)) := by
  unfold rowRed
  refine reduce_max_real (masked A0 A1 A2) (constant S_ .f32 0xFF800000#32) reducesTo_S16x8192x8192_S16x8192_d2 h_S_ h t
    (fun _ => bot_f32) (fun k => ?_) t ?_
  · rw [masked_real hq hkv hpe]
    by_cases hk : k ≤ t
    · rw [if_pos hk]; exact Or.inr ⟨_, rfl⟩
    · rw [if_neg hk]; exact Or.inl rfl
  · rw [masked_real hq hkv hpe, if_pos le_rfl]; exact ⟨_, rfl⟩

/-- The row's maximum as a real number. -/
def mx (A0 A1 : FVec Ideal S8192x4096 .f32) (A2 : FVec Ideal S8192x128 .f32) (h : Fin 16) (t : Fin 8192) : ℝ :=
  EReal.toReal (rowRed A0 A1 A2 (ix2 h t))

include hq hkv hpe in
theorem exps_real (h : Fin 16) (t k : Fin 8192) :
    exps A0 A1 A2 (ix3 h t k) = (ex q kv pe sc (mx A0 A1 A2 h t) h t k : EReal) := by
  unfold exps
  pointwise
  rw [masked_real hq hkv hpe, ← (rowRed_real hq hkv hpe h t).coe_toReal]
  show Ideal.exp ((if k ≤ t then (score q kv pe sc h t k : EReal) else ⊥) - (mx A0 A1 A2 h t : EReal)) = _
  unfold ex
  by_cases hk : k ≤ t
  · rw [if_pos hk, if_pos hk, ← EReal.coe_sub, Ideal.exp_coe]
  · rw [if_neg hk, if_neg hk, EReal.bot_sub, EReal.coe_zero]
    rfl
include hq hkv hpe in
theorem sums_real (h : Fin 16) (t : Fin 8192) :
    sums A0 A1 A2 (ix2 h t) = (exSum q kv pe sc (mx A0 A1 A2 h t) h t : EReal) := by
  unfold sums
  pointwise
  simp only [exps_real hq hkv hpe, coe_sum, zero_add]
  rfl
include hq hkv hpe in
theorem probs_real (h : Fin 16) (t k : Fin 8192) : probs A0 A1 A2 (ix3 h t k) = (P q kv pe sc h t k : EReal) := by
  unfold probs
  pointwise
  rw [exps_real hq hkv hpe, sums_real hq hkv hpe]
  refine (AttnRef.div_pos (exSum_pos q kv pe sc _ h t)).trans ?_
  rw [mul_one_div, ex_div]
include hq hkv hpe in
theorem outs_real (t : Fin 8192) (h : Fin 16) (d : Fin 128) :
    outs A0 A1 A2 (ix3 t h d) = ((∑ k, kv k (hc h (hi d)) * P q kv pe sc h t k : ℝ) : EReal) := by
  unfold outs
  pointwise
  rw [← coe_sum]
  exact Finset.sum_congr rfl fun k _ => by rw [qHi_real hkv, probs_real hq hkv hpe, ← EReal.coe_mul]
include hq hkv hpe ho in
theorem deltas_real (h : Fin 16) (t : Fin 8192) : deltas A0 A1 A2 A3 (ix2 h t) = (delta q kv pe o sc h t : EReal) := by
  unfold deltas
  pointwise
  rw [← delta_eq, ← coe_sum]
  exact Finset.sum_congr rfl fun d _ => by
    rw [outs_real hq hkv hpe, EReal.coe_mul]
    exact congrArg _ (ho _ _)

/-- The logarithm of two, as the program takes it. -/
theorem ln2_apply (i : S_.Idx) : ln2 i = ((Real.log 2 : ℝ) : EReal) := by
  show Ideal.log (Ideal.ofBits .f32 0x40000000#32) = _
  rw [two_f32, Ideal.log_coe, if_neg (by norm_num)]

theorem log2_pos : 0 < Real.log 2 := Real.log_pos (by norm_num)

/-- A sum and its quotient at an entry. -/
theorem lse_apply (x y : FVec Ideal S16x8192 .f32) (i : S16x8192.Idx) :
    Host.divf (addf x (Host.log y)) (broadcastInDim S16x8192 ![] bcast_S_S16x8192 ln2) i
      = Ideal.div (x i + Ideal.log (y i)) ((Real.log 2 : ℝ) : EReal) :=
  congrArg (Ideal.div (x i + Ideal.log (y i))) (ln2_apply _)

include hq hkv hpe in
theorem lse_real (h : Fin 16) (t : Fin 8192) : lse A0 A1 A2 (ix2 h t)
    = (((mx A0 A1 A2 h t + Real.log (exSum q kv pe sc (mx A0 A1 A2 h t) h t)) * (1 / Real.log 2) : ℝ) : EReal) := by
  unfold lse
  have hs := exSum_pos q kv pe sc (mx A0 A1 A2 h t) h t
  have e : Ideal.log (sums A0 A1 A2 (ix2 h t)) = (Real.log (exSum q kv pe sc (mx A0 A1 A2 h t) h t) : EReal) := by
    rw [sums_real hq hkv hpe, Ideal.log_coe, if_neg (not_le.mpr hs)]
  rw [lse_apply, e, ← (rowRed_real hq hkv hpe h t).coe_toReal]
  refine (congrArg (Ideal.div · _) (EReal.coe_add (mx A0 A1 A2 h t) _).symm).trans ?_
  rw [AttnRef.div_pos log2_pos]

include hq in
theorem qs_real (t : Fin 8192) (j : Fin 4096) : qs A0 (ix2 t j) = ((q t j * sc * (1 / Real.log 2) : ℝ) : EReal) := by
  show Ideal.div (A0 (ix2 t j) * Ideal.ofBits .f32 0x3D93CD3A#32) (ln2 _) = _
  rw [ln2_apply, sc_eq, hq, ← EReal.coe_mul, AttnRef.div_pos log2_pos]

/-- Rows in tiles of 512. -/
theorem rows_apply (x : FVec Ideal S16x8192 .f32) (h n : Fin 16) (c : Fin 512) :
    shapeCast S16x16x1x512 x shapeCasts_S16x8192_S16x16x1x512 (ix4 h n 0 c) = x (ix2 h (row n c)) := by
  pointwise
  refine congrArg x (congrArg (ix2 h) (Fin.ext ?_))
  show _ = 512 * (n.val % 16) + c.val
  dsimp
  omega

end Cert.Proof.AttnHost

end
-- ==== Proof.AttnEntry.lean ====
/-
  The arrays the attention backward kernel's windows read, as the lines before the kernel leave them.
-/
module

public import proofs.«01_k».proof.Proof.Gen.AttnIdeal.Frame
public import proofs.«01_k».proof.Proof.AttnHost
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

namespace Cert.Proof.AttnHost

open Cert.AttnIdeal Cert.AttnIdeal.Gen
open Idealize.ShloMosaic Idealize.ShloMosaic.TcCoe Idealize.ShloMosaic.Tactic

variable (m : (ℓ : Loc nD τ sig) → Buf (Elt Ideal) ℓ) (c : Dev nD)

/-- The arrays the kernel's windows read. -/
theorem entry_q : V m c main_v48 = qs (m ((c.tc : Thread nD τ).loc main_arg0)) := by
  unfold V V0
  simp only [hostOps0, hostOps0_1, hostOps0_2, List.flatten_cons, List.flatten_nil, List.cons_append,
    List.nil_append, List.append_nil, StableHlo.TRef.unary, StableHlo.TRef.ternary,
    StableHlo.TRef.toBuf, StableHlo.TRef.ofBuf, cast_eq]
  after_results_simp
  rfl
theorem entry_kv (i : S8192x4096.Idx) : (V m c main_v49 : S8192x4096.Idx → EReal) i
    = (m ((c.tc : Thread nD τ).loc main_arg1) : S8192x4096.Idx → EReal) i := by
  unfold V V0
  simp only [hostOps0, hostOps0_1, hostOps0_2, List.flatten_cons, List.flatten_nil, List.cons_append,
    List.nil_append, List.append_nil, StableHlo.TRef.unary, StableHlo.TRef.ternary,
    StableHlo.TRef.toBuf, StableHlo.TRef.ofBuf, cast_eq]
  after_results_simp
  rfl
theorem entry_pe (i : S8192x128.Idx) : (V m c main_v50 : S8192x128.Idx → EReal) i
    = (m ((c.tc : Thread nD τ).loc main_arg2) : S8192x128.Idx → EReal) i := by
  unfold V V0
  simp only [hostOps0, hostOps0_1, hostOps0_2, List.flatten_cons, List.flatten_nil, List.cons_append,
    List.nil_append, List.append_nil, StableHlo.TRef.unary, StableHlo.TRef.ternary,
    StableHlo.TRef.toBuf, StableHlo.TRef.ofBuf, cast_eq]
  after_results_simp
  rfl
theorem entry_do (i : S8192x2048.Idx) : (V m c main_v51 : S8192x2048.Idx → EReal) i
    = (m ((c.tc : Thread nD τ).loc main_arg3) : S8192x2048.Idx → EReal) i := by
  unfold V V0
  simp only [hostOps0, hostOps0_1, hostOps0_2, List.flatten_cons, List.flatten_nil, List.cons_append,
    List.nil_append, List.append_nil, StableHlo.TRef.unary, StableHlo.TRef.ternary,
    StableHlo.TRef.toBuf, StableHlo.TRef.ofBuf, cast_eq]
  after_results_simp
  rfl
theorem entry_lse : V m c main_v42 = lseRows (m ((c.tc : Thread nD τ).loc main_arg0)) (m ((c.tc : Thread nD τ).loc main_arg1))
    (m ((c.tc : Thread nD τ).loc main_arg2)) := by
  unfold V V0
  simp only [hostOps0, hostOps0_1, hostOps0_2, List.flatten_cons, List.flatten_nil, List.cons_append,
    List.nil_append, List.append_nil, StableHlo.TRef.unary, StableHlo.TRef.ternary,
    StableHlo.TRef.toBuf, StableHlo.TRef.ofBuf, cast_eq]
  after_results_simp
  rfl
theorem entry_delta : V m c main_v43 = deltaRows (m ((c.tc : Thread nD τ).loc main_arg0)) (m ((c.tc : Thread nD τ).loc main_arg1))
    (m ((c.tc : Thread nD τ).loc main_arg2)) (m ((c.tc : Thread nD τ).loc main_arg3)) := by
  unfold V V0
  simp only [hostOps0, hostOps0_1, hostOps0_2, List.flatten_cons, List.flatten_nil, List.cons_append,
    List.nil_append, List.append_nil, StableHlo.TRef.unary, StableHlo.TRef.ternary,
    StableHlo.TRef.toBuf, StableHlo.TRef.ofBuf, cast_eq]
  after_results_simp
  rfl

end Cert.Proof.AttnHost

end
-- ==== Proof.AttnTiles.lean ====
/-
  What the attention backward kernel's points make, at real arguments: each point's key and value gradients are its rows of
  the gradients, and the query gradients after a head's last point are the head's.
-/
module

public import proofs.«01_k».proof.Proof.RunI
public import proofs.«01_k».proof.Proof.AttnEntry
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

namespace Cert.Proof.AttnIdeal

open Cert.AttnIdeal Cert.AttnIdeal.Gen
open Idealize.ShloMosaic Idealize.ShloMosaic.TcCoe Idealize.ShloMosaic.Tactic
open Cert.Proof.Reals Cert.Proof.AttnReal
open Cert.Proof.AttnRef (sc sc_eq)
open Cert.Proof.AttnHost (log2_pos mx)

/-- The keys and values of a tile, entry by entry. -/
theorem keys_apply (kv : Vec Ideal S512x256 .bf16) (kpe : Vec Ideal S512x128 .bf16) (r : Fin 512) (j : Fin 256) :
    keys kv kpe (ix2 r j) = if hj : j.val < 128 then kv (ix2 r j) else kpe (ix2 r ⟨j.val - 128, by omega⟩) := by
  unfold keys
  unfold_payloads
  pointwise
  by_cases hj : j.val < 128
  · rw [dif_pos hj, dif_pos hj]
    refine congrArg kv (funext fun a => ?_)
    fin_cases a
    · exact Fin.ext (by show 0 + 1 * r.val = r.val; omega)
    · exact Fin.ext (by show 0 + 1 * j.val = j.val; omega)
  · rw [dif_neg hj, dif_neg hj]
theorem vals_apply (kv : Vec Ideal S512x256 .bf16) (r : Fin 512) (d : Fin 128) : vals kv (ix2 r d) = kv (ix2 r (hi d)) := by
  unfold vals
  unfold_payloads
  pointwise
  refine congrArg kv (funext fun a => ?_)
  fin_cases a
  · exact Fin.ext (by show 0 + 1 * r.val = r.val; omega)
  · exact Fin.ext (by show 128 + 1 * d.val = 128 + d.val; omega)

/-- The gradient tiles, entry by entry. -/
theorem dkOut_apply (x : Vec Ideal S512x256 .f32) (r : Fin 512) (d : Fin 128) :
    k0_pay17 x (ix2 r d) = x (ix2 r (lo d)) * ((Real.log 2 : ℝ) : EReal) := by
  unfold k0_pay17 k0_pay16
  pointwise
  rfl
theorem peOut_apply (x : Vec Ideal S512x256 .f32) (r : Fin 512) (d : Fin 128) :
    k0_pay19 x (ix3 0 r d) = x (ix2 r (hi d)) * ((Real.log 2 : ℝ) : EReal) := by
  unfold k0_pay19 k0_pay16
  pointwise
  rfl
theorem outKV_lo (x : Vec Ideal S512x256 .bf16) (dk : Vec Ideal S512x256 .f32) (dv : Vec Ideal S512x128 .f32) (r : Fin 512) (d : Fin 128) :
    outKV x dk dv (ix2 r (lo d)) = dk (ix2 r (lo d)) * ((Real.log 2 : ℝ) : EReal) := by
  rw [← dkOut_apply]
  unfold outKV VecWindow.put
  rw [dif_neg, dif_pos]
  · refine congrArg (k0_pay17 dk) (funext fun a => ?_)
    fin_cases a
    · exact Fin.ext (by show r.val - 0 = r.val; omega)
    · exact Fin.ext (by show d.val - 0 = d.val; omega)
  · intro a
    fin_cases a
    · exact ⟨Nat.zero_le _, by show r.val < 0 + 512; omega⟩
    · exact ⟨Nat.zero_le _, by show d.val < 0 + 128; omega⟩
  · intro hin
    have h1 : 128 ≤ d.val := (hin 1).1
    omega
theorem outKV_hi (x : Vec Ideal S512x256 .bf16) (dk : Vec Ideal S512x256 .f32) (dv : Vec Ideal S512x128 .f32) (r : Fin 512) (d : Fin 128) :
    outKV x dk dv (ix2 r (hi d)) = dv (ix2 r d) := by
  unfold outKV VecWindow.put
  rw [dif_pos]
  · refine (congrArg (k0_pay18 dv) (funext fun a => ?_)).trans (rfl : k0_pay18 dv (ix2 r d) = dv (ix2 r d))
    fin_cases a
    · exact Fin.ext (by show r.val - 0 = r.val; omega)
    · exact Fin.ext (by show 128 + d.val - 128 = d.val; omega)
  · intro a
    fin_cases a
    · exact ⟨Nat.zero_le _, by show r.val < 0 + 512; omega⟩
    · exact ⟨by show 128 ≤ 128 + d.val; omega, by show 128 + d.val < 128 + 128; omega⟩

/-! The tiles' real numbers are the gradients'. -/

section real

variable (q kv : Fin 8192 → Fin 4096 → ℝ) (pe : Fin 8192 → Fin 128 → ℝ) (o : Fin 8192 → Fin 2048 → ℝ) (M : Fin 8192 → ℝ) (h : Fin 16)

/-- What the kernel's windows hold of head `h`: the scaled queries, the values, the output gradients, and the rows'
    log-sum-exps, taken from the numbers `M`. -/
def qR (t : Fin 8192) (j : Fin 256) : ℝ := q t (hc h j) * sc * (1 / Real.log 2)
def vR (k : Fin 8192) (d : Fin 128) : ℝ := kv k (hc h (hi d))
def oR (t : Fin 8192) (d : Fin 128) : ℝ := o t (oc h d)
def lR (t : Fin 8192) : ℝ := (M t + Real.log (exSum q kv pe sc (M t) h t)) * (1 / Real.log 2)

theorem probR_eq (k t : Fin 8192) : probR (key kv pe h) (qR q h) (lR q kv pe M h) k t = P q kv pe sc h t k := by
  unfold probR scoreR qR
  rw [score_key]
  by_cases hk : k ≤ t
  · rw [if_pos hk]; exact exp2_eq q kv pe sc (M t) h t k hk
  · rw [if_neg hk, P_zero q kv pe sc h hk]
theorem dsR_eq (k t : Fin 8192) : dsR (key kv pe h) (qR q h) (vR kv h) (oR o h) (lR q kv pe M h) (delta q kv pe o sc h) k t
    = dS q kv pe o sc h t k := by
  unfold dsR dS
  rw [probR_eq]
  exact congrArg (fun x => P q kv pe sc h t k * (x - delta q kv pe o sc h t)) (Finset.sum_congr rfl fun d _ => mul_comm _ _)

/-- The logarithm of two that the key gradient is multiplied by takes back the queries' scaling. -/
theorem gK_scaled (k : Fin 8192) (j : Fin 256) :
    (∑ t, dS q kv pe o sc h t k * qR q h t j) * Real.log 2 = AttnReal.gK q kv pe o sc h k j := by
  unfold AttnReal.gK qR
  rw [Finset.sum_mul]
  have := log2_pos.ne'
  exact Finset.sum_congr rfl fun t _ => by field_simp

/-- One tile's part of a query's gradient. -/
def partQ (n : ℕ) (t : Fin 8192) (j : Fin 256) : ℝ := ∑ r, dS q kv pe o sc h t (row n r) * key kv pe h (row n r) j

theorem gQ_scaled (t : Fin 8192) (j : Fin 256) :
    (∑ n ∈ Finset.range 16, partQ q kv pe o h n t j) * sc = AttnReal.gQ q kv pe o sc h t j := by
  unfold AttnReal.gQ partQ
  rw [sum_rows fun k => dS q kv pe o sc h t k * key kv pe h k j, Finset.sum_mul]
  exact Finset.sum_congr rfl fun k _ => by ring

end real

variable (m : (ℓ : Loc nD τ sig) → Buf (Elt Ideal) ℓ) (c : Dev nD)

/-- The program's arguments. -/
abbrev a0 : FVec Ideal S8192x4096 .f32 := m ((c.tc : Thread nD τ).loc main_arg0)
abbrev a1 : FVec Ideal S8192x4096 .f32 := m ((c.tc : Thread nD τ).loc main_arg1)
abbrev a2 : FVec Ideal S8192x128 .f32 := m ((c.tc : Thread nD τ).loc main_arg2)
abbrev a3 : FVec Ideal S8192x2048 .f32 := m ((c.tc : Thread nD τ).loc main_arg3)

/-- The block indices of the windows at a point. -/
theorem idx : ∀ t : Fin cfg0.N, win0_0.index t = ![t.val % 16, t.val / 16] ∧ win0_1.index t = ![t.val % 16, 0]
    ∧ win0_2.index t = ![0, t.val / 16] ∧ win0_3.index t = ![0, t.val / 16]
    ∧ win0_4.index t = ![t.val / 16, 0, 0, 0] ∧ win0_5.index t = ![t.val / 16, 0, 0, 0]
    ∧ win0_6.index t = ![t.val % 16, t.val / 16] ∧ win0_7.index t = ![t.val / 16, t.val % 16, 0]
    ∧ win0_8.index t = ![0, t.val / 16] :=
  (by decide +kernel : ∀ t : Fin grid0.N, _)

theorem N_eq : cfg0.N = 256 := (by decide +kernel : grid0.N = 256)

/-- The head of a point. -/
def hd (t : Fin cfg0.N) : Fin 16 := ⟨t.val / 16, by
  have h : t.val < 256 := lt_of_lt_of_eq t.isLt N_eq
  omega⟩

theorem bKV_apply (t : Fin cfg0.N) (r : Fin 512) (j : Fin 256) :
    bKV m c t (ix2 r j) = (V m c main_v49 : S8192x4096.Idx → EReal) (ix2 (row (t.val % 16) r) (hc (hd t) j)) := by
  blk_ext [iblk, idx]
  · show t.val % 16 * 512 + r.val = 512 * (t.val % 16 % 16) + r.val
    omega
  · rfl
theorem bPe_apply (t : Fin cfg0.N) (r : Fin 512) (j : Fin 128) :
    bPe m c t (ix2 r j) = (V m c main_v50 : S8192x128.Idx → EReal) (ix2 (row (t.val % 16) r) j) := by
  blk_ext [iblk, idx]
  show t.val % 16 * 512 + r.val = 512 * (t.val % 16 % 16) + r.val
  omega
theorem bQ_apply (t : Fin cfg0.N) (s : Fin 8192) (j : Fin 256) :
    bQ m c t (ix2 s j) = (V m c main_v48 : S8192x4096.Idx → EReal) (ix2 s (hc (hd t) j)) := by
  blk_ext [iblk, idx]
  rfl
theorem bDO_apply (t : Fin cfg0.N) (s : Fin 8192) (j : Fin 128) :
    bDO m c t (ix2 s j) = (V m c main_v51 : S8192x2048.Idx → EReal) (ix2 s (oc (hd t) j)) := by
  blk_ext [iblk, idx]
  rfl
theorem bL_apply (t : Fin cfg0.N) (n : Fin 16) (r : Fin 512) :
    bL m c t (ix4 0 n 0 r) = (V m c main_v42 : S16x16x1x512.Idx → EReal) (ix4 (hd t) n 0 r) := by
  blk_ext [iblk, idx]
  rfl
theorem bD_apply (t : Fin cfg0.N) (n : Fin 16) (r : Fin 512) :
    bD m c t (ix4 0 n 0 r) = (V m c main_v43 : S16x16x1x512.Idx → EReal) (ix4 (hd t) n 0 r) := by
  blk_ext [iblk, idx]
  rfl

variable {m c}
variable {q kv : Fin 8192 → Fin 4096 → ℝ} {pe : Fin 8192 → Fin 128 → ℝ} {o : Fin 8192 → Fin 2048 → ℝ}
variable (hq : ∀ t j, a0 m c (ix2 t j) = (q t j : EReal)) (hkv : ∀ t j, a1 m c (ix2 t j) = (kv t j : EReal))
variable (hpe : ∀ t j, a2 m c (ix2 t j) = (pe t j : EReal)) (ho : ∀ t j, a3 m c (ix2 t j) = (o t j : EReal))

include hq hkv hpe ho

/-- What a point's windows hold. -/
theorem holds (t : Fin cfg0.N) : Holds (key kv pe (hd t)) (qR q (hd t)) (vR kv (hd t)) (oR o (hd t))
    (lR q kv pe (mx (a0 m c) (a1 m c) (a2 m c) (hd t)) (hd t)) (delta q kv pe o sc (hd t)) (t.val % 16)
    (keys (bKV m c t) (bPe m c t)) (vals (bKV m c t)) (bQ m c t) (bDO m c t) (bL m c t) (bD m c t) where
  hK r j := by
    rw [keys_apply]
    unfold key
    by_cases hj : j.val < 128
    · rw [dif_pos hj, dif_pos hj, bKV_apply, AttnHost.entry_kv]; exact hkv _ _
    · rw [dif_neg hj, dif_neg hj, bPe_apply, AttnHost.entry_pe]; exact hpe _ _
  hV r d := by rw [vals_apply, bKV_apply, AttnHost.entry_kv]; exact hkv _ _
  hq s j := by rw [bQ_apply, AttnHost.entry_q]; exact AttnHost.qs_real hq s _
  hd s d := by rw [bDO_apply, AttnHost.entry_do]; exact ho _ _
  hl n r := by
    rw [bL_apply, AttnHost.entry_lse]
    exact (AttnHost.rows_apply _ _ n r).trans (AttnHost.lse_real hq hkv hpe _ _)
  hδ n r := by
    rw [bD_apply, AttnHost.entry_delta]
    exact (AttnHost.rows_apply _ _ n r).trans (AttnHost.deltas_real hq hkv hpe ho _ _)

theorem gV_real (t : Fin cfg0.N) (r : Fin 512) (d : Fin 128) :
    gV m c t (ix2 r d) = (AttnReal.gV q kv pe o sc (hd t) (row (t.val % 16) r) d : EReal) := by
  unfold gV AttnReal.gV
  rw [show kt t = t.val % 16 from coords1 t, DV_real (holds hq hkv hpe ho t) (Nat.mod_lt _ (by norm_num))]
  simp only [probR_eq]
  rfl
theorem gK_real (t : Fin cfg0.N) (r : Fin 512) (j : Fin 256) :
    gK m c t (ix2 r j) * ((Real.log 2 : ℝ) : EReal) = (AttnReal.gK q kv pe o sc (hd t) (row (t.val % 16) r) j : EReal) := by
  unfold gK
  rw [show kt t = t.val % 16 from coords1 t, DK_real (holds hq hkv hpe ho t) (Nat.mod_lt _ (by norm_num)), ← EReal.coe_mul]
  simp only [dsR_eq]
  rw [gK_scaled]
theorem gQ_real (t : Fin cfg0.N) (x : Vec Ideal S8192x256 .f32) (s : Fin 8192) (j : Fin 256) :
    gQ m c t x (ix2 s j) = start x (t.val % 16) (ix2 s j) + (partQ q kv pe o (hd t) (t.val % 16) s j : EReal) := by
  unfold gQ partQ
  rw [show kt t = t.val % 16 from coords1 t, DQ_real (holds hq hkv hpe ho t) (Nat.mod_lt _ (by norm_num))]
  simp only [dsR_eq]

theorem start_zero (x : Vec Ideal S8192x256 .f32) (i : S8192x256.Idx) : start x 0 i = 0 := by
  unfold start
  rw [if_pos rfl]
  unfold k0_pay80
  pointwise

/-- The query gradients after a point: the sum over the head's tiles so far. -/
theorem accQ_real (n : ℕ) (hn : n < cfg0.N) (s : Fin 8192) (j : Fin 256) : accQ m c n hn (ix2 s j)
    = ((∑ b ∈ Finset.range (n % 16 + 1), partQ q kv pe o (hd ⟨n, hn⟩) b s j : ℝ) : EReal) := by
  induction n with
  | zero =>
    rw [accQ, gQ_real hq hkv hpe ho, show (⟨0, hn⟩ : Fin cfg0.N).val % 16 = 0 from rfl, start_zero hq hkv hpe ho, zero_add]
    simp only [Nat.zero_mod, zero_add, Finset.sum_range_one]
  | succ n ih =>
    rw [accQ, gQ_real hq hkv hpe ho]
    dsimp only
    by_cases h0 : (n + 1) % 16 = 0
    · rw [h0, start_zero hq hkv hpe ho, zero_add, zero_add, Finset.sum_range_one]
    · have e : hd ⟨n, Nat.lt_of_succ_lt hn⟩ = hd ⟨n + 1, hn⟩ := Fin.ext (by show n / 16 = (n + 1) / 16; omega)
      have e' : n % 16 + 1 = (n + 1) % 16 := by omega
      unfold start
      rw [if_neg h0, ih (Nat.lt_of_succ_lt hn), e, e', Finset.sum_range_succ, EReal.coe_add]

end Cert.Proof.AttnIdeal

end
-- ==== Proof.AttnValue.lean ====
/-
  The attention backward kernel's three results are the gradients of the softmax attention, when the queries, the keys and
  values, the shared keys and the output gradients are real numbers.
-/
module

public import proofs.«01_k».proof.Proof.AttnTiles
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

namespace Cert.Proof.AttnIdeal

open Cert.AttnIdeal Cert.AttnIdeal.Gen
open Idealize.ShloMosaic Idealize.ShloMosaic.TcCoe Idealize.ShloMosaic.Tactic
open Idealize.SL.Sem
open Cert.Proof.Reals Cert.Proof.AttnReal
open Cert.Proof.AttnRef (sc sc_eq)

variable (m : (ℓ : Loc nD τ sig) → Buf (Elt Ideal) ℓ) (c : Dev nD)

/-- The reference's three results on the kernel's arguments. -/
def gradKV : S8192x4096.Idx → EReal := AttnRef.dkv (a0 m c) (a1 m c) (a2 m c) (a3 m c)
def gradPe : S16x8192x128.Idx → EReal := AttnRef.dPe (a0 m c) (a1 m c) (a2 m c) (a3 m c)
def gradQ : S8192x4096.Idx → EReal := AttnRef.dq (a0 m c) (a1 m c) (a2 m c) (a3 m c)

/-- A column of a head is one of its first 128 or one of its last. -/
theorem lo_or_hi (j : Fin 256) : (∃ d, j = lo d) ∨ ∃ d, j = hi d := by
  by_cases h : j.val < 128
  · exact Or.inl ⟨⟨j.val, h⟩, rfl⟩
  · exact Or.inr ⟨⟨j.val - 128, by omega⟩, Fin.ext (by show j.val = 128 + (j.val - 128); omega)⟩

section real

variable {m c}
variable {q kv : Fin 8192 → Fin 4096 → ℝ} {pe : Fin 8192 → Fin 128 → ℝ} {o : Fin 8192 → Fin 2048 → ℝ}
variable (hq : ∀ t j, a0 m c (ix2 t j) = (q t j : EReal)) (hkv : ∀ t j, a1 m c (ix2 t j) = (kv t j : EReal))
variable (hpe : ∀ t j, a2 m c (ix2 t j) = (pe t j : EReal)) (ho : ∀ t j, a3 m c (ix2 t j) = (o t j : EReal))

include hq hkv hpe ho

theorem tile_kv (t : Fin cfg0.N) (r : Fin 512) (j : Fin 256) :
    outKV (bKV m c t) (gK m c t) (gV m c t) (ix2 r j) = gradKV m c (ix2 (row (t.val % 16) r) (hc (hd t) j)) := by
  unfold gradKV
  obtain ⟨d, rfl⟩ | ⟨d, rfl⟩ := lo_or_hi j
  · rw [outKV_lo, gK_real hq hkv hpe ho, AttnRef.dkv_lo hq hkv hpe ho]
  · rw [outKV_hi, gV_real hq hkv hpe ho, AttnRef.dkv_hi hq hkv hpe ho]
theorem tile_pe (t : Fin cfg0.N) (r : Fin 512) (d : Fin 128) :
    k0_pay19 (gK m c t) (ix3 0 r d) = gradPe m c (ix3 (hd t) (row (t.val % 16) r) d) := by
  unfold gradPe
  rw [peOut_apply, gK_real hq hkv hpe ho, AttnRef.dPe_real hq hkv hpe ho]
theorem tile_q (t : Fin cfg0.N) (ht : t.val % 16 = 15) (s : Fin 8192) (j : Fin 256) :
    afterQ m c t (ix2 s j) * (sc : EReal) = gradQ m c (ix2 s (hc (hd t) j)) := by
  unfold afterQ gradQ
  rw [accQ_real hq hkv hpe ho, ht, ← EReal.coe_mul, gQ_scaled]
  obtain ⟨d, rfl⟩ | ⟨d, rfl⟩ := lo_or_hi j
  · exact (AttnRef.dq_lo hq hkv hpe ho s _ d).symm
  · exact (AttnRef.dq_hi hq hkv hpe ho s _ d).symm

/-- The arrays after the run. -/
theorem array_kv : (dats m 0 c).arrAt 6 cfg0.N = gradKV m c := by
  refine (dats m 0 c).arrAt_eq_of_covers 6 _ (by decide +kernel) fun t hf y => ?_
  blk_simp
  have h : ∀ (r : Fin 512) (j : Fin 256), outKV (bKV m c t) (gK m c t) (gV m c t) (ix2 r j)
      = gradKV m c ((win0_6.blk t).view.emb (ix2 r j)) := fun r j => by
    refine (tile_kv hq hkv hpe ho t r j).trans ?_
    blk_ext [idx]
    · show 512 * (t.val % 16 % 16) + r.val = t.val % 16 * 512 + r.val
      omega
    · rfl
  have e : y = ix2 (y 0) (y 1) := by funext a; fin_cases a <;> rfl
  rw [e]
  exact h (y 0) (y 1)
theorem array_pe : (dats m 0 c).arrAt 7 cfg0.N = gradPe m c := by
  refine (dats m 0 c).arrAt_eq_of_covers 7 _ (by decide +kernel) fun t hf y => ?_
  blk_simp
  have h : ∀ (r : Fin 512) (d : Fin 128), k0_pay19 (gK m c t) (ix3 0 r d)
      = gradPe m c ((win0_7.blk t).view.emb (ix3 0 r d)) := fun r d => by
    refine (tile_pe hq hkv hpe ho t r d).trans ?_
    blk_ext [idx]
    · rfl
    · show 512 * (t.val % 16 % 16) + r.val = t.val % 16 * 512 + r.val
      omega
  have e : y = ix3 0 (y 1) (y 2) := by
    funext a
    fin_cases a
    · exact Subsingleton.elim (α := Fin 1) _ _
    · rfl
    · rfl
  rw [e]
  exact h (y 1) (y 2)

end real

/-- The queries' gradients before the last line's scaling, entry by entry. -/
def rawQ : S8192x4096.Idx → EReal := fun i =>
  afterQ m c ⟨16 * ((i 1).val / 256) + 15, by
    have h : (i 1).val < 4096 := (i 1).isLt
    rw [N_eq]
    omega⟩ (ix2 (i 0) ⟨(i 1).val % 256, by omega⟩)

theorem rawQ_tile (t : Fin cfg0.N) (ht : t.val % 16 = 15) (s : Fin 8192) (j : Fin 256) :
    rawQ m c (ix2 s (hc (hd t) j)) = afterQ m c t (ix2 s j) := by
  have e : ∀ (n : Fin cfg0.N) (j' : Fin 256), n = t → j' = j → afterQ m c n (ix2 s j') = afterQ m c t (ix2 s j) :=
    fun n j' h h' => by rw [h, h']
  refine e _ _ (Fin.ext ?_) (Fin.ext ?_)
  · show 16 * ((t.val / 16 * 256 + j.val) / 256) + 15 = t.val
    omega
  · show (t.val / 16 * 256 + j.val) % 256 = j.val
    omega

theorem array_q : (dats m 0 c).arrAt 8 cfg0.N = rawQ m c := by
  refine (dats m 0 c).arrAt_eq_of_covers 8 _ (by decide +kernel) fun t hf y => ?_
  have ht : t.val % 16 = 15 := (flush0_8 t).mp hf
  blk_simp
  have h : ∀ (s : Fin 8192) (j : Fin 256), afterQ m c t (ix2 s j) = rawQ m c ((win0_8.blk t).view.emb (ix2 s j)) := fun s j => by
    refine (rawQ_tile m c t ht s j).symm.trans ?_
    blk_ext [idx]
    rfl
  have e : y = ix2 (y 0) (y 1) := by funext a; fin_cases a <;> rfl
  rw [e]
  exact h (y 0) (y 1)

theorem last_line (i : S8192x4096.Idx) :
    (Pipeline.afterTail₀ cfgs (dats m) 0 (V0 m) [hostOps1] c main_v54 : S8192x4096.Idx → EReal) i
      = rawQ m c i * Ideal.ofBits .f32 0x3D93CD3A#32 := by
  have e : (Pipeline.withArrays spec0 c (V0 m c) (fun w => (dats m 0 c).arrAt w cfg0.N) (Proc.devRef .tc main_v52_2) : S8192x4096.Idx → EReal)
      = rawQ m c :=
    (Pipeline.withArrays_arr spec0 (by decide) c (V0 m c) (fun w => (dats m 0 c).arrAt w cfg0.N) 8).trans (array_q m c)
  rw [← e]
  unfold Pipeline.afterTail₀
  simp only [hostOps1, List.flatten_cons, List.flatten_nil, List.append_nil]
  after_results_simp
  rfl

/-- The scaled entry is the reference's. -/
theorem scaled_q {q kv : Fin 8192 → Fin 4096 → ℝ} {pe : Fin 8192 → Fin 128 → ℝ} {o : Fin 8192 → Fin 2048 → ℝ}
    (hq : ∀ t j, a0 m c (ix2 t j) = (q t j : EReal)) (hkv : ∀ t j, a1 m c (ix2 t j) = (kv t j : EReal))
    (hpe : ∀ t j, a2 m c (ix2 t j) = (pe t j : EReal)) (ho : ∀ t j, a3 m c (ix2 t j) = (o t j : EReal))
    (i : S8192x4096.Idx) : rawQ m c i * Ideal.ofBits .f32 0x3D93CD3A#32 = gradQ m c i := by
  have hi : (i 1).val < 4096 := (i 1).isLt
  rw [sc_eq]
  unfold rawQ
  refine (tile_q hq hkv hpe ho _ ?_ (i 0) _).trans (congrArg (gradQ m c) ?_)
  · show (16 * ((i 1).val / 256) + 15) % 16 = 15
    omega
  · funext a
    fin_cases a
    · rfl
    · refine Fin.ext ?_
      show (16 * ((i 1).val / 256) + 15) / 16 * 256 + (i 1).val % 256 = (i 1).val
      omega

/-- The printed precondition's own side conditions. -/
instance preFacts : Cert.Pre_finite_attn.Facts where
  bcast_S_S8192x4096 := by decide
  reducesTo_S8192x4096_S_d0_1 := by decide
  h_S_ := by decide
  bcast_S_S8192x128 := by decide
  reducesTo_S8192x128_S_d0_1 := by decide
  bcast_S_S8192x2048 := by decide
  reducesTo_S8192x2048_S_d0_1 := by decide

/-- What the precondition says: the four arguments are real numbers. -/
theorem real_of_pre {m : (ℓ : Loc nD τ sig) → Buf (Elt Ideal) ℓ} (h : Cert.Pre_AttnIdeal_finite_attn m) (c : Dev nD) :
    ((∀ i, IsReal (a0 m c i)) ∧ ∀ i, IsReal (a1 m c i)) ∧ (∀ i, IsReal (a2 m c i)) ∧ ∀ i, IsReal (a3 m c i) := by
  have e := congrFun (h c) fun d => d.elim0
  dsimp only [Cert.Pre_finite_attn.fn, Cert.Pre_finite_attn.fn_part1] at e
  obtain ⟨h123, h4⟩ := IntOp.andi_eq_one.1 e
  obtain ⟨h12, h3⟩ := IntOp.andi_eq_one.1 h123
  obtain ⟨h1, h2⟩ := IntOp.andi_eq_one.1 h12
  exact ⟨⟨fun i => of_cmp top_f32 (Host.reduce_andi_all _ _ _ _ _ h1 i),
    fun i => of_cmp top_f32 (Host.reduce_andi_all _ _ _ _ _ h2 i)⟩,
    fun i => of_cmp top_f32 (Host.reduce_andi_all _ _ _ _ _ h3 i),
    fun i => of_cmp top_f32 (Host.reduce_andi_all _ _ _ _ _ h4 i)⟩

/-- The kernel's results are the gradients of the softmax attention. -/
theorem results {m : (ℓ : Loc nD τ sig) → Buf (Elt Ideal) ℓ} (h : Cert.Pre_AttnIdeal_finite_attn m) (c : Dev nD) :
    (dats m 0 c).arrAt 6 cfg0.N = gradKV m c ∧ (dats m 0 c).arrAt 7 cfg0.N = gradPe m c
      ∧ ∀ i, rawQ m c i * Ideal.ofBits .f32 0x3D93CD3A#32 = gradQ m c i := by
  obtain ⟨⟨r0, r1⟩, r2, r3⟩ := real_of_pre h c
  have hq : ∀ t j, a0 m c (ix2 t j) = ((a0 m c (ix2 t j)).toReal : EReal) := fun t j => (r0 _).coe_toReal.symm
  have hkv : ∀ t j, a1 m c (ix2 t j) = ((a1 m c (ix2 t j)).toReal : EReal) := fun t j => (r1 _).coe_toReal.symm
  have hpe : ∀ t j, a2 m c (ix2 t j) = ((a2 m c (ix2 t j)).toReal : EReal) := fun t j => (r2 _).coe_toReal.symm
  have ho : ∀ t j, a3 m c (ix2 t j) = ((a3 m c (ix2 t j)).toReal : EReal) := fun t j => (r3 _).coe_toReal.symm
  exact ⟨array_kv hq hkv hpe ho, array_pe hq hkv hpe ho, scaled_q m c hq hkv hpe ho⟩

/-- The kernel and the reference end with equal results. -/
theorem algebraic : Cert.algebraic_AttnIdeal_AttnRefIdeal_pre_finite_attn := by
  intro m g m' g' hpre hagree
  refine ⟨fun c => gradKV m c, fun c => gradPe m c, fun c => gradQ m c,
    (θ_run defs _ _).mono (fun r h c => ?_) (run_main m g),
    (θ_run Cert.AttnRefIdeal.defs _ _).mono (fun r h c => ?_) (Cert.AttnRefIdeal.Value.run m' g')⟩
  · obtain ⟨e0, e1, e2⟩ := results hpre c
    exact ⟨((h.1 c).1 6).trans e0, ((h.1 c).1 7).trans e1,
      ((h.1 c).2 main_v54 (Pipeline.mem_restRefs_of main_v54 (by decide) (by decide))).trans
        (funext fun i => (last_line m c i).trans (e2 i)),
      ((h.1 c).2 main_arg0 (Pipeline.mem_restRefs_of main_arg0 (by decide) (by decide))).trans (Gen.W_main_arg0 m (dats m) c),
      ((h.1 c).2 main_arg1 (Pipeline.mem_restRefs_of main_arg1 (by decide) (by decide))).trans (Gen.W_main_arg1 m (dats m) c),
      ((h.1 c).2 main_arg2 (Pipeline.mem_restRefs_of main_arg2 (by decide) (by decide))).trans (Gen.W_main_arg2 m (dats m) c),
      ((h.1 c).2 main_arg3 (Pipeline.mem_restRefs_of main_arg3 (by decide) (by decide))).trans (Gen.W_main_arg3 m (dats m) c)⟩
  · obtain ⟨g0, g1, g2, g3⟩ := hagree c
    refine ⟨(h c).1.trans ((AttnRef.out0_eq m' c).trans ?_), (h c).2.1.trans ((AttnRef.out1_eq m' c).trans ?_),
      (h c).2.2.1.trans ((AttnRef.out2_eq m' c).trans ?_), (h c).2.2.2⟩
    · rw [g0, g1, g2, g3]; rfl
    · rw [g0, g1, g2, g3]; rfl
    · rw [g0, g1, g2, g3]; rfl

end Cert.Proof.AttnIdeal

end
-- ==== Proof.AdamVec.lean ====
/-
  AdamW on the vectors of weights, stacked as the step stacks them: the kernel's lines are the reference's, entry by entry.
-/
module

public import proofs.«01_k».proof.Defs
public import proofs.«01_k».proof.Proof.Gen.AdamVecIdeal
public import proofs.«01_k».proof.Proof.Gen.AdamVecIdeal.Value
public import proofs.«01_k».proof.Proof.Gen.AdamVecRefIdeal.Run
public import proofs.«01_k».proof.Proof.Gen.AdamLatIdeal
public import proofs.«01_k».proof.Proof.Gen.AdamLatIdeal.Value
public import proofs.«01_k».proof.Proof.Gen.AdamLatRefIdeal.Run
public import proofs.«01_k».proof.Proof.Gen.AdamPoolIdeal
public import proofs.«01_k».proof.Proof.Gen.AdamPoolIdeal.Value
public import proofs.«01_k».proof.Proof.Gen.AdamPoolRefIdeal.Run
public import Idealize.ShloMosaic.Lib.Pointwise
public import Idealize.ShloMosaic.Lib.Tactic

@[expose] public section

set_option maxRecDepth 16384

noncomputable section

namespace Cert.Proof

open Idealize.ShloMosaic Idealize.ShloMosaic.TcCoe Idealize.SL.Sem

/-- The norms' weights, five rows. -/
theorem AdamVec.algebraic : Cert.algebraic_AdamVecIdeal_AdamVecRefIdeal := by
  intro m g m' g' hpre hagree
  refine ⟨_, _, _, Cert.AdamVecIdeal.Value.run m g,
    (θ_run Cert.AdamVecRefIdeal.defs _ _).mono (fun _ h c => ?_) (Cert.AdamVecRefIdeal.Value.run m' g')⟩
  obtain ⟨g0, g1, g2, g3⟩ := hagree c
  refine ⟨(h c).1.trans ?_, (h c).2.1.trans ?_, (h c).2.2.1.trans ?_, (h c).2.2.2⟩ <;> simp only [g0, g1, g2, g3] <;>
    (funext i; rfl)

/-- The latents' norms, two rows. -/
theorem AdamLat.algebraic : Cert.algebraic_AdamLatIdeal_AdamLatRefIdeal := by
  intro m g m' g' hpre hagree
  refine ⟨_, _, _, Cert.AdamLatIdeal.Value.run m g,
    (θ_run Cert.AdamLatRefIdeal.defs _ _).mono (fun _ h c => ?_) (Cert.AdamLatRefIdeal.Value.run m' g')⟩
  obtain ⟨g0, g1, g2, g3⟩ := hagree c
  refine ⟨(h c).1.trans ?_, (h c).2.1.trans ?_, (h c).2.2.1.trans ?_, (h c).2.2.2⟩ <;> simp only [g0, g1, g2, g3] <;>
    (funext i; rfl)

/-- The pooling's norm and scale, two rows. -/
theorem AdamPool.algebraic : Cert.algebraic_AdamPoolIdeal_AdamPoolRefIdeal := by
  intro m g m' g' hpre hagree
  refine ⟨_, _, _, Cert.AdamPoolIdeal.Value.run m g,
    (θ_run Cert.AdamPoolRefIdeal.defs _ _).mono (fun _ h c => ?_) (Cert.AdamPoolRefIdeal.Value.run m' g')⟩
  obtain ⟨g0, g1, g2, g3⟩ := hagree c
  refine ⟨(h c).1.trans ?_, (h c).2.1.trans ?_, (h c).2.2.1.trans ?_, (h c).2.2.2⟩ <;> simp only [g0, g1, g2, g3] <;>
    (funext i; rfl)

end Cert.Proof

end
-- ==== Proof.Up.lean ====
/-
  The SwiGLU's up projection, at the extended reals: the two products with the gate and up weights and the three
  arrays formed from them, which are the reference's product gate and its derivatives.

  A block of a result is 512 tokens by one device block of 1408 hidden columns; the model columns are contracted at
  once. The derivative by the gate is saved as `u · (σ · (1 + g · (1 - σ)))` where differentiation leaves
  `u · σ + g · u · (σ · (1 - σ))`; the two agree where `u` is a real number, so where the hidden states and the up
  weights are.
-/
module

public import proofs.«01_k».proof.Defs
public import proofs.«01_k».proof.Proof.Reals
public import proofs.«01_k».proof.Proof.Gen.UpIdeal
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

namespace Cert.Proof.Up

open Cert.UpIdeal Cert.UpIdeal.Gen Cert.UpIdeal.Value
open Idealize.ShloMosaic Idealize.ShloMosaic.TcCoe Idealize.SL.Sem
open Cert.Proof.Reals

variable (m : (ℓ : Loc nD τ sig) → Buf (Elt Ideal) ℓ)

/-- The hidden states and the two weights as arrays. -/
abbrev hid (c : Dev nD) : S8192x2048.Idx → EReal := m ((c.tc : Thread nD τ).loc main_arg0)
abbrev wgt (c : Dev nD) : S4x2048x1408.Idx → EReal := m ((c.tc : Thread nD τ).loc main_arg1)
abbrev wup (c : Dev nD) : S4x2048x1408.Idx → EReal := m ((c.tc : Thread nD τ).loc main_arg2)

/-- The block indices of the windows at a point; the three results are written at one block index. -/
theorem idx : ∀ t : Fin cfg0.N, win0_0.index t = ![t.val % 16, 0] ∧ win0_1.index t = ![t.val / 16, 0, 0]
    ∧ win0_2.index t = ![t.val / 16, 0, 0] ∧ win0_3.index t = ![t.val % 16, t.val / 16]
    ∧ win0_4.index t = ![t.val % 16, t.val / 16] ∧ win0_5.index t = ![t.val % 16, t.val / 16] :=
  (by decide +kernel : ∀ t : Fin grid0.N, _)

/-- The three input blocks of a point. -/
abbrev hidB (c : Dev nD) (t : Fin cfg0.N) : S512x2048.Idx → EReal := iblk m c 0 t
abbrev wgtB (c : Dev nD) (t : Fin cfg0.N) : S1x2048x1408.Idx → EReal := iblk m c 1 t
abbrev wupB (c : Dev nD) (t : Fin cfg0.N) : S1x2048x1408.Idx → EReal := iblk m c 2 t

/-- A row of the hidden states against a hidden column of a weight. -/
def lin (x : S8192x2048.Idx → EReal) (w : S4x2048x1408.Idx → EReal) : S8192x5632.Idx → EReal := fun i =>
  ∑ k : Fin 2048, x (ix2 (i 0) k) * w (ix3 ⟨(i 1).val / 1408, by have := (i 1).isLt; dsimp at this; omega⟩ k
    ⟨(i 1).val % 1408, by omega⟩)

/-- The gate times its logistic, and that times the up projection. -/
def silu (g : EReal) : EReal := g * Ideal.logistic g
def prod (g u : EReal) : EReal := silu g * u

/-- The three results at an entry. -/
def siluA (c : Dev nD) : S8192x5632.Idx → EReal := fun i => silu (lin (hid m c) (wgt m c) i)
def derivA (c : Dev nD) : S8192x5632.Idx → EReal := fun i => dsilu (lin (hid m c) (wgt m c) i) (lin (hid m c) (wup m c) i)
def prodA (c : Dev nD) : S8192x5632.Idx → EReal := fun i => prod (lin (hid m c) (wgt m c) i) (lin (hid m c) (wup m c) i)

theorem silu_eq (c : Dev nD) : (dats m 0 c).arrAt 3 cfg0.N = siluA m c := by
  refine (dats m 0 c).arrAt_eq_of_covers 3 _ (by decide +kernel) fun t hf y => ?_
  blk_simp
  rw [after0_3]
  unfold out0_3
  frame_out
  unfold_payloads
  pointwise
  refine congrArg silu ?_
  unfold lin
  refine Finset.sum_congr rfl fun k _ => congrArg₂ (· * ·) ?_ ?_ <;> blk_ext [iblk, V, idx, hid, wgt]

theorem deriv_eq (c : Dev nD) : (dats m 0 c).arrAt 4 cfg0.N = derivA m c := by
  refine (dats m 0 c).arrAt_eq_of_covers 4 _ (by decide +kernel) fun t hf y => ?_
  blk_simp
  rw [after0_4]
  unfold out0_4
  frame_out
  unfold_payloads
  pointwise
  refine congrArg₂ dsilu ?_ ?_ <;> unfold lin <;>
    refine Finset.sum_congr rfl fun k _ => congrArg₂ (· * ·) ?_ ?_ <;> blk_ext [iblk, V, idx, hid, wgt, wup]

theorem prod_eq (c : Dev nD) : (dats m 0 c).arrAt 5 cfg0.N = prodA m c := by
  refine (dats m 0 c).arrAt_eq_of_covers 5 _ (by decide +kernel) fun t hf y => ?_
  blk_simp
  rw [after0_5]
  unfold out0_5
  frame_out
  unfold_payloads
  pointwise
  refine congrArg₂ prod ?_ ?_ <;> unfold lin <;>
    refine Finset.sum_congr rfl fun k _ => congrArg₂ (· * ·) ?_ ?_ <;> blk_ext [iblk, V, idx, hid, wgt, wup]

/-- The printed precondition's own side conditions. -/
instance preFacts : Cert.Pre_finite_up.Facts where
  bcast_S_S8192x2048 := by decide
  reducesTo_S8192x2048_S_d0_1 := by decide
  h_S_ := by decide
  bcast_S_S4x2048x1408 := by decide
  reducesTo_S4x2048x1408_S_d0_1_2 := by decide

/-- What the precondition says: the hidden states and the up weights are real numbers. -/
theorem real_of_pre (h : Cert.Pre_UpIdeal_finite_up m) (c : Dev nD) :
    (∀ i, IsReal (hid m c i)) ∧ ∀ i, IsReal (wup m c i) := by
  have e := congrFun (h c) fun d => d.elim0
  dsimp only [Cert.Pre_finite_up.fn] at e
  obtain ⟨h1, h2⟩ := IntOp.andi_eq_one.1 e
  exact ⟨fun i => of_cmp top_bf16 (Host.reduce_andi_all _ _ _ _ _ h1 i),
    fun i => of_cmp top_bf16 (Host.reduce_andi_all _ _ _ _ _ h2 i)⟩

theorem lin_real {x : S8192x2048.Idx → EReal} {w : S4x2048x1408.Idx → EReal} (hx : ∀ i, IsReal (x i))
    (hw : ∀ i, IsReal (w i)) (i : S8192x5632.Idx) : IsReal (lin x w i) :=
  IsReal.sum _ _ fun k => (hx _).mul (hw _)

/-- The reference's array of ones and its logistic of an array. -/
def ones : FVec Ideal Cert.UpRefIdeal.S8192x5632 .f32 :=
  broadcastInDim Cert.UpRefIdeal.S8192x5632 ![] Cert.UpRefIdeal.Gen.bcast_S_S8192x5632
    (constant Cert.UpRefIdeal.S_ .f32 0x3F800000#32)
def sig (g : FVec Ideal Cert.UpRefIdeal.S8192x5632 .f32) : FVec Ideal Cert.UpRefIdeal.S8192x5632 .f32 :=
  Host.divf ones (addf ones (Host.exp (Host.negf g)))

/-- The reference's three results at an entry, from its two projections. -/
theorem ref_silu (g : FVec Ideal Cert.UpRefIdeal.S8192x5632 .f32) (i : S8192x5632.Idx) :
    truncf .bf16 (mulf (mulf g (sig g)) ones) Cert.UpRefIdeal.Gen.bitsLt_bf16_f32 i = silu (g i) := by
  unfold sig ones
  pointwise
  rfl

theorem ref_prod (g u : FVec Ideal Cert.UpRefIdeal.S8192x5632 .f32) (i : S8192x5632.Idx) :
    truncf .bf16 (mulf (mulf g (sig g)) u) Cert.UpRefIdeal.Gen.bitsLt_bf16_f32 i = prod (g i) (u i) := by
  unfold sig ones
  pointwise
  rfl

theorem ref_deriv (g u : FVec Ideal Cert.UpRefIdeal.S8192x5632 .f32) (i : S8192x5632.Idx) :
    truncf .bf16 (addf (mulf (mulf ones u) (sig g)) (mulf (mulf g (mulf ones u)) (mulf (sig g) (subf ones (sig g)))))
      Cert.UpRefIdeal.Gen.bitsLt_bf16_f32 i = pulled (g i) (u i) := by
  unfold sig ones
  pointwise
  rfl

/-- The reference's projection as an array. -/
def proj (h : Vec Ideal Cert.UpRefIdeal.S8192x2048 .bf16) (w : Vec Ideal Cert.UpRefIdeal.S4x2048x1408 .bf16) :
    FVec Ideal Cert.UpRefIdeal.S8192x5632 .f32 :=
  shapeCast _ (Host.dotGeneral (F := Ideal) Cert.UpRefIdeal.dot_S8192x2048_S4x2048x1408_S8192x4x1408_1_1_0_02_n_n none
    (extf .f32 h Cert.UpRefIdeal.Gen.bitsLt_bf16_f32)
    (extf .f32 w Cert.UpRefIdeal.Gen.bitsLt_bf16_f32)) Cert.UpRefIdeal.Gen.shapeCasts_S8192x4x1408_S8192x5632

theorem proj_apply (h : Vec Ideal Cert.UpRefIdeal.S8192x2048 .bf16) (w : Vec Ideal Cert.UpRefIdeal.S4x2048x1408 .bf16)
    (i : S8192x5632.Idx) : proj h w i = lin h w i := by
  unfold proj lin
  idx_vars i
  pointwise

/-- The kernel's three arrays are the reference's. -/
theorem algebraic : Cert.algebraic_UpIdeal_UpRefIdeal_pre_finite_up := by
  intro m g m' g' hpre hagree
  refine ⟨fun c => siluA m c, fun c => derivA m c, fun c => prodA m c,
    (θ_run defs _ _).mono (fun _ h c => ?_) (run_blocks m g),
    (θ_run Cert.UpRefIdeal.defs _ _).mono (fun _ h c => ?_) (Cert.UpRefIdeal.Value.run m' g')⟩
  · exact ⟨(h c).1.trans (silu_eq m c), (h c).2.1.trans (deriv_eq m c), (h c).2.2.1.trans (prod_eq m c), (h c).2.2.2⟩
  · refine ⟨(h c).1.trans ?_, (h c).2.1.trans ?_, (h c).2.2.1.trans ?_, (h c).2.2.2⟩ <;>
      rw [(hagree c).1, (hagree c).2.1] <;> funext i
    · exact (ref_silu (proj (hid m c) (wgt m c)) i).trans (congrArg silu (proj_apply _ _ i))
    · rw [(hagree c).2.2]
      exact (ref_deriv (proj (hid m c) (wgt m c)) (proj (hid m c) (wup m c)) i).trans
        ((congrArg₂ pulled (proj_apply _ _ i) (proj_apply _ _ i)).trans
          (dsilu_eq_pulled _ (lin_real (real_of_pre m hpre c).1 (real_of_pre m hpre c).2 i)).symm)
    · rw [(hagree c).2.2]
      exact (ref_prod (proj (hid m c) (wgt m c)) (proj (hid m c) (wup m c)) i).trans
        (congrArg₂ prod (proj_apply _ _ i) (proj_apply _ _ i))

end Cert.Proof.Up
end
-- ==== Proof.Act.lean ====
/-
  The backward of the SwiGLU's gate, at the extended reals: the gradient of the hidden activations times the saved
  derivatives is the gradient that differentiation carries through the gate.

  A block of a result is 1024 tokens by one device block of 1408 hidden columns; the model columns are contracted at
  once. The reference multiplies the gradient into both terms of the derivative, the kernel into the saved sum; the
  two agree where the gradient of the activations and the up projection are real numbers.
-/
module

public import proofs.«01_k».proof.Defs
public import proofs.«01_k».proof.Proof.Reals
public import proofs.«01_k».proof.Proof.Gen.ActIdeal
public import proofs.«01_k».proof.Proof.Gen.ActIdeal.Frame
public import proofs.«01_k».proof.Proof.Gen.ActIdeal.Value
public import proofs.«01_k».proof.Proof.Gen.ActRefIdeal
public import proofs.«01_k».proof.Proof.Gen.ActRefIdeal.Run
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

namespace Cert.Proof.Act

open Cert.ActIdeal Cert.ActIdeal.Gen Cert.ActIdeal.Value
open Idealize.ShloMosaic Idealize.ShloMosaic.TcCoe Idealize.SL.Sem
open Cert.Proof.Reals

variable (m : (ℓ : Loc nD τ sig) → Buf (Elt Ideal) ℓ)

/-- The result's gradient, the down weights, and the two projections of the forward pass as arrays. -/
abbrev grad (c : Dev nD) : S8192x2048.Idx → EReal := m ((c.tc : Thread nD τ).loc main_arg0)
abbrev wdn (c : Dev nD) : S4x1408x2048.Idx → EReal := m ((c.tc : Thread nD τ).loc main_arg1)
abbrev gate (c : Dev nD) : S8192x5632.Idx → EReal := m ((c.tc : Thread nD τ).loc main_arg2)
abbrev upA (c : Dev nD) : S8192x5632.Idx → EReal := m ((c.tc : Thread nD τ).loc main_arg3)

/-- The block indices of the windows at a point. -/
theorem idx : ∀ t : Fin cfg0.N, win0_0.index t = ![t.val / 4, 0] ∧ win0_1.index t = ![t.val % 4, 0, 0]
    ∧ win0_2.index t = ![t.val / 4, t.val % 4] ∧ win0_3.index t = ![t.val / 4, t.val % 4]
    ∧ win0_4.index t = ![t.val / 4, t.val % 4] ∧ win0_5.index t = ![t.val / 4, t.val % 4] :=
  (by decide +kernel : ∀ t : Fin grid0.N, _)

/-- The gate times its logistic. -/
def silu (g : EReal) : EReal := g * Ideal.logistic g

/-- The two saved arrays as the host forms them. -/
theorem saved_silu (c : Dev nD) (i : S8192x5632.Idx) :
    (V m c main_v6 : S8192x5632.Idx → EReal) i = silu (gate m c i) := by
  unfold V
  simp only [hostOps0, hostOps0_1, hostOps0_2, hostOps0_3, List.flatten_cons, List.flatten_nil, List.cons_append,
    List.nil_append, List.append_nil, StableHlo.TRef.binary, StableHlo.TRef.nullary, StableHlo.TRef.unary,
    StableHlo.TRef.toBuf, StableHlo.TRef.ofBuf, cast_eq]
  after_results_simp
  pointwise
  rfl

theorem saved_deriv (c : Dev nD) (i : S8192x5632.Idx) :
    (V m c main_v7 : S8192x5632.Idx → EReal) i = pulled (gate m c i) (upA m c i) := by
  unfold V
  simp only [hostOps0, hostOps0_1, hostOps0_2, hostOps0_3, List.flatten_cons, List.flatten_nil, List.cons_append,
    List.nil_append, List.append_nil, StableHlo.TRef.binary, StableHlo.TRef.nullary, StableHlo.TRef.unary,
    StableHlo.TRef.toBuf, StableHlo.TRef.ofBuf, cast_eq]
  after_results_simp
  pointwise
  rfl

/-- A row of the result's gradient against a hidden row of the down weights. -/
def back (x : S8192x2048.Idx → EReal) (w : S4x1408x2048.Idx → EReal) : S8192x5632.Idx → EReal := fun i =>
  ∑ k : Fin 2048, x (ix2 (i 0) k) * w (ix3 ⟨(i 1).val / 1408, by have := (i 1).isLt; dsimp at this; omega⟩
    ⟨(i 1).val % 1408, by omega⟩ k)

/-- The two results at an entry. -/
def gateG (c : Dev nD) : S8192x5632.Idx → EReal := fun i =>
  back (grad m c) (wdn m c) i * (V m c main_v7 : S8192x5632.Idx → EReal) i
def upG (c : Dev nD) : S8192x5632.Idx → EReal := fun i =>
  back (grad m c) (wdn m c) i * (V m c main_v6 : S8192x5632.Idx → EReal) i

theorem gate_eq (c : Dev nD) : (dats m 0 c).arrAt 4 cfg0.N = gateG m c := by
  refine (dats m 0 c).arrAt_eq_of_covers 4 _ (by decide +kernel) fun t hf y => ?_
  blk_simp
  rw [after0_4]
  unfold out0_4
  frame_out
  unfold_payloads
  pointwise
  unfold gateG back
  refine congrArg₂ (· * ·) (Finset.sum_congr rfl fun k _ => congrArg₂ (· * ·) ?_ ?_) ?_
  · blk_ext [iblk, V, idx, grad, wdn]
  · blk_ext [iblk, V, idx, grad, wdn]
  · blk_ext [iblk, idx]

theorem up_eq (c : Dev nD) : (dats m 0 c).arrAt 5 cfg0.N = upG m c := by
  refine (dats m 0 c).arrAt_eq_of_covers 5 _ (by decide +kernel) fun t hf y => ?_
  blk_simp
  rw [after0_5]
  unfold out0_5
  frame_out
  unfold_payloads
  pointwise
  unfold upG back
  refine congrArg₂ (· * ·) (Finset.sum_congr rfl fun k _ => congrArg₂ (· * ·) ?_ ?_) ?_
  · blk_ext [iblk, V, idx, grad, wdn]
  · blk_ext [iblk, V, idx, grad, wdn]
  · blk_ext [iblk, idx]

/-- The printed precondition's own side conditions. -/
instance preFacts : Cert.Pre_finite_act.Facts where
  bcast_S_S8192x2048 := by decide
  reducesTo_S8192x2048_S_d0_1 := by decide
  h_S_ := by decide
  bcast_S_S4x1408x2048 := by decide
  reducesTo_S4x1408x2048_S_d0_1_2 := by decide
  bcast_S_S8192x5632 := by decide
  reducesTo_S8192x5632_S_d0_1 := by decide

/-- What the precondition says: the result's gradient, the down weights and the up projection are real numbers. -/
theorem real_of_pre (h : Cert.Pre_ActIdeal_finite_act m) (c : Dev nD) :
    (∀ i, IsReal (grad m c i)) ∧ (∀ i, IsReal (wdn m c i)) ∧ ∀ i, IsReal (upA m c i) := by
  have e := congrFun (h c) fun d => d.elim0
  dsimp only [Cert.Pre_finite_act.fn] at e
  obtain ⟨h12, h3⟩ := IntOp.andi_eq_one.1 e
  obtain ⟨h1, h2⟩ := IntOp.andi_eq_one.1 h12
  exact ⟨fun i => of_cmp top_bf16 (Host.reduce_andi_all _ _ _ _ _ h1 i),
    fun i => of_cmp top_bf16 (Host.reduce_andi_all _ _ _ _ _ h2 i),
    fun i => of_cmp top_f32 (Host.reduce_andi_all _ _ _ _ _ h3 i)⟩

theorem back_real {x : S8192x2048.Idx → EReal} {w : S4x1408x2048.Idx → EReal} (hx : ∀ i, IsReal (x i))
    (hw : ∀ i, IsReal (w i)) (i : S8192x5632.Idx) : IsReal (back x w i) :=
  IsReal.sum _ _ fun k => (hx _).mul (hw _)

/-- The reference's array of ones and its logistic of an array. -/
def ones : FVec Ideal Cert.ActRefIdeal.S8192x5632 .f32 :=
  broadcastInDim Cert.ActRefIdeal.S8192x5632 ![] Cert.ActRefIdeal.Gen.bcast_S_S8192x5632
    (constant Cert.ActRefIdeal.S_ .f32 0x3F800000#32)
def sig (g : FVec Ideal Cert.ActRefIdeal.S8192x5632 .f32) : FVec Ideal Cert.ActRefIdeal.S8192x5632 .f32 :=
  Host.divf ones (addf ones (Host.exp (Host.negf g)))

/-- The reference's two results at an entry, from the gradient of the activations. -/
theorem ref_up (g d : FVec Ideal Cert.ActRefIdeal.S8192x5632 .f32) (i : S8192x5632.Idx) :
    truncf .bf16 (mulf (mulf g (sig g)) d) Cert.ActRefIdeal.Gen.bitsLt_bf16_f32 i = silu (g i) * d i := by
  unfold sig ones
  pointwise
  rfl

theorem ref_gate (g u d : FVec Ideal Cert.ActRefIdeal.S8192x5632 .f32) (i : S8192x5632.Idx) :
    truncf .bf16 (addf (mulf (mulf d u) (sig g)) (mulf (mulf g (mulf d u)) (mulf (sig g) (subf ones (sig g)))))
      Cert.ActRefIdeal.Gen.bitsLt_bf16_f32 i = pulled (g i) (d i * u i) := by
  unfold sig ones
  pointwise
  rfl

/-- The reference's gradient of the activations as an array. -/
def pullA (x : Vec Ideal Cert.ActRefIdeal.S8192x2048 .bf16) (w : Vec Ideal Cert.ActRefIdeal.S4x1408x2048 .bf16) :
    FVec Ideal Cert.ActRefIdeal.S8192x5632 .f32 :=
  Host.dotGeneral (F := Ideal) Cert.ActRefIdeal.dot_S8192x2048_S5632x2048_S8192x5632_1_1_0_0_n_n none
    (extf .f32 x Cert.ActRefIdeal.Gen.bitsLt_bf16_f32)
    (shapeCast _ (extf .f32 w Cert.ActRefIdeal.Gen.bitsLt_bf16_f32) Cert.ActRefIdeal.Gen.shapeCasts_S4x1408x2048_S5632x2048)

theorem pullA_apply (x : Vec Ideal Cert.ActRefIdeal.S8192x2048 .bf16) (w : Vec Ideal Cert.ActRefIdeal.S4x1408x2048 .bf16)
    (i : S8192x5632.Idx) : pullA x w i = back x w i := by
  unfold pullA back
  idx_vars i
  pointwise

/-- The kernel's two gradients are the reference's. -/
theorem algebraic : Cert.algebraic_ActIdeal_ActRefIdeal_pre_finite_act := by
  intro m g m' g' hpre hagree
  refine ⟨fun c => gateG m c, fun c => upG m c,
    (θ_run defs _ _).mono (fun _ h c => ?_) (run_blocks m g),
    (θ_run Cert.ActRefIdeal.defs _ _).mono (fun _ h c => ?_) (Cert.ActRefIdeal.Value.run m' g')⟩
  · exact ⟨(h c).1.trans (gate_eq m c), (h c).2.1.trans (up_eq m c), (h c).2.2⟩
  · obtain ⟨r0, r1, r3⟩ := real_of_pre m hpre c
    refine ⟨(h c).1.trans ?_, (h c).2.1.trans ?_, (h c).2.2⟩ <;>
      rw [(hagree c).1, (hagree c).2.1, (hagree c).2.2.1] <;> funext i
    · rw [(hagree c).2.2.2]
      refine (ref_gate (gate m c) (upA m c) (pullA (grad m c) (wdn m c)) i).trans ?_
      rw [pullA_apply]
      exact (mul_pulled _ (back_real r0 r1 i) (r3 i)).symm.trans (congrArg (_ * ·) (saved_deriv m c i).symm)
    · refine (ref_up (gate m c) (pullA (grad m c) (wdn m c)) i).trans ?_
      rw [pullA_apply, mul_comm]
      exact congrArg (_ * ·) (saved_silu m c i).symm

end Cert.Proof.Act
end
-- ==== Proof.DwUp.lean ====
/-
  The gradients of the gate and up weights: the blocked product of the activations' transpose with the incoming
  gradient, at the extended reals.

  The kernel walks the device's column blocks, and under each the eight row tiles of 1024 tokens. The first tile's
  product is stored in the accumulator, the later ones are added to it, and after the last the accumulator is cast
  and written back. `acc_eq` gives the accumulator after a block's last tile as the sum of the eight products,
  `array_eq` the array after the run as the product over all 8192 tokens, and `algebraic` sets it beside the
  reference, whose gradient is that product with its axes in another order.
-/
module

public import proofs.«01_k».proof.Defs
public import proofs.«01_k».proof.Proof.Gen.DwUpIdeal
public import proofs.«01_k».proof.Proof.Gen.DwUpIdeal.Frame
public import proofs.«01_k».proof.Proof.Gen.DwUpIdeal.Value
public import proofs.«01_k».proof.Proof.Gen.DwUpRefIdeal
public import proofs.«01_k».proof.Proof.Gen.DwUpRefIdeal.Run
public import Idealize.ShloMosaic.Lib.Pipeline.ValueKit
public import Idealize.ShloMosaic.Lib.Pointwise
public import Idealize.ShloMosaic.Lib.Tactic

@[expose] public section

set_option maxRecDepth 16384

noncomputable section

namespace Cert.Proof.DwUp

open Cert.DwUpIdeal Cert.DwUpIdeal.Gen Cert.DwUpIdeal.Value
open Idealize.ShloMosaic Idealize.ShloMosaic.TcCoe Idealize.SL.Sem

variable (m : (ℓ : Loc nD τ sig) → Buf (Elt Ideal) ℓ) (ρ : Dev nD → PrngReg)

/-- The two operands as arrays. -/
abbrev x (c : Dev nD) : S8192x2048.Idx → EReal := m ((c.tc : Thread nD τ).loc main_arg0)
abbrev d (c : Dev nD) : S8192x5632.Idx → EReal := m ((c.tc : Thread nD τ).loc main_arg1)

/-- The block indices of the three windows at a point. -/
theorem idx : ∀ t : Fin cfg0.N, win0_0.index t = ![t.val % 8, 0] ∧ win0_1.index t = ![t.val % 8, t.val / 8]
    ∧ win0_2.index t = ![t.val / 8, 0, 0] :=
  (by decide +kernel : ∀ t : Fin grid0.N, _)

/-- The two blocks of a point. -/
abbrev xB (c : Dev nD) (t : Fin cfg0.N) : S1024x2048.Idx → EReal := iblk m c 0 t
abbrev dB (c : Dev nD) (t : Fin cfg0.N) : S1024x1408.Idx → EReal := iblk m c 1 t

/-- The product of a point's two blocks. -/
def term (c : Dev nD) (t : Fin cfg0.N) (i : S2048x1408.Idx) : EReal :=
  ∑ k : Fin 1024, xB m c t (ix2 k (i 0)) * dB m c t (ix2 k (i 1))

/-- The first tile of a column block stores its product. -/
theorem acc_first (c : Dev nD) (t : Fin cfg0.N) (h : t.val % 8 = 0) (i : S2048x1408.Idx) :
    (outsAt0 m c t.val t.isLt).2 i = 0 + term m c t i := by
  rw [outsAt0_A m c t h (by omega) (by omega)]
  dsimp only
  unfold sout0_A_0
  frame_out
  unfold_payloads
  pointwise
  rfl

/-- A later tile adds its product to the accumulator. -/
theorem acc_next (c : Dev nD) (t : Fin cfg0.N) (h : ¬t.val % 8 = 0) (i : S2048x1408.Idx) :
    (outsAt0 m c t.val t.isLt).2 i
      = (outsAt0 m c (t.val - 1) (Nat.lt_of_le_of_lt (Nat.sub_le _ _) t.isLt)).2 i + term m c t i := by
  by_cases h2 : t.val % 8 = 7
  · rw [outsAt0_C m c t h (by omega) h2]
    dsimp only
    unfold sout0_C_0
    frame_out
    unfold_payloads
    pointwise
    exact congrArg (· + _) (congrFun ((Memref.isWhole_whole cc0_scratch0).read_unread (Val := Elt Ideal) _) i)
  · rw [outsAt0_B m c t h (by omega) h2]
    dsimp only
    unfold sout0_B_0
    frame_out
    unfold_payloads
    pointwise
    exact congrArg (· + _) (congrFun ((Memref.isWhole_whole cc0_scratch0).read_unread (Val := Elt Ideal) _) i)

/-- The last tile's output block is the accumulator it leaves. -/
theorem out_last (c : Dev nD) (t : Fin cfg0.N) (h : t.val % 8 = 7) (y : S1x2048x1408.Idx) :
    (outsAt0 m c t.val t.isLt).1 y = (outsAt0 m c t.val t.isLt).2 (ix2 (y 1) (y 2)) := by
  rw [outsAt0_C m c t (by omega) (by omega) h]
  dsimp only
  unfold out0_C_2 sout0_C_0
  frame_out
  unfold_payloads
  pointwise

/-- The accumulator after the last tile of a column block. -/
theorem acc_eq (c : Dev nD) (t : Fin cfg0.N) (h : t.val % 8 = 7) (i : S2048x1408.Idx) :
    (outsAt0 m c t.val t.isLt).2 i
      = 0 + ∑ s : Fin 8, term m c ⟨8 * (t.val / 8) + s.val, Pipeline.run_point_lt_of_flush t h s⟩ i :=
  Pipeline.eq_sum_fin_of_reset_step_apply_of_flush (fun n h => (outsAt0 m c n h).2) 8 (fun _ => 0) (term m c)
    (acc_first m c) (acc_next m c) t h i

/-- The product over all tokens, at one entry of one device's block. -/
def prod (c : Dev nD) : S4x2048x1408.Idx → EReal := fun i =>
  ∑ r : Fin 8192, x m c (ix2 r (i 1)) * d m c (ix2 r ⟨1408 * (i 0).val + (i 2).val, by
    have h0 : (i 0).val < 4 := (i 0).isLt
    have h2 : (i 2).val < 1408 := (i 2).isLt
    omega⟩)

/-- The array after the run is the product over all tokens. -/
theorem array_eq (c : Dev nD) : (dats m 0 c).arrAt 2 cfg0.N = prod m c := by
  refine (dats m 0 c).arrAt_eq_of_covers 2 _ (by decide +kernel) fun t hf y => ?_
  have h7 : t.val % 8 = 7 := (flush0_2 t).mp hf
  blk_simp
  rw [after0_2]
  refine (out_last m c t h7 y).trans ((acc_eq m c t h7 _).trans ?_)
  unfold prod term
  rw [zero_add, Fin.sum_univ_tiles 8 1024 rfl]
  refine Finset.sum_congr rfl fun s _ => Finset.sum_congr rfl fun k _ => ?_
  congr 1 <;> blk_ext [iblk, V, idx, xB, dB, x, d]

theorem algebraic : Cert.algebraic_DwUpIdeal_DwUpRefIdeal := by
  intro m g m' g' _ hagree
  refine ⟨fun c => prod m c, (θ_run defs _ _).mono (fun _ h c => ?_) (run_blocks m g),
    (θ_run Cert.DwUpRefIdeal.defs _ _).mono (fun _ h c => ?_) (Cert.DwUpRefIdeal.Value.run m' g')⟩
  · exact ⟨(h c).1.trans (array_eq m c), (h c).2.1, (h c).2.2⟩
  · refine ⟨(h c).1.trans ?_, (h c).2.1, (h c).2.2⟩
    rw [(hagree c).1, (hagree c).2]
    funext i
    pointwise
    unfold prod
    refine Finset.sum_congr rfl fun k _ => ?_
    rw [mul_comm]
    congr 1 <;> blk_ext [x, d]

end Cert.Proof.DwUp
end
-- ==== Proof.DwDown.lean ====
/-
  The gradient of the down weights: the blocked product of the hidden activations' transpose with the incoming
  gradient, at the extended reals.

  A block of the result is 1408 hidden rows by 1024 model columns. Under each block the kernel walks the eight
  tiles of 1024 tokens: it stores the first tile's product in the accumulator, adds the later ones, and casts and
  writes the sum back after the last. The reference contracts all 8192 tokens at once and reshapes.
-/
module

public import proofs.«01_k».proof.Defs
public import proofs.«01_k».proof.Proof.Gen.DwDownIdeal
public import proofs.«01_k».proof.Proof.Gen.DwDownIdeal.Frame
public import proofs.«01_k».proof.Proof.Gen.DwDownIdeal.Value
public import proofs.«01_k».proof.Proof.Gen.DwDownRefIdeal
public import proofs.«01_k».proof.Proof.Gen.DwDownRefIdeal.Run
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

namespace Cert.Proof.DwDown

open Cert.DwDownIdeal Cert.DwDownIdeal.Gen Cert.DwDownIdeal.Value
open Idealize.ShloMosaic Idealize.ShloMosaic.TcCoe Idealize.SL.Sem

variable (m : (ℓ : Loc nD τ sig) → Buf (Elt Ideal) ℓ)

/-- The hidden activations and the incoming gradient as arrays. -/
abbrev hid (c : Dev nD) : S8192x5632.Idx → EReal := m ((c.tc : Thread nD τ).loc main_arg0)
abbrev grad (c : Dev nD) : S8192x2048.Idx → EReal := m ((c.tc : Thread nD τ).loc main_arg1)

/-- The block indices of the three windows at a point. -/
theorem idx : ∀ t : Fin cfg0.N, win0_0.index t = ![t.val % 8, t.val / 8 / 2] ∧ win0_1.index t = ![t.val % 8, t.val / 8 % 2]
    ∧ win0_2.index t = ![t.val / 8 / 2, 0, t.val / 8 % 2] :=
  (by decide +kernel : ∀ t : Fin grid0.N, _)

/-- The two blocks of a point. -/
abbrev hidB (c : Dev nD) (t : Fin cfg0.N) : S1024x1408.Idx → EReal := iblk m c 0 t
abbrev gradB (c : Dev nD) (t : Fin cfg0.N) : S1024x1024.Idx → EReal := iblk m c 1 t

/-- The product of a point's two blocks. -/
def part (c : Dev nD) (t : Fin cfg0.N) (i : S1408x1024.Idx) : EReal :=
  ∑ k : Fin 1024, hidB m c t (ix2 k (i 0)) * gradB m c t (ix2 k (i 1))

/-- What the accumulator holds after a point. -/
abbrev acc (c : Dev nD) (n : ℕ) (h : n < cfg0.N) : S1408x1024.Idx → EReal := (outsAt0 m c n h).2

theorem acc_start (c : Dev nD) (t : Fin cfg0.N) (h : t.val % 8 = 0) (i : S1408x1024.Idx) :
    acc m c t.val t.isLt i = 0 + part m c t i := by
  unfold acc
  rw [outsAt0_A m c t h (by omega) (by omega)]
  dsimp only
  unfold sout0_A_0
  frame_out
  unfold_payloads
  pointwise
  rfl

theorem acc_step (c : Dev nD) (t : Fin cfg0.N) (h : ¬t.val % 8 = 0) (i : S1408x1024.Idx) :
    acc m c t.val t.isLt i
      = acc m c (t.val - 1) (Nat.lt_of_le_of_lt (Nat.sub_le _ _) t.isLt) i + part m c t i := by
  unfold acc
  by_cases h2 : t.val % 8 = 7
  · rw [outsAt0_C m c t h (by omega) h2]
    dsimp only
    unfold sout0_C_0
    frame_out
    unfold_payloads
    pointwise
    rw [read_unread_whole]
    rfl
  · rw [outsAt0_B m c t h (by omega) h2]
    dsimp only
    unfold sout0_B_0
    frame_out
    unfold_payloads
    pointwise
    rw [read_unread_whole]
    rfl

/-- At the last tile of a block the output block is the accumulator. -/
theorem out_eq (c : Dev nD) (t : Fin cfg0.N) (h : t.val % 8 = 7) (y : S1x1408x1024.Idx) :
    (outsAt0 m c t.val t.isLt).1 y = acc m c t.val t.isLt (ix2 (y 1) (y 2)) := by
  unfold acc
  rw [outsAt0_C m c t (by omega) (by omega) h]
  dsimp only
  unfold out0_C_2 sout0_C_0
  frame_out
  unfold_payloads
  pointwise

/-- The gradient: at device block `j`, hidden row `f` and model column `n`, the product over all tokens. -/
def whole (c : Dev nD) : S4x1408x2048.Idx → EReal := fun i =>
  ∑ r : Fin 8192, hid m c (ix2 r ⟨1408 * (i 0).val + (i 1).val, by
    have h0 : (i 0).val < 4 := (i 0).isLt
    have h1 : (i 1).val < 1408 := (i 1).isLt
    omega⟩) * grad m c (ix2 r (i 2))

theorem array_eq (c : Dev nD) : (dats m 0 c).arrAt 2 cfg0.N = whole m c := by
  refine (dats m 0 c).arrAt_eq_of_covers 2 _ (by decide +kernel) fun t hf y => ?_
  have h7 : t.val % 8 = 7 := (flush0_2 t).mp hf
  blk_simp
  rw [after0_2]
  refine (out_eq m c t h7 y).trans ((Pipeline.eq_sum_fin_of_reset_step_apply_of_flush (acc m c) 8 (fun _ => 0)
    (part m c) (acc_start m c) (acc_step m c) t h7 _).trans ?_)
  unfold whole part
  rw [zero_add, Fin.sum_univ_tiles 8 1024 rfl]
  refine Finset.sum_congr rfl fun s _ => Finset.sum_congr rfl fun k _ => ?_
  congr 1 <;> blk_ext [iblk, V, idx, hidB, gradB, hid, grad]

/-- The kernel's gradient is the reference's. -/
theorem algebraic : Cert.algebraic_DwDownIdeal_DwDownRefIdeal := by
  intro m g m' g' _ hagree
  refine ⟨fun c => whole m c, (θ_run defs _ _).mono (fun _ h c => ?_) (run_blocks m g),
    (θ_run Cert.DwDownRefIdeal.defs _ _).mono (fun _ h c => ?_) (Cert.DwDownRefIdeal.Value.run m' g')⟩
  · exact ⟨(h c).1.trans (array_eq m c), (h c).2.1, (h c).2.2⟩
  · refine ⟨(h c).1.trans ?_, (h c).2.1, (h c).2.2⟩
    rw [(hagree c).1, (hagree c).2]
    funext i
    pointwise
    unfold whole
    refine Finset.sum_congr rfl fun k _ => ?_
    rw [mul_comm]
    congr 1 <;> blk_ext [hid, grad]

end Cert.Proof.DwDown
end
-- ==== Proof.Dh.lean ====
/-
  The gradient of the SwiGLU's input, at the extended reals: the gate's gradient times the gate weights' transpose
  plus the up branch's gradient times the up weights' transpose.

  A block of the result is 512 tokens by all 2048 model columns; under it the kernel walks the four device blocks
  of 1408 hidden columns and adds both products of each to the accumulator, so its sum interleaves the two. The
  reference contracts each branch over all hidden columns and adds the two products: the same sum in another order.
-/
module

public import proofs.«01_k».proof.Defs
public import proofs.«01_k».proof.Proof.Gen.DhIdeal
public import proofs.«01_k».proof.Proof.Gen.DhIdeal.Frame
public import proofs.«01_k».proof.Proof.Gen.DhIdeal.Value
public import proofs.«01_k».proof.Proof.Gen.DhRefIdeal
public import proofs.«01_k».proof.Proof.Gen.DhRefIdeal.Run
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

namespace Cert.Proof.Dh

open Cert.DhIdeal Cert.DhIdeal.Gen Cert.DhIdeal.Value
open Idealize.ShloMosaic Idealize.ShloMosaic.TcCoe Idealize.SL.Sem

variable (m : (ℓ : Loc nD τ sig) → Buf (Elt Ideal) ℓ)

/-- The gradients of the gate and up branches, and the two weights. -/
abbrev dg (c : Dev nD) : S8192x5632.Idx → EReal := m ((c.tc : Thread nD τ).loc main_arg0)
abbrev wg (c : Dev nD) : S4x2048x1408.Idx → EReal := m ((c.tc : Thread nD τ).loc main_arg1)
abbrev du (c : Dev nD) : S8192x5632.Idx → EReal := m ((c.tc : Thread nD τ).loc main_arg2)
abbrev wu (c : Dev nD) : S4x2048x1408.Idx → EReal := m ((c.tc : Thread nD τ).loc main_arg3)

/-- The block indices of the five windows at a point. -/
theorem idx : ∀ t : Fin cfg0.N, win0_0.index t = ![t.val / 4, t.val % 4] ∧ win0_1.index t = ![t.val % 4, 0, 0]
    ∧ win0_2.index t = ![t.val / 4, t.val % 4] ∧ win0_3.index t = ![t.val % 4, 0, 0] ∧ win0_4.index t = ![t.val / 4, 0] :=
  (by decide +kernel : ∀ t : Fin grid0.N, _)

/-- The four input blocks of a point. -/
abbrev dgB (c : Dev nD) (t : Fin cfg0.N) : S512x1408.Idx → EReal := iblk m c 0 t
abbrev wgB (c : Dev nD) (t : Fin cfg0.N) : S1x2048x1408.Idx → EReal := iblk m c 1 t
abbrev duB (c : Dev nD) (t : Fin cfg0.N) : S512x1408.Idx → EReal := iblk m c 2 t
abbrev wuB (c : Dev nD) (t : Fin cfg0.N) : S1x2048x1408.Idx → EReal := iblk m c 3 t

/-- The two products of a point's blocks, added. -/
def part (c : Dev nD) (t : Fin cfg0.N) (i : S512x2048.Idx) : EReal :=
  (∑ k : Fin 1408, dgB m c t (ix2 (i 0) k) * wgB m c t (ix3 0 (i 1) k))
    + ∑ k : Fin 1408, duB m c t (ix2 (i 0) k) * wuB m c t (ix3 0 (i 1) k)

/-- What the accumulator holds after a point. -/
abbrev acc (c : Dev nD) (n : ℕ) (h : n < cfg0.N) : S512x2048.Idx → EReal := (outsAt0 m c n h).2

theorem acc_start (c : Dev nD) (t : Fin cfg0.N) (h : t.val % 4 = 0) (i : S512x2048.Idx) :
    acc m c t.val t.isLt i = 0 + part m c t i := by
  unfold acc
  rw [outsAt0_A m c t h (by omega) (by omega)]
  dsimp only
  unfold sout0_A_0
  frame_out
  unfold_payloads
  pointwise
  rfl

theorem acc_step (c : Dev nD) (t : Fin cfg0.N) (h : ¬t.val % 4 = 0) (i : S512x2048.Idx) :
    acc m c t.val t.isLt i
      = acc m c (t.val - 1) (Nat.lt_of_le_of_lt (Nat.sub_le _ _) t.isLt) i + part m c t i := by
  unfold acc
  by_cases h2 : t.val % 4 = 3
  · rw [outsAt0_C m c t h (by omega) h2]
    dsimp only
    unfold sout0_C_0
    frame_out
    unfold_payloads
    pointwise
    rw [read_unread_whole]
    rfl
  · rw [outsAt0_B m c t h (by omega) h2]
    dsimp only
    unfold sout0_B_0
    frame_out
    unfold_payloads
    pointwise
    rw [read_unread_whole]
    rfl

/-- After the last device block the output block is the accumulator. -/
theorem out_eq (c : Dev nD) (t : Fin cfg0.N) (h : t.val % 4 = 3) (y : S512x2048.Idx) :
    (outsAt0 m c t.val t.isLt).1 y = acc m c t.val t.isLt y := by
  unfold acc
  rw [outsAt0_C m c t (by omega) (by omega) h]
  dsimp only
  unfold out0_C_4 sout0_C_0
  frame_out

/-- One branch's product over the hidden columns, device block by device block. -/
def branch (g : S8192x5632.Idx → EReal) (w : S4x2048x1408.Idx → EReal) (i : S8192x2048.Idx) : EReal :=
  ∑ j : Fin 4, ∑ k : Fin 1408, g (ix2 (i 0) ⟨j.val * 1408 + k.val, by omega⟩) * w (ix3 j (i 1) k)

/-- The gradient of the input. -/
def whole (c : Dev nD) : S8192x2048.Idx → EReal := fun i =>
  branch (dg m c) (wg m c) i + branch (du m c) (wu m c) i

theorem array_eq (c : Dev nD) : (dats m 0 c).arrAt 4 cfg0.N = whole m c := by
  refine (dats m 0 c).arrAt_eq_of_covers 4 _ (by decide +kernel) fun t hf y => ?_
  have h3 : t.val % 4 = 3 := (flush0_4 t).mp hf
  blk_simp
  rw [after0_4]
  refine (out_eq m c t h3 y).trans ?_
  rw [Pipeline.eq_sum_fin_of_reset_step_apply_of_flush (acc m c) 4 (fun _ => 0)
    (part m c) (acc_start m c) (acc_step m c) t h3 _]
  unfold whole branch part
  rw [zero_add, Finset.sum_add_distrib]
  refine congrArg₂ (· + ·) ?_ ?_ <;> refine Finset.sum_congr rfl fun s _ => Finset.sum_congr rfl fun k _ => ?_
  · refine congrArg₂ (· * ·) ?_ ?_ <;> blk_ext [iblk, V, idx, dgB, wgB, dg, wg]
  · refine congrArg₂ (· * ·) ?_ ?_ <;> blk_ext [iblk, V, idx, duB, wuB, du, wu]

/-- The kernel's gradient is the reference's. -/
theorem algebraic : Cert.algebraic_DhIdeal_DhRefIdeal := by
  intro m g m' g' _ hagree
  refine ⟨fun c => whole m c, (θ_run defs _ _).mono (fun _ h c => ?_) (run_blocks m g),
    (θ_run Cert.DhRefIdeal.defs _ _).mono (fun _ h c => ?_) (Cert.DhRefIdeal.Value.run m' g')⟩
  · exact ⟨(h c).1.trans (array_eq m c), (h c).2⟩
  · refine ⟨(h c).1.trans ?_, (h c).2⟩
    rw [(hagree c).1, (hagree c).2.1, (hagree c).2.2.1, (hagree c).2.2.2]
    funext i
    pointwise
    exact add_comm _ _

end Cert.Proof.Dh
end
-- ==== Proof.Down.lean ====
/-
  The SwiGLU's down projection with its residual, at the extended reals: the blocked product of the hidden
  activations with the down weights, the residual added after the last block.

  A block of the result is 1024 tokens by 1024 model columns; under it the kernel walks the four device blocks of
  1408 hidden columns, keeping the sum in the accumulator. The reference contracts the 5632 hidden columns at once.
-/
module

public import proofs.«01_k».proof.Defs
public import proofs.«01_k».proof.Proof.Gen.DownIdeal
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

namespace Cert.Proof.Down

open Cert.DownIdeal Cert.DownIdeal.Gen Cert.DownIdeal.Value
open Idealize.ShloMosaic Idealize.ShloMosaic.TcCoe Idealize.SL.Sem

variable (m : (ℓ : Loc nD τ sig) → Buf (Elt Ideal) ℓ)

/-- The hidden activations, the weights and the residual as arrays. -/
abbrev hid (c : Dev nD) : S8192x5632.Idx → EReal := m ((c.tc : Thread nD τ).loc main_arg0)
abbrev wts (c : Dev nD) : S4x1408x2048.Idx → EReal := m ((c.tc : Thread nD τ).loc main_arg1)
abbrev res (c : Dev nD) : S8192x2048.Idx → EReal := m ((c.tc : Thread nD τ).loc main_arg2)

/-- The block indices of the four windows at a point. -/
theorem idx : ∀ t : Fin cfg0.N, win0_0.index t = ![t.val / 8, t.val % 4] ∧ win0_1.index t = ![t.val % 4, 0, t.val / 4 % 2]
    ∧ win0_2.index t = ![t.val / 8, t.val / 4 % 2] ∧ win0_3.index t = ![t.val / 8, t.val / 4 % 2] :=
  (by decide +kernel : ∀ t : Fin grid0.N, _)

/-- The three input blocks of a point. -/
abbrev hidB (c : Dev nD) (t : Fin cfg0.N) : S1024x1408.Idx → EReal := iblk m c 0 t
abbrev wtsB (c : Dev nD) (t : Fin cfg0.N) : S1x1408x1024.Idx → EReal := iblk m c 1 t
abbrev resB (c : Dev nD) (t : Fin cfg0.N) : S1024x1024.Idx → EReal := iblk m c 2 t

/-- The product of a point's two blocks. -/
def part (c : Dev nD) (t : Fin cfg0.N) (i : S1024x1024.Idx) : EReal :=
  ∑ k : Fin 1408, hidB m c t (ix2 (i 0) k) * wtsB m c t (ix3 0 k (i 1))

/-- What the accumulator holds after a point. -/
abbrev acc (c : Dev nD) (n : ℕ) (h : n < cfg0.N) : S1024x1024.Idx → EReal := (outsAt0 m c n h).2

theorem acc_start (c : Dev nD) (t : Fin cfg0.N) (h : t.val % 4 = 0) (i : S1024x1024.Idx) :
    acc m c t.val t.isLt i = 0 + part m c t i := by
  unfold acc
  rw [outsAt0_A m c t h (by omega) (by omega)]
  dsimp only
  unfold sout0_A_0
  frame_out
  unfold_payloads
  pointwise
  rfl

theorem acc_step (c : Dev nD) (t : Fin cfg0.N) (h : ¬t.val % 4 = 0) (i : S1024x1024.Idx) :
    acc m c t.val t.isLt i
      = acc m c (t.val - 1) (Nat.lt_of_le_of_lt (Nat.sub_le _ _) t.isLt) i + part m c t i := by
  unfold acc
  by_cases h2 : t.val % 4 = 3
  · rw [outsAt0_C m c t h (by omega) h2]
    dsimp only
    unfold sout0_C_0
    frame_out
    unfold_payloads
    pointwise
    rw [read_unread_whole]
    rfl
  · rw [outsAt0_B m c t h (by omega) h2]
    dsimp only
    unfold sout0_B_0
    frame_out
    unfold_payloads
    pointwise
    rw [read_unread_whole]
    rfl

/-- After the last device block the output block is the residual's block added to the accumulator. -/
theorem out_eq (c : Dev nD) (t : Fin cfg0.N) (h : t.val % 4 = 3) (y : S1024x1024.Idx) :
    (outsAt0 m c t.val t.isLt).1 y = resB m c t y + acc m c t.val t.isLt y := by
  unfold acc
  rw [outsAt0_C m c t (by omega) (by omega) h]
  dsimp only
  unfold out0_C_3 sout0_C_0
  frame_out
  unfold_payloads
  pointwise
  exact add_comm _ _

/-- The projection: the residual plus the product over the hidden columns, device block by device block. -/
def whole (c : Dev nD) : S8192x2048.Idx → EReal := fun i =>
  res m c i + ∑ j : Fin 4, ∑ k : Fin 1408, hid m c (ix2 (i 0) ⟨j.val * 1408 + k.val, by omega⟩) * wts m c (ix3 j k (i 1))

theorem array_eq (c : Dev nD) : (dats m 0 c).arrAt 3 cfg0.N = whole m c := by
  refine (dats m 0 c).arrAt_eq_of_covers 3 _ (by decide +kernel) fun t hf y => ?_
  have h3 : t.val % 4 = 3 := (flush0_3 t).mp hf
  blk_simp
  rw [after0_3]
  refine (out_eq m c t h3 y).trans ?_
  rw [Pipeline.eq_sum_fin_of_reset_step_apply_of_flush (acc m c) 4 (fun _ => 0)
    (part m c) (acc_start m c) (acc_step m c) t h3 _]
  unfold whole part
  rw [zero_add]
  refine congrArg₂ (· + ·) (by blk_ext [iblk, V, idx, resB, res]) ?_
  refine Finset.sum_congr rfl fun s _ => Finset.sum_congr rfl fun k _ => ?_
  congr 1 <;> blk_ext [iblk, V, idx, hidB, wtsB, hid, wts]

/-- The reference's projection at an entry. -/
theorem ref_apply (h : Vec Ideal Cert.DownRefIdeal.S8192x5632 .bf16) (w : Vec Ideal Cert.DownRefIdeal.S4x1408x2048 .bf16)
    (i : S8192x2048.Idx) :
    Host.dotGeneral (F := Ideal) Cert.DownRefIdeal.dot_S8192x5632_S5632x2048_S8192x2048_1_0_0_1_n_n none
      (extf (F := Ideal) .f32 h Cert.DownRefIdeal.Gen.bitsLt_bf16_f32)
      (shapeCast _ (extf (F := Ideal) .f32 w Cert.DownRefIdeal.Gen.bitsLt_bf16_f32) Cert.DownRefIdeal.Gen.shapeCasts_S4x1408x2048_S5632x2048) i
      = ∑ r : Fin 5632, (h : S8192x5632.Idx → EReal) (ix2 (i 0) r)
          * (w : S4x1408x2048.Idx → EReal) (ix3 ⟨r.val / 1408, by omega⟩ ⟨r.val % 1408, by omega⟩ (i 1)) := by
  idx_vars i
  pointwise

/-- The kernel's projection is the reference's. -/
theorem algebraic : Cert.algebraic_DownIdeal_DownRefIdeal := by
  intro m g m' g' _ hagree
  refine ⟨fun c => whole m c, (θ_run defs _ _).mono (fun _ h c => ?_) (run_blocks m g),
    (θ_run Cert.DownRefIdeal.defs _ _).mono (fun _ h c => ?_) (Cert.DownRefIdeal.Value.run m' g')⟩
  · exact ⟨(h c).1.trans (array_eq m c), (h c).2⟩
  · refine ⟨(h c).1.trans ?_, (h c).2⟩
    rw [(hagree c).1, (hagree c).2.1, (hagree c).2.2]
    funext i
    refine congrArg (res m c i + ·) ((ref_apply _ _ i).trans ?_)
    rw [Fin.sum_univ_tiles 4 1408 rfl]
    refine Finset.sum_congr rfl fun j _ => Finset.sum_congr rfl fun k _ => ?_
    refine congrArg₂ (· * ·) ?_ ?_ <;> blk_ext [hid, wts]

end Cert.Proof.Down
end
-- ==== Proof.lean ====
/-
  The certificate: each program's frame, what each idealized kernel keeps of its original, and the equations between the
  kernels and their references, put together in the order of the claim.
-/
module

public import proofs.«01_k».proof.Defs
public import proofs.«01_k».proof.Proof.Run
public import proofs.«01_k».proof.Proof.RunI
public import proofs.«01_k».proof.Proof.Gen.AttnRefIdeal.Run
public import proofs.«01_k».proof.Proof.AttnValue
public import proofs.«01_k».proof.Proof.AdamVec
public import proofs.«01_k».proof.Proof.Gen.Up.Frame
public import proofs.«01_k».proof.Proof.Up
public import proofs.«01_k».proof.Proof.Gen.Act.Frame
public import proofs.«01_k».proof.Proof.Act
public import proofs.«01_k».proof.Proof.Gen.DwUp.Frame
public import proofs.«01_k».proof.Proof.DwUp
public import proofs.«01_k».proof.Proof.Gen.DwDown.Frame
public import proofs.«01_k».proof.Proof.DwDown
public import proofs.«01_k».proof.Proof.Gen.Dh.Frame
public import proofs.«01_k».proof.Proof.Dh
public import proofs.«01_k».proof.Proof.Gen.Down.Frame
public import proofs.«01_k».proof.Proof.Down
public import proofs.«01_k».proof.Proof.Gen.AdamVec
public import proofs.«01_k».proof.Proof.Gen.AdamVec.Frame
public import proofs.«01_k».proof.Proof.Gen.AdamVecIdeal
public import proofs.«01_k».proof.Proof.Gen.AdamVecIdeal.Frame
public import proofs.«01_k».proof.Proof.Gen.AdamVecIdeal.Value
public import proofs.«01_k».proof.Proof.Gen.AdamVecRefIdeal
public import proofs.«01_k».proof.Proof.Gen.AdamVecRefIdeal.Run
public import proofs.«01_k».proof.Proof.Gen.AdamLat
public import proofs.«01_k».proof.Proof.Gen.AdamLat.Frame
public import proofs.«01_k».proof.Proof.Gen.AdamLatIdeal
public import proofs.«01_k».proof.Proof.Gen.AdamLatIdeal.Frame
public import proofs.«01_k».proof.Proof.Gen.AdamLatIdeal.Value
public import proofs.«01_k».proof.Proof.Gen.AdamLatRefIdeal
public import proofs.«01_k».proof.Proof.Gen.AdamLatRefIdeal.Run
public import proofs.«01_k».proof.Proof.Gen.AdamPool
public import proofs.«01_k».proof.Proof.Gen.AdamPool.Frame
public import proofs.«01_k».proof.Proof.Gen.AdamPoolIdeal
public import proofs.«01_k».proof.Proof.Gen.AdamPoolIdeal.Frame
public import proofs.«01_k».proof.Proof.Gen.AdamPoolIdeal.Value
public import proofs.«01_k».proof.Proof.Gen.AdamPoolRefIdeal
public import proofs.«01_k».proof.Proof.Gen.AdamPoolRefIdeal.Run

@[expose] public section

noncomputable section

namespace Cert.Proof

open Idealize.ShloMosaic Idealize.SL.Sem

/-- The references' frames: they run to the end on the host, which has no semaphore. -/
theorem Attn.frame_ref : Cert.quiescent_AttnRefIdeal := fun m g _ =>
  (θ_run Cert.AttnRefIdeal.defs _ _).mono (fun r h => ⟨fun c => (h c).2.2.2, sem_eq_zero_of_no_sems (by decide) r.2⟩)
    (Cert.AttnRefIdeal.Value.run (F := Ideal) m g)

theorem Up.frame_ref : Cert.quiescent_UpRefIdeal := fun m g _ =>
  (θ_run Cert.UpRefIdeal.defs _ _).mono (fun r h => ⟨fun c => (h c).2.2.2, sem_eq_zero_of_no_sems (by decide) r.2⟩)
    (Cert.UpRefIdeal.Value.run (F := Ideal) m g)

theorem Act.frame_ref : Cert.quiescent_ActRefIdeal := fun m g _ =>
  (θ_run Cert.ActRefIdeal.defs _ _).mono (fun r h => ⟨fun c => (h c).2.2, sem_eq_zero_of_no_sems (by decide) r.2⟩)
    (Cert.ActRefIdeal.Value.run (F := Ideal) m g)

theorem DwUp.frame_ref : Cert.quiescent_DwUpRefIdeal := fun m g _ =>
  (θ_run Cert.DwUpRefIdeal.defs _ _).mono (fun r h => ⟨fun c => (h c).2, sem_eq_zero_of_no_sems (by decide) r.2⟩)
    (Cert.DwUpRefIdeal.Value.run (F := Ideal) m g)

theorem DwDown.frame_ref : Cert.quiescent_DwDownRefIdeal := fun m g _ =>
  (θ_run Cert.DwDownRefIdeal.defs _ _).mono (fun r h => ⟨fun c => (h c).2, sem_eq_zero_of_no_sems (by decide) r.2⟩)
    (Cert.DwDownRefIdeal.Value.run (F := Ideal) m g)

theorem Dh.frame_ref : Cert.quiescent_DhRefIdeal := fun m g _ =>
  (θ_run Cert.DhRefIdeal.defs _ _).mono (fun r h => ⟨fun c => (h c).2, sem_eq_zero_of_no_sems (by decide) r.2⟩)
    (Cert.DhRefIdeal.Value.run (F := Ideal) m g)

theorem Down.frame_ref : Cert.quiescent_DownRefIdeal := fun m g _ =>
  (θ_run Cert.DownRefIdeal.defs _ _).mono (fun r h => ⟨fun c => (h c).2, sem_eq_zero_of_no_sems (by decide) r.2⟩)
    (Cert.DownRefIdeal.Value.run (F := Ideal) m g)

theorem AdamVec.frame_ref : Cert.quiescent_AdamVecRefIdeal := fun m g _ =>
  (θ_run Cert.AdamVecRefIdeal.defs _ _).mono (fun r h => ⟨fun c => (h c).2.2.2, sem_eq_zero_of_no_sems (by decide) r.2⟩)
    (Cert.AdamVecRefIdeal.Value.run (F := Ideal) m g)

theorem AdamLat.frame_ref : Cert.quiescent_AdamLatRefIdeal := fun m g _ =>
  (θ_run Cert.AdamLatRefIdeal.defs _ _).mono (fun r h => ⟨fun c => (h c).2.2.2, sem_eq_zero_of_no_sems (by decide) r.2⟩)
    (Cert.AdamLatRefIdeal.Value.run (F := Ideal) m g)

theorem AdamPool.frame_ref : Cert.quiescent_AdamPoolRefIdeal := fun m g _ =>
  (θ_run Cert.AdamPoolRefIdeal.defs _ _).mono (fun r h => ⟨fun c => (h c).2.2.2, sem_eq_zero_of_no_sems (by decide) r.2⟩)
    (Cert.AdamPoolRefIdeal.Value.run (F := Ideal) m g)

/-- The two named constants of the attention's kernel: the mask's value stands for minus infinity, the other for log 2. -/
theorem Attn.preserves : Cert.preserves_Attn_AttnIdeal :=
  ⟨IdealRules.named_const.statement Cert.AttnIdeal.κ "mask" .f32 0xF149F2CA#32 ⊥ rfl,
    IdealRules.named_const.statement Cert.AttnIdeal.κ "ln_2" .f32 0x3F317218#32 ((Real.log 2 : ℝ) : EReal) rfl⟩

theorem claim : Cert.Claim :=
  ⟨Cert.Attn.Gen.facts,
    Cert.AttnIdeal.Gen.facts,
    Cert.AttnRefIdeal.Gen.facts,
    Cert.Up.Gen.facts,
    Cert.UpIdeal.Gen.facts,
    Cert.UpRefIdeal.Gen.facts,
    Cert.Act.Gen.facts,
    Cert.ActIdeal.Gen.facts,
    Cert.ActRefIdeal.Gen.facts,
    Cert.DwUp.Gen.facts,
    Cert.DwUpIdeal.Gen.facts,
    Cert.DwUpRefIdeal.Gen.facts,
    Cert.DwDown.Gen.facts,
    Cert.DwDownIdeal.Gen.facts,
    Cert.DwDownRefIdeal.Gen.facts,
    Cert.Dh.Gen.facts,
    Cert.DhIdeal.Gen.facts,
    Cert.DhRefIdeal.Gen.facts,
    Cert.Down.Gen.facts,
    Cert.DownIdeal.Gen.facts,
    Cert.DownRefIdeal.Gen.facts,
    Cert.AdamVec.Gen.facts,
    Cert.AdamVecIdeal.Gen.facts,
    Cert.AdamVecRefIdeal.Gen.facts,
    Cert.AdamLat.Gen.facts,
    Cert.AdamLatIdeal.Gen.facts,
    Cert.AdamLatRefIdeal.Gen.facts,
    Cert.AdamPool.Gen.facts,
    Cert.AdamPoolIdeal.Gen.facts,
    Cert.AdamPoolRefIdeal.Gen.facts,
    AttnIdeal.preFacts, Up.preFacts, Act.preFacts,
    fun m g _ => Attn.frame_run m g,
    fun m g _ => AttnIdeal.frame_run m g,
    fun m g _ => AttnIdeal.frame_run m g,
    Attn.frame_ref,
    fun m g _ => Attn.frame_ref m g trivial,
    fun m g _ => Cert.Up.Gen.frame m g,
    fun m g _ => Cert.UpIdeal.Gen.frame m g,
    fun m g _ => Cert.UpIdeal.Gen.frame m g,
    Up.frame_ref,
    fun m g _ => Up.frame_ref m g trivial,
    fun m g _ => Cert.Act.Gen.frame m g,
    fun m g _ => Cert.ActIdeal.Gen.frame m g,
    fun m g _ => Cert.ActIdeal.Gen.frame m g,
    Act.frame_ref,
    fun m g _ => Act.frame_ref m g trivial,
    fun m g _ => Cert.DwUp.Gen.frame m g,
    fun m g _ => Cert.DwUpIdeal.Gen.frame m g,
    DwUp.frame_ref,
    fun m g _ => Cert.DwDown.Gen.frame m g,
    fun m g _ => Cert.DwDownIdeal.Gen.frame m g,
    DwDown.frame_ref,
    fun m g _ => Cert.Dh.Gen.frame m g,
    fun m g _ => Cert.DhIdeal.Gen.frame m g,
    Dh.frame_ref,
    fun m g _ => Cert.Down.Gen.frame m g,
    fun m g _ => Cert.DownIdeal.Gen.frame m g,
    Down.frame_ref,
    fun m g _ => Cert.AdamVec.Gen.frame m g,
    fun m g _ => Cert.AdamVecIdeal.Gen.frame m g,
    AdamVec.frame_ref,
    fun m g _ => Cert.AdamLat.Gen.frame m g,
    fun m g _ => Cert.AdamLatIdeal.Gen.frame m g,
    AdamLat.frame_ref,
    fun m g _ => Cert.AdamPool.Gen.frame m g,
    fun m g _ => Cert.AdamPoolIdeal.Gen.frame m g,
    AdamPool.frame_ref,
    Attn.preserves,
    AttnIdeal.algebraic,
    trivial,
    Up.algebraic,
    trivial,
    Act.algebraic,
    trivial,
    DwUp.algebraic,
    trivial,
    DwDown.algebraic,
    trivial,
    Dh.algebraic,
    trivial,
    Down.algebraic,
    trivial,
    AdamVec.algebraic,
    trivial,
    AdamLat.algebraic,
    trivial,
    AdamPool.algebraic⟩

end Cert.Proof

end
